-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S512x4096 : Shape := ⟨2, ![512, 4096]⟩
abbrev S512x1024 : Shape := ⟨2, ![512, 1024]⟩
abbrev S4 : Shape := ⟨1, ![4]⟩
abbrev S32 : Shape := ⟨1, ![32]⟩
abbrev S1 : Shape := ⟨1, ![1]⟩
abbrev S_ : Shape := ⟨0, ![]⟩
abbrev S1024x2048 : Shape := ⟨2, ![1024, 2048]⟩
abbrev S256x4096 : Shape := ⟨2, ![256, 4096]⟩
abbrev S256x2048 : Shape := ⟨2, ![256, 2048]⟩
abbrev S256x1024 : Shape := ⟨2, ![256, 1024]⟩
abbrev S16x1024 : Shape := ⟨2, ![16, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x1024, .f32⟩
  | .local _ .vmem, ⟨1, _⟩ => ⟨S512x4096, .f32⟩
  | .local _ .vmem, ⟨2, _⟩ => ⟨S1024x4096, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 197 → Bool
  | ⟨i, _⟩ => dmaSemScopedAt i

abbrev sig : RefSig :=
  (ofTc nBuf bufTy 1 197 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let c0_i32_13 : BitVec 32 := 0#32
  ![v10.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let c256_i32 : BitVec 32 := 256#32
  let v14 : BitVec 32 := Scalar.addi v10 c256_i32
  let c0_i32_20 : BitVec 32 := 0#32
  ![v14.toNat, 0]
def k0_dev1 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v55 : BitVec 32 := Scalar.muli v2 c16_i32_37
  let v56 : BitVec 32 := Scalar.addi c0_i32_38 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_21 : BitVec 32 := 1#32
  let v32 : BitVec 32 := Scalar.addi v5 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c4_i32_39 : BitVec 32 := 4#32
  let v57 : BitVec 32 := Scalar.muli v42 c4_i32_39
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v59 : BitVec 32 := Scalar.muli v8 c1_i32_40
  let v60 : BitVec 32 := Scalar.addi v58 v59
  v60.toNat
def k0_dev2 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v61 : BitVec 32 := Scalar.muli v2 c16_i32_42
  let v62 : BitVec 32 := Scalar.addi c0_i32_43 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v43 : BitVec 32 := Scalar.addi v5 c4_i32_28
  let c1_i32_29 : BitVec 32 := 1#32
  let v44 : BitVec 32 := Scalar.subi v43 c1_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c4_i32_44 : BitVec 32 := 4#32
  let v63 : BitVec 32 := Scalar.muli v54 c4_i32_44
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v65 : BitVec 32 := Scalar.muli v8 c1_i32_45
  let v66 : BitVec 32 := Scalar.addi v64 v65
  v66.toNat
def k0_dev3 (d0 : Dev nD) : Nat :=
  let c0_i32_48 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_47 : BitVec 32 := 16#32
  let v67 : BitVec 32 := Scalar.muli v9 c16_i32_47
  let v68 : BitVec 32 := Scalar.addi c0_i32_48 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v69 : BitVec 32 := Scalar.muli v5 c4_i32_49
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v71 : BitVec 32 := Scalar.muli v8 c1_i32_50
  let v72 : BitVec 32 := Scalar.addi v70 v71
  v72.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_79 : BitVec 32 := 0#32
  let v99 : BitVec 1 := Scalar.cmpi .eq v5 c0_i32_79
  let v100 : BitVec 32 := Scalar.extui v99
  let c0_i32_80 : BitVec 32 := 0#32
  let v101 : BitVec 1 := Scalar.cmpi .ne v100 c0_i32_80
  v101

def k0_dev4 (d0 : Dev nD) : Nat :=
  let c0_i32_678 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_677 : BitVec 32 := 16#32
  let v855 : BitVec 32 := Scalar.muli v2 c16_i32_677
  let v856 : BitVec 32 := Scalar.addi c0_i32_678 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_679 : BitVec 32 := 4#32
  let v857 : BitVec 32 := Scalar.muli v12 c4_i32_679
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v859 : BitVec 32 := Scalar.muli v8 c1_i32_680
  let v860 : BitVec 32 := Scalar.addi v858 v859
  v860.toNat
def k0_dev5 (d0 : Dev nD) : Nat :=
  let c0_i32_691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_690 : BitVec 32 := 16#32
  let v871 : BitVec 32 := Scalar.muli v2 c16_i32_690
  let v872 : BitVec 32 := Scalar.addi c0_i32_691 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_692 : BitVec 32 := 4#32
  let v873 : BitVec 32 := Scalar.muli v12 c4_i32_692
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v875 : BitVec 32 := Scalar.muli v8 c1_i32_693
  let v876 : BitVec 32 := Scalar.addi v874 v875
  v876.toNat
def k0_dev6 (d0 : Dev nD) : Nat :=
  let c0_i32_704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_703 : BitVec 32 := 16#32
  let v887 : BitVec 32 := Scalar.muli v2 c16_i32_703
  let v888 : BitVec 32 := Scalar.addi c0_i32_704 v887
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_705 : BitVec 32 := 4#32
  let v889 : BitVec 32 := Scalar.muli v12 c4_i32_705
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v891 : BitVec 32 := Scalar.muli v8 c1_i32_706
  let v892 : BitVec 32 := Scalar.addi v890 v891
  v892.toNat
def k0_dev7 (d0 : Dev nD) : Nat :=
  let c0_i32_717 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_716 : BitVec 32 := 16#32
  let v903 : BitVec 32 := Scalar.muli v2 c16_i32_716
  let v904 : BitVec 32 := Scalar.addi c0_i32_717 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_718 : BitVec 32 := 4#32
  let v905 : BitVec 32 := Scalar.muli v12 c4_i32_718
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v907 : BitVec 32 := Scalar.muli v8 c1_i32_719
  let v908 : BitVec 32 := Scalar.addi v906 v907
  v908.toNat
def k0_dev8 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_729 : BitVec 32 := 16#32
  let v919 : BitVec 32 := Scalar.muli v2 c16_i32_729
  let v920 : BitVec 32 := Scalar.addi c0_i32_730 v919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_731 : BitVec 32 := 4#32
  let v921 : BitVec 32 := Scalar.muli v12 c4_i32_731
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v923 : BitVec 32 := Scalar.muli v8 c1_i32_732
  let v924 : BitVec 32 := Scalar.addi v922 v923
  v924.toNat
def k0_dev9 (d0 : Dev nD) : Nat :=
  let c0_i32_743 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_742 : BitVec 32 := 16#32
  let v935 : BitVec 32 := Scalar.muli v2 c16_i32_742
  let v936 : BitVec 32 := Scalar.addi c0_i32_743 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_744 : BitVec 32 := 4#32
  let v937 : BitVec 32 := Scalar.muli v12 c4_i32_744
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v939 : BitVec 32 := Scalar.muli v8 c1_i32_745
  let v940 : BitVec 32 := Scalar.addi v938 v939
  v940.toNat
def k0_dev10 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_755 : BitVec 32 := 16#32
  let v951 : BitVec 32 := Scalar.muli v2 c16_i32_755
  let v952 : BitVec 32 := Scalar.addi c0_i32_756 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_757 : BitVec 32 := 4#32
  let v953 : BitVec 32 := Scalar.muli v12 c4_i32_757
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v955 : BitVec 32 := Scalar.muli v8 c1_i32_758
  let v956 : BitVec 32 := Scalar.addi v954 v955
  v956.toNat
def k0_dev11 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_768 : BitVec 32 := 16#32
  let v967 : BitVec 32 := Scalar.muli v2 c16_i32_768
  let v968 : BitVec 32 := Scalar.addi c0_i32_769 v967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_770 : BitVec 32 := 4#32
  let v969 : BitVec 32 := Scalar.muli v12 c4_i32_770
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v971 : BitVec 32 := Scalar.muli v8 c1_i32_771
  let v972 : BitVec 32 := Scalar.addi v970 v971
  v972.toNat
def k0_dev12 (d0 : Dev nD) : Nat :=
  let c0_i32_782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_781 : BitVec 32 := 16#32
  let v983 : BitVec 32 := Scalar.muli v2 c16_i32_781
  let v984 : BitVec 32 := Scalar.addi c0_i32_782 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_783 : BitVec 32 := 4#32
  let v985 : BitVec 32 := Scalar.muli v12 c4_i32_783
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v987 : BitVec 32 := Scalar.muli v8 c1_i32_784
  let v988 : BitVec 32 := Scalar.addi v986 v987
  v988.toNat
def k0_dev13 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_794 : BitVec 32 := 16#32
  let v999 : BitVec 32 := Scalar.muli v2 c16_i32_794
  let v1000 : BitVec 32 := Scalar.addi c0_i32_795 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_796 : BitVec 32 := 4#32
  let v1001 : BitVec 32 := Scalar.muli v12 c4_i32_796
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v1003 : BitVec 32 := Scalar.muli v8 c1_i32_797
  let v1004 : BitVec 32 := Scalar.addi v1002 v1003
  v1004.toNat
def k0_dev14 (d0 : Dev nD) : Nat :=
  let c0_i32_808 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_807 : BitVec 32 := 16#32
  let v1015 : BitVec 32 := Scalar.muli v2 c16_i32_807
  let v1016 : BitVec 32 := Scalar.addi c0_i32_808 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_809 : BitVec 32 := 4#32
  let v1017 : BitVec 32 := Scalar.muli v12 c4_i32_809
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1019 : BitVec 32 := Scalar.muli v8 c1_i32_810
  let v1020 : BitVec 32 := Scalar.addi v1018 v1019
  v1020.toNat
def k0_dev15 (d0 : Dev nD) : Nat :=
  let c0_i32_821 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_820 : BitVec 32 := 16#32
  let v1031 : BitVec 32 := Scalar.muli v2 c16_i32_820
  let v1032 : BitVec 32 := Scalar.addi c0_i32_821 v1031
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_822 : BitVec 32 := 4#32
  let v1033 : BitVec 32 := Scalar.muli v12 c4_i32_822
  let v1034 : BitVec 32 := Scalar.addi v1032 v1033
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_823 : BitVec 32 := 1#32
  let v1035 : BitVec 32 := Scalar.muli v8 c1_i32_823
  let v1036 : BitVec 32 := Scalar.addi v1034 v1035
  v1036.toNat
def k0_dev16 (d0 : Dev nD) : Nat :=
  let c0_i32_834 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_833 : BitVec 32 := 16#32
  let v1047 : BitVec 32 := Scalar.muli v2 c16_i32_833
  let v1048 : BitVec 32 := Scalar.addi c0_i32_834 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_835 : BitVec 32 := 4#32
  let v1049 : BitVec 32 := Scalar.muli v12 c4_i32_835
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v1051 : BitVec 32 := Scalar.muli v8 c1_i32_836
  let v1052 : BitVec 32 := Scalar.addi v1050 v1051
  v1052.toNat
def k0_dev17 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_846 : BitVec 32 := 16#32
  let v1063 : BitVec 32 := Scalar.muli v2 c16_i32_846
  let v1064 : BitVec 32 := Scalar.addi c0_i32_847 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_848 : BitVec 32 := 4#32
  let v1065 : BitVec 32 := Scalar.muli v12 c4_i32_848
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v1067 : BitVec 32 := Scalar.muli v8 c1_i32_849
  let v1068 : BitVec 32 := Scalar.addi v1066 v1067
  v1068.toNat
def k0_dev18 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v1079 : BitVec 32 := Scalar.muli v2 c16_i32_859
  let v1080 : BitVec 32 := Scalar.addi c0_i32_860 v1079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_861 : BitVec 32 := 4#32
  let v1081 : BitVec 32 := Scalar.muli v12 c4_i32_861
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v1083 : BitVec 32 := Scalar.muli v8 c1_i32_862
  let v1084 : BitVec 32 := Scalar.addi v1082 v1083
  v1084.toNat
def k0_dev19 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_872 : BitVec 32 := 16#32
  let v1095 : BitVec 32 := Scalar.muli v2 c16_i32_872
  let v1096 : BitVec 32 := Scalar.addi c0_i32_873 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_874 : BitVec 32 := 4#32
  let v1097 : BitVec 32 := Scalar.muli v12 c4_i32_874
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_875 : BitVec 32 := 1#32
  let v1099 : BitVec 32 := Scalar.muli v8 c1_i32_875
  let v1100 : BitVec 32 := Scalar.addi v1098 v1099
  v1100.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_81 : BitVec 32 := 1#32
  let v102 : BitVec 1 := Scalar.cmpi .eq v5 c1_i32_81
  let v103 : BitVec 32 := Scalar.extui v102
  let c0_i32_82 : BitVec 32 := 0#32
  let v104 : BitVec 1 := Scalar.cmpi .ne v103 c0_i32_82
  v104

def k0_dev20 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v867 : BitVec 32 := Scalar.muli v2 c16_i32_689
  let v868 : BitVec 32 := Scalar.addi c0_i32_690 v867
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_691 : BitVec 32 := 4#32
  let v869 : BitVec 32 := Scalar.muli v12 c4_i32_691
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v871 : BitVec 32 := Scalar.muli v8 c1_i32_692
  let v872 : BitVec 32 := Scalar.addi v870 v871
  v872.toNat
def k0_dev21 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v895 : BitVec 32 := Scalar.muli v2 c16_i32_714
  let v896 : BitVec 32 := Scalar.addi c0_i32_715 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_716 : BitVec 32 := 4#32
  let v897 : BitVec 32 := Scalar.muli v12 c4_i32_716
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v899 : BitVec 32 := Scalar.muli v8 c1_i32_717
  let v900 : BitVec 32 := Scalar.addi v898 v899
  v900.toNat
def k0_dev22 (d0 : Dev nD) : Nat :=
  let c0_i32_740 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_739 : BitVec 32 := 16#32
  let v923 : BitVec 32 := Scalar.muli v2 c16_i32_739
  let v924 : BitVec 32 := Scalar.addi c0_i32_740 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_741 : BitVec 32 := 4#32
  let v925 : BitVec 32 := Scalar.muli v12 c4_i32_741
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_742 : BitVec 32 := 1#32
  let v927 : BitVec 32 := Scalar.muli v8 c1_i32_742
  let v928 : BitVec 32 := Scalar.addi v926 v927
  v928.toNat
def k0_dev23 (d0 : Dev nD) : Nat :=
  let c0_i32_765 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_764 : BitVec 32 := 16#32
  let v951 : BitVec 32 := Scalar.muli v2 c16_i32_764
  let v952 : BitVec 32 := Scalar.addi c0_i32_765 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_766 : BitVec 32 := 4#32
  let v953 : BitVec 32 := Scalar.muli v12 c4_i32_766
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v955 : BitVec 32 := Scalar.muli v8 c1_i32_767
  let v956 : BitVec 32 := Scalar.addi v954 v955
  v956.toNat
def k0_dev24 (d0 : Dev nD) : Nat :=
  let c0_i32_790 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_789 : BitVec 32 := 16#32
  let v979 : BitVec 32 := Scalar.muli v2 c16_i32_789
  let v980 : BitVec 32 := Scalar.addi c0_i32_790 v979
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_791 : BitVec 32 := 4#32
  let v981 : BitVec 32 := Scalar.muli v12 c4_i32_791
  let v982 : BitVec 32 := Scalar.addi v980 v981
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v983 : BitVec 32 := Scalar.muli v8 c1_i32_792
  let v984 : BitVec 32 := Scalar.addi v982 v983
  v984.toNat
def k0_dev25 (d0 : Dev nD) : Nat :=
  let c0_i32_815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_814 : BitVec 32 := 16#32
  let v1007 : BitVec 32 := Scalar.muli v2 c16_i32_814
  let v1008 : BitVec 32 := Scalar.addi c0_i32_815 v1007
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_816 : BitVec 32 := 4#32
  let v1009 : BitVec 32 := Scalar.muli v12 c4_i32_816
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_817 : BitVec 32 := 1#32
  let v1011 : BitVec 32 := Scalar.muli v8 c1_i32_817
  let v1012 : BitVec 32 := Scalar.addi v1010 v1011
  v1012.toNat
def k0_dev26 (d0 : Dev nD) : Nat :=
  let c0_i32_841 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_840 : BitVec 32 := 16#32
  let v1035 : BitVec 32 := Scalar.muli v2 c16_i32_840
  let v1036 : BitVec 32 := Scalar.addi c0_i32_841 v1035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_842 : BitVec 32 := 4#32
  let v1037 : BitVec 32 := Scalar.muli v13 c4_i32_842
  let v1038 : BitVec 32 := Scalar.addi v1036 v1037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_843 : BitVec 32 := 1#32
  let v1039 : BitVec 32 := Scalar.muli v8 c1_i32_843
  let v1040 : BitVec 32 := Scalar.addi v1038 v1039
  v1040.toNat
def k0_off3 (d0 : Dev nD) (c0_i32_848 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v1047 : BitVec 32 := Scalar.addi v10 c0_i32_848
  let v1051 : Index := Scalar.indexCast v1047
  let c0_853 : Index := 0#32
  ![v1051.toNat, 0]
def k0_off4 (d0 : Dev nD) (c0_i32_848 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v1047 : BitVec 32 := Scalar.addi v10 c0_i32_848
  let c0_i32_860 : BitVec 32 := 0#32
  ![v1047.toNat, 0]
def k0_dev27 (d0 : Dev nD) : Nat :=
  let c0_i32_857 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_856 : BitVec 32 := 16#32
  let v1053 : BitVec 32 := Scalar.muli v9 c16_i32_856
  let v1054 : BitVec 32 := Scalar.addi c0_i32_857 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_858 : BitVec 32 := 4#32
  let v1055 : BitVec 32 := Scalar.muli v5 c4_i32_858
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_859 : BitVec 32 := 1#32
  let v1057 : BitVec 32 := Scalar.muli v8 c1_i32_859
  let v1058 : BitVec 32 := Scalar.addi v1056 v1057
  v1058.toNat
def k0_dev28 (d0 : Dev nD) : Nat :=
  let c0_i32_880 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_879 : BitVec 32 := 16#32
  let v1081 : BitVec 32 := Scalar.muli v2 c16_i32_879
  let v1082 : BitVec 32 := Scalar.addi c0_i32_880 v1081
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_881 : BitVec 32 := 4#32
  let v1083 : BitVec 32 := Scalar.muli v12 c4_i32_881
  let v1084 : BitVec 32 := Scalar.addi v1082 v1083
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v1085 : BitVec 32 := Scalar.muli v8 c1_i32_882
  let v1086 : BitVec 32 := Scalar.addi v1084 v1085
  v1086.toNat
def k0_dev29 (d0 : Dev nD) : Nat :=
  let c0_i32_906 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_905 : BitVec 32 := 16#32
  let v1109 : BitVec 32 := Scalar.muli v2 c16_i32_905
  let v1110 : BitVec 32 := Scalar.addi c0_i32_906 v1109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_907 : BitVec 32 := 4#32
  let v1111 : BitVec 32 := Scalar.muli v13 c4_i32_907
  let v1112 : BitVec 32 := Scalar.addi v1110 v1111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v1113 : BitVec 32 := Scalar.muli v8 c1_i32_908
  let v1114 : BitVec 32 := Scalar.addi v1112 v1113
  v1114.toNat
def k0_dev30 (d0 : Dev nD) : Nat :=
  let c0_i32_922 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_921 : BitVec 32 := 16#32
  let v1127 : BitVec 32 := Scalar.muli v9 c16_i32_921
  let v1128 : BitVec 32 := Scalar.addi c0_i32_922 v1127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_923 : BitVec 32 := 4#32
  let v1129 : BitVec 32 := Scalar.muli v5 c4_i32_923
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_924 : BitVec 32 := 1#32
  let v1131 : BitVec 32 := Scalar.muli v8 c1_i32_924
  let v1132 : BitVec 32 := Scalar.addi v1130 v1131
  v1132.toNat
def k0_dev31 (d0 : Dev nD) : Nat :=
  let c0_i32_945 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_944 : BitVec 32 := 16#32
  let v1155 : BitVec 32 := Scalar.muli v2 c16_i32_944
  let v1156 : BitVec 32 := Scalar.addi c0_i32_945 v1155
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_946 : BitVec 32 := 4#32
  let v1157 : BitVec 32 := Scalar.muli v12 c4_i32_946
  let v1158 : BitVec 32 := Scalar.addi v1156 v1157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_947 : BitVec 32 := 1#32
  let v1159 : BitVec 32 := Scalar.muli v8 c1_i32_947
  let v1160 : BitVec 32 := Scalar.addi v1158 v1159
  v1160.toNat
def k0_dev32 (d0 : Dev nD) : Nat :=
  let c0_i32_971 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_970 : BitVec 32 := 16#32
  let v1183 : BitVec 32 := Scalar.muli v2 c16_i32_970
  let v1184 : BitVec 32 := Scalar.addi c0_i32_971 v1183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_972 : BitVec 32 := 4#32
  let v1185 : BitVec 32 := Scalar.muli v13 c4_i32_972
  let v1186 : BitVec 32 := Scalar.addi v1184 v1185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1187 : BitVec 32 := Scalar.muli v8 c1_i32_973
  let v1188 : BitVec 32 := Scalar.addi v1186 v1187
  v1188.toNat
def k0_dev33 (d0 : Dev nD) : Nat :=
  let c0_i32_987 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_986 : BitVec 32 := 16#32
  let v1201 : BitVec 32 := Scalar.muli v9 c16_i32_986
  let v1202 : BitVec 32 := Scalar.addi c0_i32_987 v1201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_988 : BitVec 32 := 4#32
  let v1203 : BitVec 32 := Scalar.muli v5 c4_i32_988
  let v1204 : BitVec 32 := Scalar.addi v1202 v1203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1205 : BitVec 32 := Scalar.muli v8 c1_i32_989
  let v1206 : BitVec 32 := Scalar.addi v1204 v1205
  v1206.toNat
def k0_dev34 (d0 : Dev nD) : Nat :=
  let c0_i32_1010 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1009 : BitVec 32 := 16#32
  let v1229 : BitVec 32 := Scalar.muli v2 c16_i32_1009
  let v1230 : BitVec 32 := Scalar.addi c0_i32_1010 v1229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1011 : BitVec 32 := 4#32
  let v1231 : BitVec 32 := Scalar.muli v12 c4_i32_1011
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1233 : BitVec 32 := Scalar.muli v8 c1_i32_1012
  let v1234 : BitVec 32 := Scalar.addi v1232 v1233
  v1234.toNat
def k0_dev35 (d0 : Dev nD) : Nat :=
  let c0_i32_1036 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1035 : BitVec 32 := 16#32
  let v1257 : BitVec 32 := Scalar.muli v2 c16_i32_1035
  let v1258 : BitVec 32 := Scalar.addi c0_i32_1036 v1257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1037 : BitVec 32 := 4#32
  let v1259 : BitVec 32 := Scalar.muli v13 c4_i32_1037
  let v1260 : BitVec 32 := Scalar.addi v1258 v1259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1038 : BitVec 32 := 1#32
  let v1261 : BitVec 32 := Scalar.muli v8 c1_i32_1038
  let v1262 : BitVec 32 := Scalar.addi v1260 v1261
  v1262.toNat
def k0_dev36 (d0 : Dev nD) : Nat :=
  let c0_i32_1052 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1051 : BitVec 32 := 16#32
  let v1275 : BitVec 32 := Scalar.muli v9 c16_i32_1051
  let v1276 : BitVec 32 := Scalar.addi c0_i32_1052 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1053 : BitVec 32 := 4#32
  let v1277 : BitVec 32 := Scalar.muli v5 c4_i32_1053
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1054 : BitVec 32 := 1#32
  let v1279 : BitVec 32 := Scalar.muli v8 c1_i32_1054
  let v1280 : BitVec 32 := Scalar.addi v1278 v1279
  v1280.toNat
def k0_dev37 (d0 : Dev nD) : Nat :=
  let c0_i32_1075 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1074 : BitVec 32 := 16#32
  let v1303 : BitVec 32 := Scalar.muli v2 c16_i32_1074
  let v1304 : BitVec 32 := Scalar.addi c0_i32_1075 v1303
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1076 : BitVec 32 := 4#32
  let v1305 : BitVec 32 := Scalar.muli v12 c4_i32_1076
  let v1306 : BitVec 32 := Scalar.addi v1304 v1305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1077 : BitVec 32 := 1#32
  let v1307 : BitVec 32 := Scalar.muli v8 c1_i32_1077
  let v1308 : BitVec 32 := Scalar.addi v1306 v1307
  v1308.toNat
def k0_dev38 (d0 : Dev nD) : Nat :=
  let c0_i32_1101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1100 : BitVec 32 := 16#32
  let v1331 : BitVec 32 := Scalar.muli v2 c16_i32_1100
  let v1332 : BitVec 32 := Scalar.addi c0_i32_1101 v1331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1102 : BitVec 32 := 4#32
  let v1333 : BitVec 32 := Scalar.muli v13 c4_i32_1102
  let v1334 : BitVec 32 := Scalar.addi v1332 v1333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1103 : BitVec 32 := 1#32
  let v1335 : BitVec 32 := Scalar.muli v8 c1_i32_1103
  let v1336 : BitVec 32 := Scalar.addi v1334 v1335
  v1336.toNat
def k0_dev39 (d0 : Dev nD) : Nat :=
  let c0_i32_1117 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1116 : BitVec 32 := 16#32
  let v1349 : BitVec 32 := Scalar.muli v9 c16_i32_1116
  let v1350 : BitVec 32 := Scalar.addi c0_i32_1117 v1349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1118 : BitVec 32 := 4#32
  let v1351 : BitVec 32 := Scalar.muli v5 c4_i32_1118
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1119 : BitVec 32 := 1#32
  let v1353 : BitVec 32 := Scalar.muli v8 c1_i32_1119
  let v1354 : BitVec 32 := Scalar.addi v1352 v1353
  v1354.toNat
def k0_dev40 (d0 : Dev nD) : Nat :=
  let c0_i32_1140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1139 : BitVec 32 := 16#32
  let v1377 : BitVec 32 := Scalar.muli v2 c16_i32_1139
  let v1378 : BitVec 32 := Scalar.addi c0_i32_1140 v1377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1141 : BitVec 32 := 4#32
  let v1379 : BitVec 32 := Scalar.muli v12 c4_i32_1141
  let v1380 : BitVec 32 := Scalar.addi v1378 v1379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1142 : BitVec 32 := 1#32
  let v1381 : BitVec 32 := Scalar.muli v8 c1_i32_1142
  let v1382 : BitVec 32 := Scalar.addi v1380 v1381
  v1382.toNat
def k0_dev41 (d0 : Dev nD) : Nat :=
  let c0_i32_1166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1165 : BitVec 32 := 16#32
  let v1405 : BitVec 32 := Scalar.muli v2 c16_i32_1165
  let v1406 : BitVec 32 := Scalar.addi c0_i32_1166 v1405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1167 : BitVec 32 := 4#32
  let v1407 : BitVec 32 := Scalar.muli v13 c4_i32_1167
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1168 : BitVec 32 := 1#32
  let v1409 : BitVec 32 := Scalar.muli v8 c1_i32_1168
  let v1410 : BitVec 32 := Scalar.addi v1408 v1409
  v1410.toNat
def k0_dev42 (d0 : Dev nD) : Nat :=
  let c0_i32_1182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1181 : BitVec 32 := 16#32
  let v1423 : BitVec 32 := Scalar.muli v9 c16_i32_1181
  let v1424 : BitVec 32 := Scalar.addi c0_i32_1182 v1423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1183 : BitVec 32 := 4#32
  let v1425 : BitVec 32 := Scalar.muli v5 c4_i32_1183
  let v1426 : BitVec 32 := Scalar.addi v1424 v1425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1427 : BitVec 32 := Scalar.muli v8 c1_i32_1184
  let v1428 : BitVec 32 := Scalar.addi v1426 v1427
  v1428.toNat
def k0_dev43 (d0 : Dev nD) : Nat :=
  let c0_i32_1205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1204 : BitVec 32 := 16#32
  let v1451 : BitVec 32 := Scalar.muli v2 c16_i32_1204
  let v1452 : BitVec 32 := Scalar.addi c0_i32_1205 v1451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1206 : BitVec 32 := 4#32
  let v1453 : BitVec 32 := Scalar.muli v12 c4_i32_1206
  let v1454 : BitVec 32 := Scalar.addi v1452 v1453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1455 : BitVec 32 := Scalar.muli v8 c1_i32_1207
  let v1456 : BitVec 32 := Scalar.addi v1454 v1455
  v1456.toNat
def k0_dev44 (d0 : Dev nD) : Nat :=
  let c0_i32_1231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1230 : BitVec 32 := 16#32
  let v1479 : BitVec 32 := Scalar.muli v2 c16_i32_1230
  let v1480 : BitVec 32 := Scalar.addi c0_i32_1231 v1479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1232 : BitVec 32 := 4#32
  let v1481 : BitVec 32 := Scalar.muli v13 c4_i32_1232
  let v1482 : BitVec 32 := Scalar.addi v1480 v1481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1483 : BitVec 32 := Scalar.muli v8 c1_i32_1233
  let v1484 : BitVec 32 := Scalar.addi v1482 v1483
  v1484.toNat
def k0_dev45 (d0 : Dev nD) : Nat :=
  let c0_i32_1247 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1246 : BitVec 32 := 16#32
  let v1497 : BitVec 32 := Scalar.muli v9 c16_i32_1246
  let v1498 : BitVec 32 := Scalar.addi c0_i32_1247 v1497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1248 : BitVec 32 := 4#32
  let v1499 : BitVec 32 := Scalar.muli v5 c4_i32_1248
  let v1500 : BitVec 32 := Scalar.addi v1498 v1499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1249 : BitVec 32 := 1#32
  let v1501 : BitVec 32 := Scalar.muli v8 c1_i32_1249
  let v1502 : BitVec 32 := Scalar.addi v1500 v1501
  v1502.toNat
def k0_dev46 (d0 : Dev nD) : Nat :=
  let c0_i32_1270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1269 : BitVec 32 := 16#32
  let v1525 : BitVec 32 := Scalar.muli v2 c16_i32_1269
  let v1526 : BitVec 32 := Scalar.addi c0_i32_1270 v1525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1271 : BitVec 32 := 4#32
  let v1527 : BitVec 32 := Scalar.muli v12 c4_i32_1271
  let v1528 : BitVec 32 := Scalar.addi v1526 v1527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1529 : BitVec 32 := Scalar.muli v8 c1_i32_1272
  let v1530 : BitVec 32 := Scalar.addi v1528 v1529
  v1530.toNat
def k0_dev47 (d0 : Dev nD) : Nat :=
  let c0_i32_1296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1295 : BitVec 32 := 16#32
  let v1553 : BitVec 32 := Scalar.muli v2 c16_i32_1295
  let v1554 : BitVec 32 := Scalar.addi c0_i32_1296 v1553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1297 : BitVec 32 := 4#32
  let v1555 : BitVec 32 := Scalar.muli v13 c4_i32_1297
  let v1556 : BitVec 32 := Scalar.addi v1554 v1555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1298 : BitVec 32 := 1#32
  let v1557 : BitVec 32 := Scalar.muli v8 c1_i32_1298
  let v1558 : BitVec 32 := Scalar.addi v1556 v1557
  v1558.toNat
def k0_dev48 (d0 : Dev nD) : Nat :=
  let c0_i32_1312 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1311 : BitVec 32 := 16#32
  let v1571 : BitVec 32 := Scalar.muli v9 c16_i32_1311
  let v1572 : BitVec 32 := Scalar.addi c0_i32_1312 v1571
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1573 : BitVec 32 := Scalar.muli v5 c4_i32_1313
  let v1574 : BitVec 32 := Scalar.addi v1572 v1573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1575 : BitVec 32 := Scalar.muli v8 c1_i32_1314
  let v1576 : BitVec 32 := Scalar.addi v1574 v1575
  v1576.toNat
def k0_dev49 (d0 : Dev nD) : Nat :=
  let c0_i32_1335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1334 : BitVec 32 := 16#32
  let v1599 : BitVec 32 := Scalar.muli v2 c16_i32_1334
  let v1600 : BitVec 32 := Scalar.addi c0_i32_1335 v1599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1336 : BitVec 32 := 4#32
  let v1601 : BitVec 32 := Scalar.muli v12 c4_i32_1336
  let v1602 : BitVec 32 := Scalar.addi v1600 v1601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1337 : BitVec 32 := 1#32
  let v1603 : BitVec 32 := Scalar.muli v8 c1_i32_1337
  let v1604 : BitVec 32 := Scalar.addi v1602 v1603
  v1604.toNat
def k0_dev50 (d0 : Dev nD) : Nat :=
  let c0_i32_1361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1360 : BitVec 32 := 16#32
  let v1627 : BitVec 32 := Scalar.muli v2 c16_i32_1360
  let v1628 : BitVec 32 := Scalar.addi c0_i32_1361 v1627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1362 : BitVec 32 := 4#32
  let v1629 : BitVec 32 := Scalar.muli v13 c4_i32_1362
  let v1630 : BitVec 32 := Scalar.addi v1628 v1629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1363 : BitVec 32 := 1#32
  let v1631 : BitVec 32 := Scalar.muli v8 c1_i32_1363
  let v1632 : BitVec 32 := Scalar.addi v1630 v1631
  v1632.toNat
def k0_dev51 (d0 : Dev nD) : Nat :=
  let c0_i32_1377 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1376 : BitVec 32 := 16#32
  let v1645 : BitVec 32 := Scalar.muli v9 c16_i32_1376
  let v1646 : BitVec 32 := Scalar.addi c0_i32_1377 v1645
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1378 : BitVec 32 := 4#32
  let v1647 : BitVec 32 := Scalar.muli v5 c4_i32_1378
  let v1648 : BitVec 32 := Scalar.addi v1646 v1647
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1379 : BitVec 32 := 1#32
  let v1649 : BitVec 32 := Scalar.muli v8 c1_i32_1379
  let v1650 : BitVec 32 := Scalar.addi v1648 v1649
  v1650.toNat
def k0_dev52 (d0 : Dev nD) : Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1399 : BitVec 32 := 16#32
  let v1673 : BitVec 32 := Scalar.muli v2 c16_i32_1399
  let v1674 : BitVec 32 := Scalar.addi c0_i32_1400 v1673
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1401 : BitVec 32 := 4#32
  let v1675 : BitVec 32 := Scalar.muli v12 c4_i32_1401
  let v1676 : BitVec 32 := Scalar.addi v1674 v1675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1402 : BitVec 32 := 1#32
  let v1677 : BitVec 32 := Scalar.muli v8 c1_i32_1402
  let v1678 : BitVec 32 := Scalar.addi v1676 v1677
  v1678.toNat
def k0_dev53 (d0 : Dev nD) : Nat :=
  let c0_i32_1426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1425 : BitVec 32 := 16#32
  let v1701 : BitVec 32 := Scalar.muli v2 c16_i32_1425
  let v1702 : BitVec 32 := Scalar.addi c0_i32_1426 v1701
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1427 : BitVec 32 := 4#32
  let v1703 : BitVec 32 := Scalar.muli v13 c4_i32_1427
  let v1704 : BitVec 32 := Scalar.addi v1702 v1703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1428 : BitVec 32 := 1#32
  let v1705 : BitVec 32 := Scalar.muli v8 c1_i32_1428
  let v1706 : BitVec 32 := Scalar.addi v1704 v1705
  v1706.toNat
def k0_dev54 (d0 : Dev nD) : Nat :=
  let c0_i32_1442 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1441 : BitVec 32 := 16#32
  let v1719 : BitVec 32 := Scalar.muli v9 c16_i32_1441
  let v1720 : BitVec 32 := Scalar.addi c0_i32_1442 v1719
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1443 : BitVec 32 := 4#32
  let v1721 : BitVec 32 := Scalar.muli v5 c4_i32_1443
  let v1722 : BitVec 32 := Scalar.addi v1720 v1721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1444 : BitVec 32 := 1#32
  let v1723 : BitVec 32 := Scalar.muli v8 c1_i32_1444
  let v1724 : BitVec 32 := Scalar.addi v1722 v1723
  v1724.toNat
def k0_dev55 (d0 : Dev nD) : Nat :=
  let c0_i32_1465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1464 : BitVec 32 := 16#32
  let v1747 : BitVec 32 := Scalar.muli v2 c16_i32_1464
  let v1748 : BitVec 32 := Scalar.addi c0_i32_1465 v1747
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1466 : BitVec 32 := 4#32
  let v1749 : BitVec 32 := Scalar.muli v12 c4_i32_1466
  let v1750 : BitVec 32 := Scalar.addi v1748 v1749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1467 : BitVec 32 := 1#32
  let v1751 : BitVec 32 := Scalar.muli v8 c1_i32_1467
  let v1752 : BitVec 32 := Scalar.addi v1750 v1751
  v1752.toNat
def k0_dev56 (d0 : Dev nD) : Nat :=
  let c0_i32_1491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1490 : BitVec 32 := 16#32
  let v1775 : BitVec 32 := Scalar.muli v2 c16_i32_1490
  let v1776 : BitVec 32 := Scalar.addi c0_i32_1491 v1775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1492 : BitVec 32 := 4#32
  let v1777 : BitVec 32 := Scalar.muli v13 c4_i32_1492
  let v1778 : BitVec 32 := Scalar.addi v1776 v1777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1493 : BitVec 32 := 1#32
  let v1779 : BitVec 32 := Scalar.muli v8 c1_i32_1493
  let v1780 : BitVec 32 := Scalar.addi v1778 v1779
  v1780.toNat
def k0_dev57 (d0 : Dev nD) : Nat :=
  let c0_i32_1507 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1506 : BitVec 32 := 16#32
  let v1793 : BitVec 32 := Scalar.muli v9 c16_i32_1506
  let v1794 : BitVec 32 := Scalar.addi c0_i32_1507 v1793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1508 : BitVec 32 := 4#32
  let v1795 : BitVec 32 := Scalar.muli v5 c4_i32_1508
  let v1796 : BitVec 32 := Scalar.addi v1794 v1795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1509 : BitVec 32 := 1#32
  let v1797 : BitVec 32 := Scalar.muli v8 c1_i32_1509
  let v1798 : BitVec 32 := Scalar.addi v1796 v1797
  v1798.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_83 : BitVec 32 := 2#32
  let v105 : BitVec 1 := Scalar.cmpi .eq v5 c2_i32_83
  let v106 : BitVec 32 := Scalar.extui v105
  let c0_i32_84 : BitVec 32 := 0#32
  let v107 : BitVec 1 := Scalar.cmpi .ne v106 c0_i32_84
  v107

def k0_dev58 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v867 : BitVec 32 := Scalar.muli v2 c16_i32_689
  let v868 : BitVec 32 := Scalar.addi c0_i32_690 v867
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_691 : BitVec 32 := 4#32
  let v869 : BitVec 32 := Scalar.muli v13 c4_i32_691
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v871 : BitVec 32 := Scalar.muli v8 c1_i32_692
  let v872 : BitVec 32 := Scalar.addi v870 v871
  v872.toNat
def k0_dev59 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v895 : BitVec 32 := Scalar.muli v2 c16_i32_714
  let v896 : BitVec 32 := Scalar.addi c0_i32_715 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_716 : BitVec 32 := 4#32
  let v897 : BitVec 32 := Scalar.muli v13 c4_i32_716
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v899 : BitVec 32 := Scalar.muli v8 c1_i32_717
  let v900 : BitVec 32 := Scalar.addi v898 v899
  v900.toNat
def k0_dev60 (d0 : Dev nD) : Nat :=
  let c0_i32_740 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_739 : BitVec 32 := 16#32
  let v923 : BitVec 32 := Scalar.muli v2 c16_i32_739
  let v924 : BitVec 32 := Scalar.addi c0_i32_740 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_741 : BitVec 32 := 4#32
  let v925 : BitVec 32 := Scalar.muli v13 c4_i32_741
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_742 : BitVec 32 := 1#32
  let v927 : BitVec 32 := Scalar.muli v8 c1_i32_742
  let v928 : BitVec 32 := Scalar.addi v926 v927
  v928.toNat
def k0_dev61 (d0 : Dev nD) : Nat :=
  let c0_i32_765 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_764 : BitVec 32 := 16#32
  let v951 : BitVec 32 := Scalar.muli v2 c16_i32_764
  let v952 : BitVec 32 := Scalar.addi c0_i32_765 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_766 : BitVec 32 := 4#32
  let v953 : BitVec 32 := Scalar.muli v13 c4_i32_766
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v955 : BitVec 32 := Scalar.muli v8 c1_i32_767
  let v956 : BitVec 32 := Scalar.addi v954 v955
  v956.toNat
def k0_dev62 (d0 : Dev nD) : Nat :=
  let c0_i32_790 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_789 : BitVec 32 := 16#32
  let v979 : BitVec 32 := Scalar.muli v2 c16_i32_789
  let v980 : BitVec 32 := Scalar.addi c0_i32_790 v979
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_791 : BitVec 32 := 4#32
  let v981 : BitVec 32 := Scalar.muli v13 c4_i32_791
  let v982 : BitVec 32 := Scalar.addi v980 v981
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v983 : BitVec 32 := Scalar.muli v8 c1_i32_792
  let v984 : BitVec 32 := Scalar.addi v982 v983
  v984.toNat
def k0_dev63 (d0 : Dev nD) : Nat :=
  let c0_i32_815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_814 : BitVec 32 := 16#32
  let v1007 : BitVec 32 := Scalar.muli v2 c16_i32_814
  let v1008 : BitVec 32 := Scalar.addi c0_i32_815 v1007
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_816 : BitVec 32 := 4#32
  let v1009 : BitVec 32 := Scalar.muli v13 c4_i32_816
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_817 : BitVec 32 := 1#32
  let v1011 : BitVec 32 := Scalar.muli v8 c1_i32_817
  let v1012 : BitVec 32 := Scalar.addi v1010 v1011
  v1012.toNat
def k0_dev64 (d0 : Dev nD) : Nat :=
  let c0_i32_841 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_840 : BitVec 32 := 16#32
  let v1035 : BitVec 32 := Scalar.muli v2 c16_i32_840
  let v1036 : BitVec 32 := Scalar.addi c0_i32_841 v1035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_842 : BitVec 32 := 4#32
  let v1037 : BitVec 32 := Scalar.muli v12 c4_i32_842
  let v1038 : BitVec 32 := Scalar.addi v1036 v1037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_843 : BitVec 32 := 1#32
  let v1039 : BitVec 32 := Scalar.muli v8 c1_i32_843
  let v1040 : BitVec 32 := Scalar.addi v1038 v1039
  v1040.toNat
def k0_off5 (d0 : Dev nD) (c0_i32_848 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v1047 : BitVec 32 := Scalar.addi v10 c0_i32_848
  let v1051 : Index := Scalar.indexCast v1047
  let c0_853 : Index := 0#32
  ![v1051.toNat, 0]
def k0_off6 (d0 : Dev nD) (c0_i32_848 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v1047 : BitVec 32 := Scalar.addi v10 c0_i32_848
  let c0_i32_860 : BitVec 32 := 0#32
  ![v1047.toNat, 0]
def k0_dev65 (d0 : Dev nD) : Nat :=
  let c0_i32_857 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_856 : BitVec 32 := 16#32
  let v1053 : BitVec 32 := Scalar.muli v9 c16_i32_856
  let v1054 : BitVec 32 := Scalar.addi c0_i32_857 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_858 : BitVec 32 := 4#32
  let v1055 : BitVec 32 := Scalar.muli v5 c4_i32_858
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_859 : BitVec 32 := 1#32
  let v1057 : BitVec 32 := Scalar.muli v8 c1_i32_859
  let v1058 : BitVec 32 := Scalar.addi v1056 v1057
  v1058.toNat
def k0_dev66 (d0 : Dev nD) : Nat :=
  let c0_i32_880 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_879 : BitVec 32 := 16#32
  let v1081 : BitVec 32 := Scalar.muli v2 c16_i32_879
  let v1082 : BitVec 32 := Scalar.addi c0_i32_880 v1081
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_881 : BitVec 32 := 4#32
  let v1083 : BitVec 32 := Scalar.muli v13 c4_i32_881
  let v1084 : BitVec 32 := Scalar.addi v1082 v1083
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v1085 : BitVec 32 := Scalar.muli v8 c1_i32_882
  let v1086 : BitVec 32 := Scalar.addi v1084 v1085
  v1086.toNat
def k0_dev67 (d0 : Dev nD) : Nat :=
  let c0_i32_906 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_905 : BitVec 32 := 16#32
  let v1109 : BitVec 32 := Scalar.muli v2 c16_i32_905
  let v1110 : BitVec 32 := Scalar.addi c0_i32_906 v1109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_907 : BitVec 32 := 4#32
  let v1111 : BitVec 32 := Scalar.muli v12 c4_i32_907
  let v1112 : BitVec 32 := Scalar.addi v1110 v1111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v1113 : BitVec 32 := Scalar.muli v8 c1_i32_908
  let v1114 : BitVec 32 := Scalar.addi v1112 v1113
  v1114.toNat
def k0_dev68 (d0 : Dev nD) : Nat :=
  let c0_i32_922 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_921 : BitVec 32 := 16#32
  let v1127 : BitVec 32 := Scalar.muli v9 c16_i32_921
  let v1128 : BitVec 32 := Scalar.addi c0_i32_922 v1127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_923 : BitVec 32 := 4#32
  let v1129 : BitVec 32 := Scalar.muli v5 c4_i32_923
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_924 : BitVec 32 := 1#32
  let v1131 : BitVec 32 := Scalar.muli v8 c1_i32_924
  let v1132 : BitVec 32 := Scalar.addi v1130 v1131
  v1132.toNat
def k0_dev69 (d0 : Dev nD) : Nat :=
  let c0_i32_945 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_944 : BitVec 32 := 16#32
  let v1155 : BitVec 32 := Scalar.muli v2 c16_i32_944
  let v1156 : BitVec 32 := Scalar.addi c0_i32_945 v1155
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_946 : BitVec 32 := 4#32
  let v1157 : BitVec 32 := Scalar.muli v13 c4_i32_946
  let v1158 : BitVec 32 := Scalar.addi v1156 v1157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_947 : BitVec 32 := 1#32
  let v1159 : BitVec 32 := Scalar.muli v8 c1_i32_947
  let v1160 : BitVec 32 := Scalar.addi v1158 v1159
  v1160.toNat
def k0_dev70 (d0 : Dev nD) : Nat :=
  let c0_i32_971 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_970 : BitVec 32 := 16#32
  let v1183 : BitVec 32 := Scalar.muli v2 c16_i32_970
  let v1184 : BitVec 32 := Scalar.addi c0_i32_971 v1183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_972 : BitVec 32 := 4#32
  let v1185 : BitVec 32 := Scalar.muli v12 c4_i32_972
  let v1186 : BitVec 32 := Scalar.addi v1184 v1185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1187 : BitVec 32 := Scalar.muli v8 c1_i32_973
  let v1188 : BitVec 32 := Scalar.addi v1186 v1187
  v1188.toNat
def k0_dev71 (d0 : Dev nD) : Nat :=
  let c0_i32_987 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_986 : BitVec 32 := 16#32
  let v1201 : BitVec 32 := Scalar.muli v9 c16_i32_986
  let v1202 : BitVec 32 := Scalar.addi c0_i32_987 v1201
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_988 : BitVec 32 := 4#32
  let v1203 : BitVec 32 := Scalar.muli v5 c4_i32_988
  let v1204 : BitVec 32 := Scalar.addi v1202 v1203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1205 : BitVec 32 := Scalar.muli v8 c1_i32_989
  let v1206 : BitVec 32 := Scalar.addi v1204 v1205
  v1206.toNat
def k0_dev72 (d0 : Dev nD) : Nat :=
  let c0_i32_1010 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1009 : BitVec 32 := 16#32
  let v1229 : BitVec 32 := Scalar.muli v2 c16_i32_1009
  let v1230 : BitVec 32 := Scalar.addi c0_i32_1010 v1229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1011 : BitVec 32 := 4#32
  let v1231 : BitVec 32 := Scalar.muli v13 c4_i32_1011
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1233 : BitVec 32 := Scalar.muli v8 c1_i32_1012
  let v1234 : BitVec 32 := Scalar.addi v1232 v1233
  v1234.toNat
def k0_dev73 (d0 : Dev nD) : Nat :=
  let c0_i32_1036 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1035 : BitVec 32 := 16#32
  let v1257 : BitVec 32 := Scalar.muli v2 c16_i32_1035
  let v1258 : BitVec 32 := Scalar.addi c0_i32_1036 v1257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1037 : BitVec 32 := 4#32
  let v1259 : BitVec 32 := Scalar.muli v12 c4_i32_1037
  let v1260 : BitVec 32 := Scalar.addi v1258 v1259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1038 : BitVec 32 := 1#32
  let v1261 : BitVec 32 := Scalar.muli v8 c1_i32_1038
  let v1262 : BitVec 32 := Scalar.addi v1260 v1261
  v1262.toNat
def k0_dev74 (d0 : Dev nD) : Nat :=
  let c0_i32_1052 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1051 : BitVec 32 := 16#32
  let v1275 : BitVec 32 := Scalar.muli v9 c16_i32_1051
  let v1276 : BitVec 32 := Scalar.addi c0_i32_1052 v1275
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1053 : BitVec 32 := 4#32
  let v1277 : BitVec 32 := Scalar.muli v5 c4_i32_1053
  let v1278 : BitVec 32 := Scalar.addi v1276 v1277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1054 : BitVec 32 := 1#32
  let v1279 : BitVec 32 := Scalar.muli v8 c1_i32_1054
  let v1280 : BitVec 32 := Scalar.addi v1278 v1279
  v1280.toNat
def k0_dev75 (d0 : Dev nD) : Nat :=
  let c0_i32_1075 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1074 : BitVec 32 := 16#32
  let v1303 : BitVec 32 := Scalar.muli v2 c16_i32_1074
  let v1304 : BitVec 32 := Scalar.addi c0_i32_1075 v1303
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1076 : BitVec 32 := 4#32
  let v1305 : BitVec 32 := Scalar.muli v13 c4_i32_1076
  let v1306 : BitVec 32 := Scalar.addi v1304 v1305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1077 : BitVec 32 := 1#32
  let v1307 : BitVec 32 := Scalar.muli v8 c1_i32_1077
  let v1308 : BitVec 32 := Scalar.addi v1306 v1307
  v1308.toNat
def k0_dev76 (d0 : Dev nD) : Nat :=
  let c0_i32_1101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1100 : BitVec 32 := 16#32
  let v1331 : BitVec 32 := Scalar.muli v2 c16_i32_1100
  let v1332 : BitVec 32 := Scalar.addi c0_i32_1101 v1331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1102 : BitVec 32 := 4#32
  let v1333 : BitVec 32 := Scalar.muli v12 c4_i32_1102
  let v1334 : BitVec 32 := Scalar.addi v1332 v1333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1103 : BitVec 32 := 1#32
  let v1335 : BitVec 32 := Scalar.muli v8 c1_i32_1103
  let v1336 : BitVec 32 := Scalar.addi v1334 v1335
  v1336.toNat
def k0_dev77 (d0 : Dev nD) : Nat :=
  let c0_i32_1117 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1116 : BitVec 32 := 16#32
  let v1349 : BitVec 32 := Scalar.muli v9 c16_i32_1116
  let v1350 : BitVec 32 := Scalar.addi c0_i32_1117 v1349
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1118 : BitVec 32 := 4#32
  let v1351 : BitVec 32 := Scalar.muli v5 c4_i32_1118
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1119 : BitVec 32 := 1#32
  let v1353 : BitVec 32 := Scalar.muli v8 c1_i32_1119
  let v1354 : BitVec 32 := Scalar.addi v1352 v1353
  v1354.toNat
def k0_dev78 (d0 : Dev nD) : Nat :=
  let c0_i32_1140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1139 : BitVec 32 := 16#32
  let v1377 : BitVec 32 := Scalar.muli v2 c16_i32_1139
  let v1378 : BitVec 32 := Scalar.addi c0_i32_1140 v1377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1141 : BitVec 32 := 4#32
  let v1379 : BitVec 32 := Scalar.muli v13 c4_i32_1141
  let v1380 : BitVec 32 := Scalar.addi v1378 v1379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1142 : BitVec 32 := 1#32
  let v1381 : BitVec 32 := Scalar.muli v8 c1_i32_1142
  let v1382 : BitVec 32 := Scalar.addi v1380 v1381
  v1382.toNat
def k0_dev79 (d0 : Dev nD) : Nat :=
  let c0_i32_1166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1165 : BitVec 32 := 16#32
  let v1405 : BitVec 32 := Scalar.muli v2 c16_i32_1165
  let v1406 : BitVec 32 := Scalar.addi c0_i32_1166 v1405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1167 : BitVec 32 := 4#32
  let v1407 : BitVec 32 := Scalar.muli v12 c4_i32_1167
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1168 : BitVec 32 := 1#32
  let v1409 : BitVec 32 := Scalar.muli v8 c1_i32_1168
  let v1410 : BitVec 32 := Scalar.addi v1408 v1409
  v1410.toNat
def k0_dev80 (d0 : Dev nD) : Nat :=
  let c0_i32_1182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1181 : BitVec 32 := 16#32
  let v1423 : BitVec 32 := Scalar.muli v9 c16_i32_1181
  let v1424 : BitVec 32 := Scalar.addi c0_i32_1182 v1423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1183 : BitVec 32 := 4#32
  let v1425 : BitVec 32 := Scalar.muli v5 c4_i32_1183
  let v1426 : BitVec 32 := Scalar.addi v1424 v1425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1427 : BitVec 32 := Scalar.muli v8 c1_i32_1184
  let v1428 : BitVec 32 := Scalar.addi v1426 v1427
  v1428.toNat
def k0_dev81 (d0 : Dev nD) : Nat :=
  let c0_i32_1205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1204 : BitVec 32 := 16#32
  let v1451 : BitVec 32 := Scalar.muli v2 c16_i32_1204
  let v1452 : BitVec 32 := Scalar.addi c0_i32_1205 v1451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1206 : BitVec 32 := 4#32
  let v1453 : BitVec 32 := Scalar.muli v13 c4_i32_1206
  let v1454 : BitVec 32 := Scalar.addi v1452 v1453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1455 : BitVec 32 := Scalar.muli v8 c1_i32_1207
  let v1456 : BitVec 32 := Scalar.addi v1454 v1455
  v1456.toNat
def k0_dev82 (d0 : Dev nD) : Nat :=
  let c0_i32_1231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1230 : BitVec 32 := 16#32
  let v1479 : BitVec 32 := Scalar.muli v2 c16_i32_1230
  let v1480 : BitVec 32 := Scalar.addi c0_i32_1231 v1479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1232 : BitVec 32 := 4#32
  let v1481 : BitVec 32 := Scalar.muli v12 c4_i32_1232
  let v1482 : BitVec 32 := Scalar.addi v1480 v1481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1483 : BitVec 32 := Scalar.muli v8 c1_i32_1233
  let v1484 : BitVec 32 := Scalar.addi v1482 v1483
  v1484.toNat
def k0_dev83 (d0 : Dev nD) : Nat :=
  let c0_i32_1247 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1246 : BitVec 32 := 16#32
  let v1497 : BitVec 32 := Scalar.muli v9 c16_i32_1246
  let v1498 : BitVec 32 := Scalar.addi c0_i32_1247 v1497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1248 : BitVec 32 := 4#32
  let v1499 : BitVec 32 := Scalar.muli v5 c4_i32_1248
  let v1500 : BitVec 32 := Scalar.addi v1498 v1499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1249 : BitVec 32 := 1#32
  let v1501 : BitVec 32 := Scalar.muli v8 c1_i32_1249
  let v1502 : BitVec 32 := Scalar.addi v1500 v1501
  v1502.toNat
def k0_dev84 (d0 : Dev nD) : Nat :=
  let c0_i32_1270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1269 : BitVec 32 := 16#32
  let v1525 : BitVec 32 := Scalar.muli v2 c16_i32_1269
  let v1526 : BitVec 32 := Scalar.addi c0_i32_1270 v1525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1271 : BitVec 32 := 4#32
  let v1527 : BitVec 32 := Scalar.muli v13 c4_i32_1271
  let v1528 : BitVec 32 := Scalar.addi v1526 v1527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1529 : BitVec 32 := Scalar.muli v8 c1_i32_1272
  let v1530 : BitVec 32 := Scalar.addi v1528 v1529
  v1530.toNat
def k0_dev85 (d0 : Dev nD) : Nat :=
  let c0_i32_1296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1295 : BitVec 32 := 16#32
  let v1553 : BitVec 32 := Scalar.muli v2 c16_i32_1295
  let v1554 : BitVec 32 := Scalar.addi c0_i32_1296 v1553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1297 : BitVec 32 := 4#32
  let v1555 : BitVec 32 := Scalar.muli v12 c4_i32_1297
  let v1556 : BitVec 32 := Scalar.addi v1554 v1555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1298 : BitVec 32 := 1#32
  let v1557 : BitVec 32 := Scalar.muli v8 c1_i32_1298
  let v1558 : BitVec 32 := Scalar.addi v1556 v1557
  v1558.toNat
def k0_dev86 (d0 : Dev nD) : Nat :=
  let c0_i32_1312 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1311 : BitVec 32 := 16#32
  let v1571 : BitVec 32 := Scalar.muli v9 c16_i32_1311
  let v1572 : BitVec 32 := Scalar.addi c0_i32_1312 v1571
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1573 : BitVec 32 := Scalar.muli v5 c4_i32_1313
  let v1574 : BitVec 32 := Scalar.addi v1572 v1573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1575 : BitVec 32 := Scalar.muli v8 c1_i32_1314
  let v1576 : BitVec 32 := Scalar.addi v1574 v1575
  v1576.toNat
def k0_dev87 (d0 : Dev nD) : Nat :=
  let c0_i32_1335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1334 : BitVec 32 := 16#32
  let v1599 : BitVec 32 := Scalar.muli v2 c16_i32_1334
  let v1600 : BitVec 32 := Scalar.addi c0_i32_1335 v1599
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1336 : BitVec 32 := 4#32
  let v1601 : BitVec 32 := Scalar.muli v13 c4_i32_1336
  let v1602 : BitVec 32 := Scalar.addi v1600 v1601
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1337 : BitVec 32 := 1#32
  let v1603 : BitVec 32 := Scalar.muli v8 c1_i32_1337
  let v1604 : BitVec 32 := Scalar.addi v1602 v1603
  v1604.toNat
def k0_dev88 (d0 : Dev nD) : Nat :=
  let c0_i32_1361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1360 : BitVec 32 := 16#32
  let v1627 : BitVec 32 := Scalar.muli v2 c16_i32_1360
  let v1628 : BitVec 32 := Scalar.addi c0_i32_1361 v1627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1362 : BitVec 32 := 4#32
  let v1629 : BitVec 32 := Scalar.muli v12 c4_i32_1362
  let v1630 : BitVec 32 := Scalar.addi v1628 v1629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1363 : BitVec 32 := 1#32
  let v1631 : BitVec 32 := Scalar.muli v8 c1_i32_1363
  let v1632 : BitVec 32 := Scalar.addi v1630 v1631
  v1632.toNat
def k0_dev89 (d0 : Dev nD) : Nat :=
  let c0_i32_1377 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1376 : BitVec 32 := 16#32
  let v1645 : BitVec 32 := Scalar.muli v9 c16_i32_1376
  let v1646 : BitVec 32 := Scalar.addi c0_i32_1377 v1645
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1378 : BitVec 32 := 4#32
  let v1647 : BitVec 32 := Scalar.muli v5 c4_i32_1378
  let v1648 : BitVec 32 := Scalar.addi v1646 v1647
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1379 : BitVec 32 := 1#32
  let v1649 : BitVec 32 := Scalar.muli v8 c1_i32_1379
  let v1650 : BitVec 32 := Scalar.addi v1648 v1649
  v1650.toNat
def k0_dev90 (d0 : Dev nD) : Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1399 : BitVec 32 := 16#32
  let v1673 : BitVec 32 := Scalar.muli v2 c16_i32_1399
  let v1674 : BitVec 32 := Scalar.addi c0_i32_1400 v1673
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1401 : BitVec 32 := 4#32
  let v1675 : BitVec 32 := Scalar.muli v13 c4_i32_1401
  let v1676 : BitVec 32 := Scalar.addi v1674 v1675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1402 : BitVec 32 := 1#32
  let v1677 : BitVec 32 := Scalar.muli v8 c1_i32_1402
  let v1678 : BitVec 32 := Scalar.addi v1676 v1677
  v1678.toNat
def k0_dev91 (d0 : Dev nD) : Nat :=
  let c0_i32_1426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1425 : BitVec 32 := 16#32
  let v1701 : BitVec 32 := Scalar.muli v2 c16_i32_1425
  let v1702 : BitVec 32 := Scalar.addi c0_i32_1426 v1701
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1427 : BitVec 32 := 4#32
  let v1703 : BitVec 32 := Scalar.muli v12 c4_i32_1427
  let v1704 : BitVec 32 := Scalar.addi v1702 v1703
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1428 : BitVec 32 := 1#32
  let v1705 : BitVec 32 := Scalar.muli v8 c1_i32_1428
  let v1706 : BitVec 32 := Scalar.addi v1704 v1705
  v1706.toNat
def k0_dev92 (d0 : Dev nD) : Nat :=
  let c0_i32_1442 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1441 : BitVec 32 := 16#32
  let v1719 : BitVec 32 := Scalar.muli v9 c16_i32_1441
  let v1720 : BitVec 32 := Scalar.addi c0_i32_1442 v1719
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1443 : BitVec 32 := 4#32
  let v1721 : BitVec 32 := Scalar.muli v5 c4_i32_1443
  let v1722 : BitVec 32 := Scalar.addi v1720 v1721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1444 : BitVec 32 := 1#32
  let v1723 : BitVec 32 := Scalar.muli v8 c1_i32_1444
  let v1724 : BitVec 32 := Scalar.addi v1722 v1723
  v1724.toNat
def k0_dev93 (d0 : Dev nD) : Nat :=
  let c0_i32_1465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1464 : BitVec 32 := 16#32
  let v1747 : BitVec 32 := Scalar.muli v2 c16_i32_1464
  let v1748 : BitVec 32 := Scalar.addi c0_i32_1465 v1747
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1466 : BitVec 32 := 4#32
  let v1749 : BitVec 32 := Scalar.muli v13 c4_i32_1466
  let v1750 : BitVec 32 := Scalar.addi v1748 v1749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1467 : BitVec 32 := 1#32
  let v1751 : BitVec 32 := Scalar.muli v8 c1_i32_1467
  let v1752 : BitVec 32 := Scalar.addi v1750 v1751
  v1752.toNat
def k0_dev94 (d0 : Dev nD) : Nat :=
  let c0_i32_1491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1490 : BitVec 32 := 16#32
  let v1775 : BitVec 32 := Scalar.muli v2 c16_i32_1490
  let v1776 : BitVec 32 := Scalar.addi c0_i32_1491 v1775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1492 : BitVec 32 := 4#32
  let v1777 : BitVec 32 := Scalar.muli v12 c4_i32_1492
  let v1778 : BitVec 32 := Scalar.addi v1776 v1777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1493 : BitVec 32 := 1#32
  let v1779 : BitVec 32 := Scalar.muli v8 c1_i32_1493
  let v1780 : BitVec 32 := Scalar.addi v1778 v1779
  v1780.toNat
def k0_dev95 (d0 : Dev nD) : Nat :=
  let c0_i32_1507 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1506 : BitVec 32 := 16#32
  let v1793 : BitVec 32 := Scalar.muli v9 c16_i32_1506
  let v1794 : BitVec 32 := Scalar.addi c0_i32_1507 v1793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1508 : BitVec 32 := 4#32
  let v1795 : BitVec 32 := Scalar.muli v5 c4_i32_1508
  let v1796 : BitVec 32 := Scalar.addi v1794 v1795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1509 : BitVec 32 := 1#32
  let v1797 : BitVec 32 := Scalar.muli v8 c1_i32_1509
  let v1798 : BitVec 32 := Scalar.addi v1796 v1797
  v1798.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_85 : BitVec 32 := 3#32
  let v108 : BitVec 1 := Scalar.cmpi .eq v5 c3_i32_85
  let v109 : BitVec 32 := Scalar.extui v108
  let c0_i32_86 : BitVec 32 := 0#32
  let v110 : BitVec 1 := Scalar.cmpi .ne v109 c0_i32_86
  v110

def k0_dev96 (d0 : Dev nD) : Nat :=
  let c0_i32_678 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_677 : BitVec 32 := 16#32
  let v855 : BitVec 32 := Scalar.muli v2 c16_i32_677
  let v856 : BitVec 32 := Scalar.addi c0_i32_678 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_679 : BitVec 32 := 4#32
  let v857 : BitVec 32 := Scalar.muli v13 c4_i32_679
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v859 : BitVec 32 := Scalar.muli v8 c1_i32_680
  let v860 : BitVec 32 := Scalar.addi v858 v859
  v860.toNat
def k0_dev97 (d0 : Dev nD) : Nat :=
  let c0_i32_691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_690 : BitVec 32 := 16#32
  let v871 : BitVec 32 := Scalar.muli v2 c16_i32_690
  let v872 : BitVec 32 := Scalar.addi c0_i32_691 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_692 : BitVec 32 := 4#32
  let v873 : BitVec 32 := Scalar.muli v13 c4_i32_692
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v875 : BitVec 32 := Scalar.muli v8 c1_i32_693
  let v876 : BitVec 32 := Scalar.addi v874 v875
  v876.toNat
def k0_dev98 (d0 : Dev nD) : Nat :=
  let c0_i32_704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_703 : BitVec 32 := 16#32
  let v887 : BitVec 32 := Scalar.muli v2 c16_i32_703
  let v888 : BitVec 32 := Scalar.addi c0_i32_704 v887
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_705 : BitVec 32 := 4#32
  let v889 : BitVec 32 := Scalar.muli v13 c4_i32_705
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v891 : BitVec 32 := Scalar.muli v8 c1_i32_706
  let v892 : BitVec 32 := Scalar.addi v890 v891
  v892.toNat
def k0_dev99 (d0 : Dev nD) : Nat :=
  let c0_i32_717 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_716 : BitVec 32 := 16#32
  let v903 : BitVec 32 := Scalar.muli v2 c16_i32_716
  let v904 : BitVec 32 := Scalar.addi c0_i32_717 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_718 : BitVec 32 := 4#32
  let v905 : BitVec 32 := Scalar.muli v13 c4_i32_718
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v907 : BitVec 32 := Scalar.muli v8 c1_i32_719
  let v908 : BitVec 32 := Scalar.addi v906 v907
  v908.toNat
def k0_dev100 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_729 : BitVec 32 := 16#32
  let v919 : BitVec 32 := Scalar.muli v2 c16_i32_729
  let v920 : BitVec 32 := Scalar.addi c0_i32_730 v919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_731 : BitVec 32 := 4#32
  let v921 : BitVec 32 := Scalar.muli v13 c4_i32_731
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v923 : BitVec 32 := Scalar.muli v8 c1_i32_732
  let v924 : BitVec 32 := Scalar.addi v922 v923
  v924.toNat
def k0_dev101 (d0 : Dev nD) : Nat :=
  let c0_i32_743 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_742 : BitVec 32 := 16#32
  let v935 : BitVec 32 := Scalar.muli v2 c16_i32_742
  let v936 : BitVec 32 := Scalar.addi c0_i32_743 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_744 : BitVec 32 := 4#32
  let v937 : BitVec 32 := Scalar.muli v13 c4_i32_744
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v939 : BitVec 32 := Scalar.muli v8 c1_i32_745
  let v940 : BitVec 32 := Scalar.addi v938 v939
  v940.toNat
def k0_dev102 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_755 : BitVec 32 := 16#32
  let v951 : BitVec 32 := Scalar.muli v2 c16_i32_755
  let v952 : BitVec 32 := Scalar.addi c0_i32_756 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_757 : BitVec 32 := 4#32
  let v953 : BitVec 32 := Scalar.muli v13 c4_i32_757
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v955 : BitVec 32 := Scalar.muli v8 c1_i32_758
  let v956 : BitVec 32 := Scalar.addi v954 v955
  v956.toNat
def k0_dev103 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_768 : BitVec 32 := 16#32
  let v967 : BitVec 32 := Scalar.muli v2 c16_i32_768
  let v968 : BitVec 32 := Scalar.addi c0_i32_769 v967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_770 : BitVec 32 := 4#32
  let v969 : BitVec 32 := Scalar.muli v13 c4_i32_770
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v971 : BitVec 32 := Scalar.muli v8 c1_i32_771
  let v972 : BitVec 32 := Scalar.addi v970 v971
  v972.toNat
def k0_dev104 (d0 : Dev nD) : Nat :=
  let c0_i32_782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_781 : BitVec 32 := 16#32
  let v983 : BitVec 32 := Scalar.muli v2 c16_i32_781
  let v984 : BitVec 32 := Scalar.addi c0_i32_782 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_783 : BitVec 32 := 4#32
  let v985 : BitVec 32 := Scalar.muli v13 c4_i32_783
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v987 : BitVec 32 := Scalar.muli v8 c1_i32_784
  let v988 : BitVec 32 := Scalar.addi v986 v987
  v988.toNat
def k0_dev105 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_794 : BitVec 32 := 16#32
  let v999 : BitVec 32 := Scalar.muli v2 c16_i32_794
  let v1000 : BitVec 32 := Scalar.addi c0_i32_795 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_796 : BitVec 32 := 4#32
  let v1001 : BitVec 32 := Scalar.muli v13 c4_i32_796
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v1003 : BitVec 32 := Scalar.muli v8 c1_i32_797
  let v1004 : BitVec 32 := Scalar.addi v1002 v1003
  v1004.toNat
def k0_dev106 (d0 : Dev nD) : Nat :=
  let c0_i32_808 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_807 : BitVec 32 := 16#32
  let v1015 : BitVec 32 := Scalar.muli v2 c16_i32_807
  let v1016 : BitVec 32 := Scalar.addi c0_i32_808 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_809 : BitVec 32 := 4#32
  let v1017 : BitVec 32 := Scalar.muli v13 c4_i32_809
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1019 : BitVec 32 := Scalar.muli v8 c1_i32_810
  let v1020 : BitVec 32 := Scalar.addi v1018 v1019
  v1020.toNat
def k0_dev107 (d0 : Dev nD) : Nat :=
  let c0_i32_821 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_820 : BitVec 32 := 16#32
  let v1031 : BitVec 32 := Scalar.muli v2 c16_i32_820
  let v1032 : BitVec 32 := Scalar.addi c0_i32_821 v1031
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_822 : BitVec 32 := 4#32
  let v1033 : BitVec 32 := Scalar.muli v13 c4_i32_822
  let v1034 : BitVec 32 := Scalar.addi v1032 v1033
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_823 : BitVec 32 := 1#32
  let v1035 : BitVec 32 := Scalar.muli v8 c1_i32_823
  let v1036 : BitVec 32 := Scalar.addi v1034 v1035
  v1036.toNat
def k0_dev108 (d0 : Dev nD) : Nat :=
  let c0_i32_834 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_833 : BitVec 32 := 16#32
  let v1047 : BitVec 32 := Scalar.muli v2 c16_i32_833
  let v1048 : BitVec 32 := Scalar.addi c0_i32_834 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_835 : BitVec 32 := 4#32
  let v1049 : BitVec 32 := Scalar.muli v13 c4_i32_835
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v1051 : BitVec 32 := Scalar.muli v8 c1_i32_836
  let v1052 : BitVec 32 := Scalar.addi v1050 v1051
  v1052.toNat
def k0_dev109 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_846 : BitVec 32 := 16#32
  let v1063 : BitVec 32 := Scalar.muli v2 c16_i32_846
  let v1064 : BitVec 32 := Scalar.addi c0_i32_847 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_848 : BitVec 32 := 4#32
  let v1065 : BitVec 32 := Scalar.muli v13 c4_i32_848
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v1067 : BitVec 32 := Scalar.muli v8 c1_i32_849
  let v1068 : BitVec 32 := Scalar.addi v1066 v1067
  v1068.toNat
def k0_dev110 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v1079 : BitVec 32 := Scalar.muli v2 c16_i32_859
  let v1080 : BitVec 32 := Scalar.addi c0_i32_860 v1079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_861 : BitVec 32 := 4#32
  let v1081 : BitVec 32 := Scalar.muli v13 c4_i32_861
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v1083 : BitVec 32 := Scalar.muli v8 c1_i32_862
  let v1084 : BitVec 32 := Scalar.addi v1082 v1083
  v1084.toNat
def k0_dev111 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_872 : BitVec 32 := 16#32
  let v1095 : BitVec 32 := Scalar.muli v2 c16_i32_872
  let v1096 : BitVec 32 := Scalar.addi c0_i32_873 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_874 : BitVec 32 := 4#32
  let v1097 : BitVec 32 := Scalar.muli v13 c4_i32_874
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_875 : BitVec 32 := 1#32
  let v1099 : BitVec 32 := Scalar.muli v8 c1_i32_875
  let v1100 : BitVec 32 := Scalar.addi v1098 v1099
  v1100.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_106 : BitVec 32 := 0#32
  let v129 : BitVec 1 := Scalar.cmpi .eq v5 c0_i32_106
  let v130 : BitVec 32 := Scalar.extui v129
  let c0_i32_107 : BitVec 32 := 0#32
  let v131 : BitVec 1 := Scalar.cmpi .ne v130 c0_i32_107
  v131

def k0_dev112 (d0 : Dev nD) : Nat :=
  let c0_i32_678 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_677 : BitVec 32 := 16#32
  let v855 : BitVec 32 := Scalar.muli v2 c16_i32_677
  let v856 : BitVec 32 := Scalar.addi c0_i32_678 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_679 : BitVec 32 := 4#32
  let v857 : BitVec 32 := Scalar.muli v12 c4_i32_679
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v859 : BitVec 32 := Scalar.muli v8 c1_i32_680
  let v860 : BitVec 32 := Scalar.addi v858 v859
  v860.toNat
def k0_dev113 (d0 : Dev nD) : Nat :=
  let c0_i32_691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_690 : BitVec 32 := 16#32
  let v871 : BitVec 32 := Scalar.muli v2 c16_i32_690
  let v872 : BitVec 32 := Scalar.addi c0_i32_691 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_692 : BitVec 32 := 4#32
  let v873 : BitVec 32 := Scalar.muli v12 c4_i32_692
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v875 : BitVec 32 := Scalar.muli v8 c1_i32_693
  let v876 : BitVec 32 := Scalar.addi v874 v875
  v876.toNat
def k0_dev114 (d0 : Dev nD) : Nat :=
  let c0_i32_704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_703 : BitVec 32 := 16#32
  let v887 : BitVec 32 := Scalar.muli v2 c16_i32_703
  let v888 : BitVec 32 := Scalar.addi c0_i32_704 v887
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_705 : BitVec 32 := 4#32
  let v889 : BitVec 32 := Scalar.muli v12 c4_i32_705
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v891 : BitVec 32 := Scalar.muli v8 c1_i32_706
  let v892 : BitVec 32 := Scalar.addi v890 v891
  v892.toNat
def k0_dev115 (d0 : Dev nD) : Nat :=
  let c0_i32_717 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_716 : BitVec 32 := 16#32
  let v903 : BitVec 32 := Scalar.muli v2 c16_i32_716
  let v904 : BitVec 32 := Scalar.addi c0_i32_717 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_718 : BitVec 32 := 4#32
  let v905 : BitVec 32 := Scalar.muli v12 c4_i32_718
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v907 : BitVec 32 := Scalar.muli v8 c1_i32_719
  let v908 : BitVec 32 := Scalar.addi v906 v907
  v908.toNat
def k0_dev116 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_729 : BitVec 32 := 16#32
  let v919 : BitVec 32 := Scalar.muli v2 c16_i32_729
  let v920 : BitVec 32 := Scalar.addi c0_i32_730 v919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_731 : BitVec 32 := 4#32
  let v921 : BitVec 32 := Scalar.muli v12 c4_i32_731
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v923 : BitVec 32 := Scalar.muli v8 c1_i32_732
  let v924 : BitVec 32 := Scalar.addi v922 v923
  v924.toNat
def k0_dev117 (d0 : Dev nD) : Nat :=
  let c0_i32_743 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_742 : BitVec 32 := 16#32
  let v935 : BitVec 32 := Scalar.muli v2 c16_i32_742
  let v936 : BitVec 32 := Scalar.addi c0_i32_743 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_744 : BitVec 32 := 4#32
  let v937 : BitVec 32 := Scalar.muli v12 c4_i32_744
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v939 : BitVec 32 := Scalar.muli v8 c1_i32_745
  let v940 : BitVec 32 := Scalar.addi v938 v939
  v940.toNat
def k0_dev118 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_755 : BitVec 32 := 16#32
  let v951 : BitVec 32 := Scalar.muli v2 c16_i32_755
  let v952 : BitVec 32 := Scalar.addi c0_i32_756 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_757 : BitVec 32 := 4#32
  let v953 : BitVec 32 := Scalar.muli v12 c4_i32_757
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v955 : BitVec 32 := Scalar.muli v8 c1_i32_758
  let v956 : BitVec 32 := Scalar.addi v954 v955
  v956.toNat
def k0_dev119 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_768 : BitVec 32 := 16#32
  let v967 : BitVec 32 := Scalar.muli v2 c16_i32_768
  let v968 : BitVec 32 := Scalar.addi c0_i32_769 v967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_770 : BitVec 32 := 4#32
  let v969 : BitVec 32 := Scalar.muli v12 c4_i32_770
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v971 : BitVec 32 := Scalar.muli v8 c1_i32_771
  let v972 : BitVec 32 := Scalar.addi v970 v971
  v972.toNat
def k0_dev120 (d0 : Dev nD) : Nat :=
  let c0_i32_782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_781 : BitVec 32 := 16#32
  let v983 : BitVec 32 := Scalar.muli v2 c16_i32_781
  let v984 : BitVec 32 := Scalar.addi c0_i32_782 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_783 : BitVec 32 := 4#32
  let v985 : BitVec 32 := Scalar.muli v12 c4_i32_783
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v987 : BitVec 32 := Scalar.muli v8 c1_i32_784
  let v988 : BitVec 32 := Scalar.addi v986 v987
  v988.toNat
def k0_dev121 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_794 : BitVec 32 := 16#32
  let v999 : BitVec 32 := Scalar.muli v2 c16_i32_794
  let v1000 : BitVec 32 := Scalar.addi c0_i32_795 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_796 : BitVec 32 := 4#32
  let v1001 : BitVec 32 := Scalar.muli v12 c4_i32_796
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v1003 : BitVec 32 := Scalar.muli v8 c1_i32_797
  let v1004 : BitVec 32 := Scalar.addi v1002 v1003
  v1004.toNat
def k0_dev122 (d0 : Dev nD) : Nat :=
  let c0_i32_808 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_807 : BitVec 32 := 16#32
  let v1015 : BitVec 32 := Scalar.muli v2 c16_i32_807
  let v1016 : BitVec 32 := Scalar.addi c0_i32_808 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_809 : BitVec 32 := 4#32
  let v1017 : BitVec 32 := Scalar.muli v12 c4_i32_809
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1019 : BitVec 32 := Scalar.muli v8 c1_i32_810
  let v1020 : BitVec 32 := Scalar.addi v1018 v1019
  v1020.toNat
def k0_dev123 (d0 : Dev nD) : Nat :=
  let c0_i32_821 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_820 : BitVec 32 := 16#32
  let v1031 : BitVec 32 := Scalar.muli v2 c16_i32_820
  let v1032 : BitVec 32 := Scalar.addi c0_i32_821 v1031
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_822 : BitVec 32 := 4#32
  let v1033 : BitVec 32 := Scalar.muli v12 c4_i32_822
  let v1034 : BitVec 32 := Scalar.addi v1032 v1033
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_823 : BitVec 32 := 1#32
  let v1035 : BitVec 32 := Scalar.muli v8 c1_i32_823
  let v1036 : BitVec 32 := Scalar.addi v1034 v1035
  v1036.toNat
def k0_dev124 (d0 : Dev nD) : Nat :=
  let c0_i32_834 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_833 : BitVec 32 := 16#32
  let v1047 : BitVec 32 := Scalar.muli v2 c16_i32_833
  let v1048 : BitVec 32 := Scalar.addi c0_i32_834 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_835 : BitVec 32 := 4#32
  let v1049 : BitVec 32 := Scalar.muli v12 c4_i32_835
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v1051 : BitVec 32 := Scalar.muli v8 c1_i32_836
  let v1052 : BitVec 32 := Scalar.addi v1050 v1051
  v1052.toNat
def k0_dev125 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_846 : BitVec 32 := 16#32
  let v1063 : BitVec 32 := Scalar.muli v2 c16_i32_846
  let v1064 : BitVec 32 := Scalar.addi c0_i32_847 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_848 : BitVec 32 := 4#32
  let v1065 : BitVec 32 := Scalar.muli v12 c4_i32_848
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v1067 : BitVec 32 := Scalar.muli v8 c1_i32_849
  let v1068 : BitVec 32 := Scalar.addi v1066 v1067
  v1068.toNat
def k0_dev126 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v1079 : BitVec 32 := Scalar.muli v2 c16_i32_859
  let v1080 : BitVec 32 := Scalar.addi c0_i32_860 v1079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_861 : BitVec 32 := 4#32
  let v1081 : BitVec 32 := Scalar.muli v12 c4_i32_861
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v1083 : BitVec 32 := Scalar.muli v8 c1_i32_862
  let v1084 : BitVec 32 := Scalar.addi v1082 v1083
  v1084.toNat
def k0_dev127 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_872 : BitVec 32 := 16#32
  let v1095 : BitVec 32 := Scalar.muli v2 c16_i32_872
  let v1096 : BitVec 32 := Scalar.addi c0_i32_873 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_874 : BitVec 32 := 4#32
  let v1097 : BitVec 32 := Scalar.muli v12 c4_i32_874
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_875 : BitVec 32 := 1#32
  let v1099 : BitVec 32 := Scalar.muli v8 c1_i32_875
  let v1100 : BitVec 32 := Scalar.addi v1098 v1099
  v1100.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_108 : BitVec 32 := 1#32
  let v132 : BitVec 1 := Scalar.cmpi .eq v5 c1_i32_108
  let v133 : BitVec 32 := Scalar.extui v132
  let c0_i32_109 : BitVec 32 := 0#32
  let v134 : BitVec 1 := Scalar.cmpi .ne v133 c0_i32_109
  v134

def k0_dev128 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v867 : BitVec 32 := Scalar.muli v2 c16_i32_689
  let v868 : BitVec 32 := Scalar.addi c0_i32_690 v867
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_691 : BitVec 32 := 4#32
  let v869 : BitVec 32 := Scalar.muli v12 c4_i32_691
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v871 : BitVec 32 := Scalar.muli v8 c1_i32_692
  let v872 : BitVec 32 := Scalar.addi v870 v871
  v872.toNat
def k0_dev129 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v895 : BitVec 32 := Scalar.muli v2 c16_i32_714
  let v896 : BitVec 32 := Scalar.addi c0_i32_715 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_716 : BitVec 32 := 4#32
  let v897 : BitVec 32 := Scalar.muli v13 c4_i32_716
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v899 : BitVec 32 := Scalar.muli v8 c1_i32_717
  let v900 : BitVec 32 := Scalar.addi v898 v899
  v900.toNat
def k0_off7 (d0 : Dev nD) (c176_i32_722 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v907 : BitVec 32 := Scalar.addi v10 c176_i32_722
  let v911 : Index := Scalar.indexCast v907
  let c0_727 : Index := 0#32
  ![v911.toNat, 0]
def k0_off8 (d0 : Dev nD) (c176_i32_722 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v907 : BitVec 32 := Scalar.addi v10 c176_i32_722
  let c0_i32_734 : BitVec 32 := 0#32
  ![v907.toNat, 0]
def k0_dev130 (d0 : Dev nD) : Nat :=
  let c0_i32_731 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_730 : BitVec 32 := 16#32
  let v913 : BitVec 32 := Scalar.muli v9 c16_i32_730
  let v914 : BitVec 32 := Scalar.addi c0_i32_731 v913
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_732 : BitVec 32 := 4#32
  let v915 : BitVec 32 := Scalar.muli v5 c4_i32_732
  let v916 : BitVec 32 := Scalar.addi v914 v915
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_733 : BitVec 32 := 1#32
  let v917 : BitVec 32 := Scalar.muli v8 c1_i32_733
  let v918 : BitVec 32 := Scalar.addi v916 v917
  v918.toNat
def k0_dev131 (d0 : Dev nD) : Nat :=
  let c0_i32_754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_753 : BitVec 32 := 16#32
  let v941 : BitVec 32 := Scalar.muli v2 c16_i32_753
  let v942 : BitVec 32 := Scalar.addi c0_i32_754 v941
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_755 : BitVec 32 := 4#32
  let v943 : BitVec 32 := Scalar.muli v12 c4_i32_755
  let v944 : BitVec 32 := Scalar.addi v942 v943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_756 : BitVec 32 := 1#32
  let v945 : BitVec 32 := Scalar.muli v8 c1_i32_756
  let v946 : BitVec 32 := Scalar.addi v944 v945
  v946.toNat
def k0_dev132 (d0 : Dev nD) : Nat :=
  let c0_i32_779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_778 : BitVec 32 := 16#32
  let v969 : BitVec 32 := Scalar.muli v2 c16_i32_778
  let v970 : BitVec 32 := Scalar.addi c0_i32_779 v969
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_780 : BitVec 32 := 4#32
  let v971 : BitVec 32 := Scalar.muli v13 c4_i32_780
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v973 : BitVec 32 := Scalar.muli v8 c1_i32_781
  let v974 : BitVec 32 := Scalar.addi v972 v973
  v974.toNat
def k0_dev133 (d0 : Dev nD) : Nat :=
  let c0_i32_795 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_794 : BitVec 32 := 16#32
  let v987 : BitVec 32 := Scalar.muli v9 c16_i32_794
  let v988 : BitVec 32 := Scalar.addi c0_i32_795 v987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_796 : BitVec 32 := 4#32
  let v989 : BitVec 32 := Scalar.muli v5 c4_i32_796
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v991 : BitVec 32 := Scalar.muli v8 c1_i32_797
  let v992 : BitVec 32 := Scalar.addi v990 v991
  v992.toNat
def k0_dev134 (d0 : Dev nD) : Nat :=
  let c0_i32_818 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_817 : BitVec 32 := 16#32
  let v1015 : BitVec 32 := Scalar.muli v2 c16_i32_817
  let v1016 : BitVec 32 := Scalar.addi c0_i32_818 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_819 : BitVec 32 := 4#32
  let v1017 : BitVec 32 := Scalar.muli v12 c4_i32_819
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_820 : BitVec 32 := 1#32
  let v1019 : BitVec 32 := Scalar.muli v8 c1_i32_820
  let v1020 : BitVec 32 := Scalar.addi v1018 v1019
  v1020.toNat
def k0_dev135 (d0 : Dev nD) : Nat :=
  let c0_i32_843 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_842 : BitVec 32 := 16#32
  let v1043 : BitVec 32 := Scalar.muli v2 c16_i32_842
  let v1044 : BitVec 32 := Scalar.addi c0_i32_843 v1043
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_844 : BitVec 32 := 4#32
  let v1045 : BitVec 32 := Scalar.muli v13 c4_i32_844
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_845 : BitVec 32 := 1#32
  let v1047 : BitVec 32 := Scalar.muli v8 c1_i32_845
  let v1048 : BitVec 32 := Scalar.addi v1046 v1047
  v1048.toNat
def k0_dev136 (d0 : Dev nD) : Nat :=
  let c0_i32_859 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_858 : BitVec 32 := 16#32
  let v1061 : BitVec 32 := Scalar.muli v9 c16_i32_858
  let v1062 : BitVec 32 := Scalar.addi c0_i32_859 v1061
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v1063 : BitVec 32 := Scalar.muli v5 c4_i32_860
  let v1064 : BitVec 32 := Scalar.addi v1062 v1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v1065 : BitVec 32 := Scalar.muli v8 c1_i32_861
  let v1066 : BitVec 32 := Scalar.addi v1064 v1065
  v1066.toNat
def k0_dev137 (d0 : Dev nD) : Nat :=
  let c0_i32_882 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_881 : BitVec 32 := 16#32
  let v1089 : BitVec 32 := Scalar.muli v2 c16_i32_881
  let v1090 : BitVec 32 := Scalar.addi c0_i32_882 v1089
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_883 : BitVec 32 := 4#32
  let v1091 : BitVec 32 := Scalar.muli v12 c4_i32_883
  let v1092 : BitVec 32 := Scalar.addi v1090 v1091
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_884 : BitVec 32 := 1#32
  let v1093 : BitVec 32 := Scalar.muli v8 c1_i32_884
  let v1094 : BitVec 32 := Scalar.addi v1092 v1093
  v1094.toNat
def k0_dev138 (d0 : Dev nD) : Nat :=
  let c0_i32_907 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_906 : BitVec 32 := 16#32
  let v1117 : BitVec 32 := Scalar.muli v2 c16_i32_906
  let v1118 : BitVec 32 := Scalar.addi c0_i32_907 v1117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_908 : BitVec 32 := 4#32
  let v1119 : BitVec 32 := Scalar.muli v13 c4_i32_908
  let v1120 : BitVec 32 := Scalar.addi v1118 v1119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_909 : BitVec 32 := 1#32
  let v1121 : BitVec 32 := Scalar.muli v8 c1_i32_909
  let v1122 : BitVec 32 := Scalar.addi v1120 v1121
  v1122.toNat
def k0_dev139 (d0 : Dev nD) : Nat :=
  let c0_i32_923 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_922 : BitVec 32 := 16#32
  let v1135 : BitVec 32 := Scalar.muli v9 c16_i32_922
  let v1136 : BitVec 32 := Scalar.addi c0_i32_923 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_924 : BitVec 32 := 4#32
  let v1137 : BitVec 32 := Scalar.muli v5 c4_i32_924
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_925 : BitVec 32 := 1#32
  let v1139 : BitVec 32 := Scalar.muli v8 c1_i32_925
  let v1140 : BitVec 32 := Scalar.addi v1138 v1139
  v1140.toNat
def k0_dev140 (d0 : Dev nD) : Nat :=
  let c0_i32_946 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_945 : BitVec 32 := 16#32
  let v1163 : BitVec 32 := Scalar.muli v2 c16_i32_945
  let v1164 : BitVec 32 := Scalar.addi c0_i32_946 v1163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_947 : BitVec 32 := 4#32
  let v1165 : BitVec 32 := Scalar.muli v12 c4_i32_947
  let v1166 : BitVec 32 := Scalar.addi v1164 v1165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_948 : BitVec 32 := 1#32
  let v1167 : BitVec 32 := Scalar.muli v8 c1_i32_948
  let v1168 : BitVec 32 := Scalar.addi v1166 v1167
  v1168.toNat
def k0_dev141 (d0 : Dev nD) : Nat :=
  let c0_i32_971 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_970 : BitVec 32 := 16#32
  let v1191 : BitVec 32 := Scalar.muli v2 c16_i32_970
  let v1192 : BitVec 32 := Scalar.addi c0_i32_971 v1191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_972 : BitVec 32 := 4#32
  let v1193 : BitVec 32 := Scalar.muli v13 c4_i32_972
  let v1194 : BitVec 32 := Scalar.addi v1192 v1193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1195 : BitVec 32 := Scalar.muli v8 c1_i32_973
  let v1196 : BitVec 32 := Scalar.addi v1194 v1195
  v1196.toNat
def k0_dev142 (d0 : Dev nD) : Nat :=
  let c0_i32_987 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_986 : BitVec 32 := 16#32
  let v1209 : BitVec 32 := Scalar.muli v9 c16_i32_986
  let v1210 : BitVec 32 := Scalar.addi c0_i32_987 v1209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_988 : BitVec 32 := 4#32
  let v1211 : BitVec 32 := Scalar.muli v5 c4_i32_988
  let v1212 : BitVec 32 := Scalar.addi v1210 v1211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1213 : BitVec 32 := Scalar.muli v8 c1_i32_989
  let v1214 : BitVec 32 := Scalar.addi v1212 v1213
  v1214.toNat
def k0_dev143 (d0 : Dev nD) : Nat :=
  let c0_i32_1010 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1009 : BitVec 32 := 16#32
  let v1237 : BitVec 32 := Scalar.muli v2 c16_i32_1009
  let v1238 : BitVec 32 := Scalar.addi c0_i32_1010 v1237
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1011 : BitVec 32 := 4#32
  let v1239 : BitVec 32 := Scalar.muli v12 c4_i32_1011
  let v1240 : BitVec 32 := Scalar.addi v1238 v1239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1241 : BitVec 32 := Scalar.muli v8 c1_i32_1012
  let v1242 : BitVec 32 := Scalar.addi v1240 v1241
  v1242.toNat
def k0_dev144 (d0 : Dev nD) : Nat :=
  let c0_i32_1036 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1035 : BitVec 32 := 16#32
  let v1265 : BitVec 32 := Scalar.muli v2 c16_i32_1035
  let v1266 : BitVec 32 := Scalar.addi c0_i32_1036 v1265
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1037 : BitVec 32 := 4#32
  let v1267 : BitVec 32 := Scalar.muli v13 c4_i32_1037
  let v1268 : BitVec 32 := Scalar.addi v1266 v1267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1038 : BitVec 32 := 1#32
  let v1269 : BitVec 32 := Scalar.muli v8 c1_i32_1038
  let v1270 : BitVec 32 := Scalar.addi v1268 v1269
  v1270.toNat
def k0_dev145 (d0 : Dev nD) : Nat :=
  let c0_i32_1052 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1051 : BitVec 32 := 16#32
  let v1283 : BitVec 32 := Scalar.muli v9 c16_i32_1051
  let v1284 : BitVec 32 := Scalar.addi c0_i32_1052 v1283
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1053 : BitVec 32 := 4#32
  let v1285 : BitVec 32 := Scalar.muli v5 c4_i32_1053
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1054 : BitVec 32 := 1#32
  let v1287 : BitVec 32 := Scalar.muli v8 c1_i32_1054
  let v1288 : BitVec 32 := Scalar.addi v1286 v1287
  v1288.toNat
def k0_dev146 (d0 : Dev nD) : Nat :=
  let c0_i32_1075 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1074 : BitVec 32 := 16#32
  let v1311 : BitVec 32 := Scalar.muli v2 c16_i32_1074
  let v1312 : BitVec 32 := Scalar.addi c0_i32_1075 v1311
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1076 : BitVec 32 := 4#32
  let v1313 : BitVec 32 := Scalar.muli v12 c4_i32_1076
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1077 : BitVec 32 := 1#32
  let v1315 : BitVec 32 := Scalar.muli v8 c1_i32_1077
  let v1316 : BitVec 32 := Scalar.addi v1314 v1315
  v1316.toNat
def k0_dev147 (d0 : Dev nD) : Nat :=
  let c0_i32_1101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1100 : BitVec 32 := 16#32
  let v1339 : BitVec 32 := Scalar.muli v2 c16_i32_1100
  let v1340 : BitVec 32 := Scalar.addi c0_i32_1101 v1339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1102 : BitVec 32 := 4#32
  let v1341 : BitVec 32 := Scalar.muli v13 c4_i32_1102
  let v1342 : BitVec 32 := Scalar.addi v1340 v1341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1103 : BitVec 32 := 1#32
  let v1343 : BitVec 32 := Scalar.muli v8 c1_i32_1103
  let v1344 : BitVec 32 := Scalar.addi v1342 v1343
  v1344.toNat
def k0_dev148 (d0 : Dev nD) : Nat :=
  let c0_i32_1117 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1116 : BitVec 32 := 16#32
  let v1357 : BitVec 32 := Scalar.muli v9 c16_i32_1116
  let v1358 : BitVec 32 := Scalar.addi c0_i32_1117 v1357
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1118 : BitVec 32 := 4#32
  let v1359 : BitVec 32 := Scalar.muli v5 c4_i32_1118
  let v1360 : BitVec 32 := Scalar.addi v1358 v1359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1119 : BitVec 32 := 1#32
  let v1361 : BitVec 32 := Scalar.muli v8 c1_i32_1119
  let v1362 : BitVec 32 := Scalar.addi v1360 v1361
  v1362.toNat
def k0_dev149 (d0 : Dev nD) : Nat :=
  let c0_i32_1140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1139 : BitVec 32 := 16#32
  let v1385 : BitVec 32 := Scalar.muli v2 c16_i32_1139
  let v1386 : BitVec 32 := Scalar.addi c0_i32_1140 v1385
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1141 : BitVec 32 := 4#32
  let v1387 : BitVec 32 := Scalar.muli v12 c4_i32_1141
  let v1388 : BitVec 32 := Scalar.addi v1386 v1387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1142 : BitVec 32 := 1#32
  let v1389 : BitVec 32 := Scalar.muli v8 c1_i32_1142
  let v1390 : BitVec 32 := Scalar.addi v1388 v1389
  v1390.toNat
def k0_dev150 (d0 : Dev nD) : Nat :=
  let c0_i32_1166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1165 : BitVec 32 := 16#32
  let v1413 : BitVec 32 := Scalar.muli v2 c16_i32_1165
  let v1414 : BitVec 32 := Scalar.addi c0_i32_1166 v1413
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1167 : BitVec 32 := 4#32
  let v1415 : BitVec 32 := Scalar.muli v13 c4_i32_1167
  let v1416 : BitVec 32 := Scalar.addi v1414 v1415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1168 : BitVec 32 := 1#32
  let v1417 : BitVec 32 := Scalar.muli v8 c1_i32_1168
  let v1418 : BitVec 32 := Scalar.addi v1416 v1417
  v1418.toNat
def k0_dev151 (d0 : Dev nD) : Nat :=
  let c0_i32_1182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1181 : BitVec 32 := 16#32
  let v1431 : BitVec 32 := Scalar.muli v9 c16_i32_1181
  let v1432 : BitVec 32 := Scalar.addi c0_i32_1182 v1431
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1183 : BitVec 32 := 4#32
  let v1433 : BitVec 32 := Scalar.muli v5 c4_i32_1183
  let v1434 : BitVec 32 := Scalar.addi v1432 v1433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1435 : BitVec 32 := Scalar.muli v8 c1_i32_1184
  let v1436 : BitVec 32 := Scalar.addi v1434 v1435
  v1436.toNat
def k0_dev152 (d0 : Dev nD) : Nat :=
  let c0_i32_1205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1204 : BitVec 32 := 16#32
  let v1459 : BitVec 32 := Scalar.muli v2 c16_i32_1204
  let v1460 : BitVec 32 := Scalar.addi c0_i32_1205 v1459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1206 : BitVec 32 := 4#32
  let v1461 : BitVec 32 := Scalar.muli v12 c4_i32_1206
  let v1462 : BitVec 32 := Scalar.addi v1460 v1461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1463 : BitVec 32 := Scalar.muli v8 c1_i32_1207
  let v1464 : BitVec 32 := Scalar.addi v1462 v1463
  v1464.toNat
def k0_dev153 (d0 : Dev nD) : Nat :=
  let c0_i32_1231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1230 : BitVec 32 := 16#32
  let v1487 : BitVec 32 := Scalar.muli v2 c16_i32_1230
  let v1488 : BitVec 32 := Scalar.addi c0_i32_1231 v1487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1232 : BitVec 32 := 4#32
  let v1489 : BitVec 32 := Scalar.muli v13 c4_i32_1232
  let v1490 : BitVec 32 := Scalar.addi v1488 v1489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1491 : BitVec 32 := Scalar.muli v8 c1_i32_1233
  let v1492 : BitVec 32 := Scalar.addi v1490 v1491
  v1492.toNat
def k0_dev154 (d0 : Dev nD) : Nat :=
  let c0_i32_1247 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1246 : BitVec 32 := 16#32
  let v1505 : BitVec 32 := Scalar.muli v9 c16_i32_1246
  let v1506 : BitVec 32 := Scalar.addi c0_i32_1247 v1505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1248 : BitVec 32 := 4#32
  let v1507 : BitVec 32 := Scalar.muli v5 c4_i32_1248
  let v1508 : BitVec 32 := Scalar.addi v1506 v1507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1249 : BitVec 32 := 1#32
  let v1509 : BitVec 32 := Scalar.muli v8 c1_i32_1249
  let v1510 : BitVec 32 := Scalar.addi v1508 v1509
  v1510.toNat
def k0_dev155 (d0 : Dev nD) : Nat :=
  let c0_i32_1270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1269 : BitVec 32 := 16#32
  let v1533 : BitVec 32 := Scalar.muli v2 c16_i32_1269
  let v1534 : BitVec 32 := Scalar.addi c0_i32_1270 v1533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1271 : BitVec 32 := 4#32
  let v1535 : BitVec 32 := Scalar.muli v12 c4_i32_1271
  let v1536 : BitVec 32 := Scalar.addi v1534 v1535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1537 : BitVec 32 := Scalar.muli v8 c1_i32_1272
  let v1538 : BitVec 32 := Scalar.addi v1536 v1537
  v1538.toNat
def k0_dev156 (d0 : Dev nD) : Nat :=
  let c0_i32_1296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1295 : BitVec 32 := 16#32
  let v1561 : BitVec 32 := Scalar.muli v2 c16_i32_1295
  let v1562 : BitVec 32 := Scalar.addi c0_i32_1296 v1561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1297 : BitVec 32 := 4#32
  let v1563 : BitVec 32 := Scalar.muli v13 c4_i32_1297
  let v1564 : BitVec 32 := Scalar.addi v1562 v1563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1298 : BitVec 32 := 1#32
  let v1565 : BitVec 32 := Scalar.muli v8 c1_i32_1298
  let v1566 : BitVec 32 := Scalar.addi v1564 v1565
  v1566.toNat
def k0_dev157 (d0 : Dev nD) : Nat :=
  let c0_i32_1312 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1311 : BitVec 32 := 16#32
  let v1579 : BitVec 32 := Scalar.muli v9 c16_i32_1311
  let v1580 : BitVec 32 := Scalar.addi c0_i32_1312 v1579
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1581 : BitVec 32 := Scalar.muli v5 c4_i32_1313
  let v1582 : BitVec 32 := Scalar.addi v1580 v1581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1583 : BitVec 32 := Scalar.muli v8 c1_i32_1314
  let v1584 : BitVec 32 := Scalar.addi v1582 v1583
  v1584.toNat
def k0_dev158 (d0 : Dev nD) : Nat :=
  let c0_i32_1335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1334 : BitVec 32 := 16#32
  let v1607 : BitVec 32 := Scalar.muli v2 c16_i32_1334
  let v1608 : BitVec 32 := Scalar.addi c0_i32_1335 v1607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1336 : BitVec 32 := 4#32
  let v1609 : BitVec 32 := Scalar.muli v12 c4_i32_1336
  let v1610 : BitVec 32 := Scalar.addi v1608 v1609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1337 : BitVec 32 := 1#32
  let v1611 : BitVec 32 := Scalar.muli v8 c1_i32_1337
  let v1612 : BitVec 32 := Scalar.addi v1610 v1611
  v1612.toNat
def k0_dev159 (d0 : Dev nD) : Nat :=
  let c0_i32_1361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1360 : BitVec 32 := 16#32
  let v1635 : BitVec 32 := Scalar.muli v2 c16_i32_1360
  let v1636 : BitVec 32 := Scalar.addi c0_i32_1361 v1635
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1362 : BitVec 32 := 4#32
  let v1637 : BitVec 32 := Scalar.muli v13 c4_i32_1362
  let v1638 : BitVec 32 := Scalar.addi v1636 v1637
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1363 : BitVec 32 := 1#32
  let v1639 : BitVec 32 := Scalar.muli v8 c1_i32_1363
  let v1640 : BitVec 32 := Scalar.addi v1638 v1639
  v1640.toNat
def k0_dev160 (d0 : Dev nD) : Nat :=
  let c0_i32_1377 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1376 : BitVec 32 := 16#32
  let v1653 : BitVec 32 := Scalar.muli v9 c16_i32_1376
  let v1654 : BitVec 32 := Scalar.addi c0_i32_1377 v1653
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1378 : BitVec 32 := 4#32
  let v1655 : BitVec 32 := Scalar.muli v5 c4_i32_1378
  let v1656 : BitVec 32 := Scalar.addi v1654 v1655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1379 : BitVec 32 := 1#32
  let v1657 : BitVec 32 := Scalar.muli v8 c1_i32_1379
  let v1658 : BitVec 32 := Scalar.addi v1656 v1657
  v1658.toNat
def k0_dev161 (d0 : Dev nD) : Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1399 : BitVec 32 := 16#32
  let v1681 : BitVec 32 := Scalar.muli v2 c16_i32_1399
  let v1682 : BitVec 32 := Scalar.addi c0_i32_1400 v1681
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1401 : BitVec 32 := 4#32
  let v1683 : BitVec 32 := Scalar.muli v12 c4_i32_1401
  let v1684 : BitVec 32 := Scalar.addi v1682 v1683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1402 : BitVec 32 := 1#32
  let v1685 : BitVec 32 := Scalar.muli v8 c1_i32_1402
  let v1686 : BitVec 32 := Scalar.addi v1684 v1685
  v1686.toNat
def k0_dev162 (d0 : Dev nD) : Nat :=
  let c0_i32_1426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1425 : BitVec 32 := 16#32
  let v1709 : BitVec 32 := Scalar.muli v2 c16_i32_1425
  let v1710 : BitVec 32 := Scalar.addi c0_i32_1426 v1709
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1427 : BitVec 32 := 4#32
  let v1711 : BitVec 32 := Scalar.muli v13 c4_i32_1427
  let v1712 : BitVec 32 := Scalar.addi v1710 v1711
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1428 : BitVec 32 := 1#32
  let v1713 : BitVec 32 := Scalar.muli v8 c1_i32_1428
  let v1714 : BitVec 32 := Scalar.addi v1712 v1713
  v1714.toNat
def k0_dev163 (d0 : Dev nD) : Nat :=
  let c0_i32_1442 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1441 : BitVec 32 := 16#32
  let v1727 : BitVec 32 := Scalar.muli v9 c16_i32_1441
  let v1728 : BitVec 32 := Scalar.addi c0_i32_1442 v1727
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1443 : BitVec 32 := 4#32
  let v1729 : BitVec 32 := Scalar.muli v5 c4_i32_1443
  let v1730 : BitVec 32 := Scalar.addi v1728 v1729
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1444 : BitVec 32 := 1#32
  let v1731 : BitVec 32 := Scalar.muli v8 c1_i32_1444
  let v1732 : BitVec 32 := Scalar.addi v1730 v1731
  v1732.toNat
def k0_dev164 (d0 : Dev nD) : Nat :=
  let c0_i32_1465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1464 : BitVec 32 := 16#32
  let v1755 : BitVec 32 := Scalar.muli v2 c16_i32_1464
  let v1756 : BitVec 32 := Scalar.addi c0_i32_1465 v1755
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1466 : BitVec 32 := 4#32
  let v1757 : BitVec 32 := Scalar.muli v12 c4_i32_1466
  let v1758 : BitVec 32 := Scalar.addi v1756 v1757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1467 : BitVec 32 := 1#32
  let v1759 : BitVec 32 := Scalar.muli v8 c1_i32_1467
  let v1760 : BitVec 32 := Scalar.addi v1758 v1759
  v1760.toNat
def k0_dev165 (d0 : Dev nD) : Nat :=
  let c0_i32_1491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1490 : BitVec 32 := 16#32
  let v1783 : BitVec 32 := Scalar.muli v2 c16_i32_1490
  let v1784 : BitVec 32 := Scalar.addi c0_i32_1491 v1783
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1492 : BitVec 32 := 4#32
  let v1785 : BitVec 32 := Scalar.muli v13 c4_i32_1492
  let v1786 : BitVec 32 := Scalar.addi v1784 v1785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1493 : BitVec 32 := 1#32
  let v1787 : BitVec 32 := Scalar.muli v8 c1_i32_1493
  let v1788 : BitVec 32 := Scalar.addi v1786 v1787
  v1788.toNat
def k0_dev166 (d0 : Dev nD) : Nat :=
  let c0_i32_1507 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1506 : BitVec 32 := 16#32
  let v1801 : BitVec 32 := Scalar.muli v9 c16_i32_1506
  let v1802 : BitVec 32 := Scalar.addi c0_i32_1507 v1801
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1508 : BitVec 32 := 4#32
  let v1803 : BitVec 32 := Scalar.muli v5 c4_i32_1508
  let v1804 : BitVec 32 := Scalar.addi v1802 v1803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1509 : BitVec 32 := 1#32
  let v1805 : BitVec 32 := Scalar.muli v8 c1_i32_1509
  let v1806 : BitVec 32 := Scalar.addi v1804 v1805
  v1806.toNat
def k0_dev167 (d0 : Dev nD) : Nat :=
  let c0_i32_1530 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1529 : BitVec 32 := 16#32
  let v1829 : BitVec 32 := Scalar.muli v2 c16_i32_1529
  let v1830 : BitVec 32 := Scalar.addi c0_i32_1530 v1829
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1531 : BitVec 32 := 4#32
  let v1831 : BitVec 32 := Scalar.muli v12 c4_i32_1531
  let v1832 : BitVec 32 := Scalar.addi v1830 v1831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1532 : BitVec 32 := 1#32
  let v1833 : BitVec 32 := Scalar.muli v8 c1_i32_1532
  let v1834 : BitVec 32 := Scalar.addi v1832 v1833
  v1834.toNat
def k0_dev168 (d0 : Dev nD) : Nat :=
  let c0_i32_1556 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1555 : BitVec 32 := 16#32
  let v1857 : BitVec 32 := Scalar.muli v2 c16_i32_1555
  let v1858 : BitVec 32 := Scalar.addi c0_i32_1556 v1857
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1557 : BitVec 32 := 4#32
  let v1859 : BitVec 32 := Scalar.muli v13 c4_i32_1557
  let v1860 : BitVec 32 := Scalar.addi v1858 v1859
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1558 : BitVec 32 := 1#32
  let v1861 : BitVec 32 := Scalar.muli v8 c1_i32_1558
  let v1862 : BitVec 32 := Scalar.addi v1860 v1861
  v1862.toNat
def k0_dev169 (d0 : Dev nD) : Nat :=
  let c0_i32_1572 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1571 : BitVec 32 := 16#32
  let v1875 : BitVec 32 := Scalar.muli v9 c16_i32_1571
  let v1876 : BitVec 32 := Scalar.addi c0_i32_1572 v1875
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1573 : BitVec 32 := 4#32
  let v1877 : BitVec 32 := Scalar.muli v5 c4_i32_1573
  let v1878 : BitVec 32 := Scalar.addi v1876 v1877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1574 : BitVec 32 := 1#32
  let v1879 : BitVec 32 := Scalar.muli v8 c1_i32_1574
  let v1880 : BitVec 32 := Scalar.addi v1878 v1879
  v1880.toNat
def k0_dev170 (d0 : Dev nD) : Nat :=
  let c0_i32_1595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1594 : BitVec 32 := 16#32
  let v1903 : BitVec 32 := Scalar.muli v2 c16_i32_1594
  let v1904 : BitVec 32 := Scalar.addi c0_i32_1595 v1903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1596 : BitVec 32 := 4#32
  let v1905 : BitVec 32 := Scalar.muli v12 c4_i32_1596
  let v1906 : BitVec 32 := Scalar.addi v1904 v1905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1597 : BitVec 32 := 1#32
  let v1907 : BitVec 32 := Scalar.muli v8 c1_i32_1597
  let v1908 : BitVec 32 := Scalar.addi v1906 v1907
  v1908.toNat
def k0_dev171 (d0 : Dev nD) : Nat :=
  let c0_i32_1621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1620 : BitVec 32 := 16#32
  let v1931 : BitVec 32 := Scalar.muli v2 c16_i32_1620
  let v1932 : BitVec 32 := Scalar.addi c0_i32_1621 v1931
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1622 : BitVec 32 := 4#32
  let v1933 : BitVec 32 := Scalar.muli v13 c4_i32_1622
  let v1934 : BitVec 32 := Scalar.addi v1932 v1933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1623 : BitVec 32 := 1#32
  let v1935 : BitVec 32 := Scalar.muli v8 c1_i32_1623
  let v1936 : BitVec 32 := Scalar.addi v1934 v1935
  v1936.toNat
def k0_dev172 (d0 : Dev nD) : Nat :=
  let c0_i32_1637 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1636 : BitVec 32 := 16#32
  let v1949 : BitVec 32 := Scalar.muli v9 c16_i32_1636
  let v1950 : BitVec 32 := Scalar.addi c0_i32_1637 v1949
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1638 : BitVec 32 := 4#32
  let v1951 : BitVec 32 := Scalar.muli v5 c4_i32_1638
  let v1952 : BitVec 32 := Scalar.addi v1950 v1951
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1639 : BitVec 32 := 1#32
  let v1953 : BitVec 32 := Scalar.muli v8 c1_i32_1639
  let v1954 : BitVec 32 := Scalar.addi v1952 v1953
  v1954.toNat
def k0_dev173 (d0 : Dev nD) : Nat :=
  let c0_i32_1660 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1659 : BitVec 32 := 16#32
  let v1977 : BitVec 32 := Scalar.muli v2 c16_i32_1659
  let v1978 : BitVec 32 := Scalar.addi c0_i32_1660 v1977
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1661 : BitVec 32 := 4#32
  let v1979 : BitVec 32 := Scalar.muli v12 c4_i32_1661
  let v1980 : BitVec 32 := Scalar.addi v1978 v1979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1662 : BitVec 32 := 1#32
  let v1981 : BitVec 32 := Scalar.muli v8 c1_i32_1662
  let v1982 : BitVec 32 := Scalar.addi v1980 v1981
  v1982.toNat
def k0_dev174 (d0 : Dev nD) : Nat :=
  let c0_i32_1686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1685 : BitVec 32 := 16#32
  let v2005 : BitVec 32 := Scalar.muli v2 c16_i32_1685
  let v2006 : BitVec 32 := Scalar.addi c0_i32_1686 v2005
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1687 : BitVec 32 := 4#32
  let v2007 : BitVec 32 := Scalar.muli v13 c4_i32_1687
  let v2008 : BitVec 32 := Scalar.addi v2006 v2007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1688 : BitVec 32 := 1#32
  let v2009 : BitVec 32 := Scalar.muli v8 c1_i32_1688
  let v2010 : BitVec 32 := Scalar.addi v2008 v2009
  v2010.toNat
def k0_dev175 (d0 : Dev nD) : Nat :=
  let c0_i32_1702 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1701 : BitVec 32 := 16#32
  let v2023 : BitVec 32 := Scalar.muli v9 c16_i32_1701
  let v2024 : BitVec 32 := Scalar.addi c0_i32_1702 v2023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1703 : BitVec 32 := 4#32
  let v2025 : BitVec 32 := Scalar.muli v5 c4_i32_1703
  let v2026 : BitVec 32 := Scalar.addi v2024 v2025
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2027 : BitVec 32 := Scalar.muli v8 c1_i32_1704
  let v2028 : BitVec 32 := Scalar.addi v2026 v2027
  v2028.toNat
def k0_dev176 (d0 : Dev nD) : Nat :=
  let c0_i32_1726 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1725 : BitVec 32 := 16#32
  let v2051 : BitVec 32 := Scalar.muli v2 c16_i32_1725
  let v2052 : BitVec 32 := Scalar.addi c0_i32_1726 v2051
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1727 : BitVec 32 := 4#32
  let v2053 : BitVec 32 := Scalar.muli v13 c4_i32_1727
  let v2054 : BitVec 32 := Scalar.addi v2052 v2053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1728 : BitVec 32 := 1#32
  let v2055 : BitVec 32 := Scalar.muli v8 c1_i32_1728
  let v2056 : BitVec 32 := Scalar.addi v2054 v2055
  v2056.toNat
def k0_dev177 (d0 : Dev nD) : Nat :=
  let c0_i32_1742 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1741 : BitVec 32 := 16#32
  let v2069 : BitVec 32 := Scalar.muli v9 c16_i32_1741
  let v2070 : BitVec 32 := Scalar.addi c0_i32_1742 v2069
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1743 : BitVec 32 := 4#32
  let v2071 : BitVec 32 := Scalar.muli v5 c4_i32_1743
  let v2072 : BitVec 32 := Scalar.addi v2070 v2071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1744 : BitVec 32 := 1#32
  let v2073 : BitVec 32 := Scalar.muli v8 c1_i32_1744
  let v2074 : BitVec 32 := Scalar.addi v2072 v2073
  v2074.toNat
def k0_dev178 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2097 : BitVec 32 := Scalar.muli v2 c16_i32_1765
  let v2098 : BitVec 32 := Scalar.addi c0_i32_1766 v2097
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1767 : BitVec 32 := 4#32
  let v2099 : BitVec 32 := Scalar.muli v13 c4_i32_1767
  let v2100 : BitVec 32 := Scalar.addi v2098 v2099
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2101 : BitVec 32 := Scalar.muli v8 c1_i32_1768
  let v2102 : BitVec 32 := Scalar.addi v2100 v2101
  v2102.toNat
def k0_dev179 (d0 : Dev nD) : Nat :=
  let c0_i32_1782 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1781 : BitVec 32 := 16#32
  let v2115 : BitVec 32 := Scalar.muli v9 c16_i32_1781
  let v2116 : BitVec 32 := Scalar.addi c0_i32_1782 v2115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1783 : BitVec 32 := 4#32
  let v2117 : BitVec 32 := Scalar.muli v5 c4_i32_1783
  let v2118 : BitVec 32 := Scalar.addi v2116 v2117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2119 : BitVec 32 := Scalar.muli v8 c1_i32_1784
  let v2120 : BitVec 32 := Scalar.addi v2118 v2119
  v2120.toNat
def k0_dev180 (d0 : Dev nD) : Nat :=
  let c0_i32_1806 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1805 : BitVec 32 := 16#32
  let v2143 : BitVec 32 := Scalar.muli v2 c16_i32_1805
  let v2144 : BitVec 32 := Scalar.addi c0_i32_1806 v2143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1807 : BitVec 32 := 4#32
  let v2145 : BitVec 32 := Scalar.muli v13 c4_i32_1807
  let v2146 : BitVec 32 := Scalar.addi v2144 v2145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1808 : BitVec 32 := 1#32
  let v2147 : BitVec 32 := Scalar.muli v8 c1_i32_1808
  let v2148 : BitVec 32 := Scalar.addi v2146 v2147
  v2148.toNat
def k0_dev181 (d0 : Dev nD) : Nat :=
  let c0_i32_1822 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1821 : BitVec 32 := 16#32
  let v2161 : BitVec 32 := Scalar.muli v9 c16_i32_1821
  let v2162 : BitVec 32 := Scalar.addi c0_i32_1822 v2161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1823 : BitVec 32 := 4#32
  let v2163 : BitVec 32 := Scalar.muli v5 c4_i32_1823
  let v2164 : BitVec 32 := Scalar.addi v2162 v2163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1824 : BitVec 32 := 1#32
  let v2165 : BitVec 32 := Scalar.muli v8 c1_i32_1824
  let v2166 : BitVec 32 := Scalar.addi v2164 v2165
  v2166.toNat
def k0_dev182 (d0 : Dev nD) : Nat :=
  let c0_i32_1846 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1845 : BitVec 32 := 16#32
  let v2189 : BitVec 32 := Scalar.muli v2 c16_i32_1845
  let v2190 : BitVec 32 := Scalar.addi c0_i32_1846 v2189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1847 : BitVec 32 := 4#32
  let v2191 : BitVec 32 := Scalar.muli v13 c4_i32_1847
  let v2192 : BitVec 32 := Scalar.addi v2190 v2191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1848 : BitVec 32 := 1#32
  let v2193 : BitVec 32 := Scalar.muli v8 c1_i32_1848
  let v2194 : BitVec 32 := Scalar.addi v2192 v2193
  v2194.toNat
def k0_dev183 (d0 : Dev nD) : Nat :=
  let c0_i32_1862 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1861 : BitVec 32 := 16#32
  let v2207 : BitVec 32 := Scalar.muli v9 c16_i32_1861
  let v2208 : BitVec 32 := Scalar.addi c0_i32_1862 v2207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1863 : BitVec 32 := 4#32
  let v2209 : BitVec 32 := Scalar.muli v5 c4_i32_1863
  let v2210 : BitVec 32 := Scalar.addi v2208 v2209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v2211 : BitVec 32 := Scalar.muli v8 c1_i32_1864
  let v2212 : BitVec 32 := Scalar.addi v2210 v2211
  v2212.toNat
def k0_dev184 (d0 : Dev nD) : Nat :=
  let c0_i32_1886 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1885 : BitVec 32 := 16#32
  let v2235 : BitVec 32 := Scalar.muli v2 c16_i32_1885
  let v2236 : BitVec 32 := Scalar.addi c0_i32_1886 v2235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1887 : BitVec 32 := 4#32
  let v2237 : BitVec 32 := Scalar.muli v13 c4_i32_1887
  let v2238 : BitVec 32 := Scalar.addi v2236 v2237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1888 : BitVec 32 := 1#32
  let v2239 : BitVec 32 := Scalar.muli v8 c1_i32_1888
  let v2240 : BitVec 32 := Scalar.addi v2238 v2239
  v2240.toNat
def k0_dev185 (d0 : Dev nD) : Nat :=
  let c0_i32_1902 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1901 : BitVec 32 := 16#32
  let v2253 : BitVec 32 := Scalar.muli v9 c16_i32_1901
  let v2254 : BitVec 32 := Scalar.addi c0_i32_1902 v2253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1903 : BitVec 32 := 4#32
  let v2255 : BitVec 32 := Scalar.muli v5 c4_i32_1903
  let v2256 : BitVec 32 := Scalar.addi v2254 v2255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1904 : BitVec 32 := 1#32
  let v2257 : BitVec 32 := Scalar.muli v8 c1_i32_1904
  let v2258 : BitVec 32 := Scalar.addi v2256 v2257
  v2258.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_110 : BitVec 32 := 2#32
  let v135 : BitVec 1 := Scalar.cmpi .eq v5 c2_i32_110
  let v136 : BitVec 32 := Scalar.extui v135
  let c0_i32_111 : BitVec 32 := 0#32
  let v137 : BitVec 1 := Scalar.cmpi .ne v136 c0_i32_111
  v137

def k0_dev186 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v867 : BitVec 32 := Scalar.muli v2 c16_i32_689
  let v868 : BitVec 32 := Scalar.addi c0_i32_690 v867
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_691 : BitVec 32 := 4#32
  let v869 : BitVec 32 := Scalar.muli v13 c4_i32_691
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v871 : BitVec 32 := Scalar.muli v8 c1_i32_692
  let v872 : BitVec 32 := Scalar.addi v870 v871
  v872.toNat
def k0_dev187 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v895 : BitVec 32 := Scalar.muli v2 c16_i32_714
  let v896 : BitVec 32 := Scalar.addi c0_i32_715 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_716 : BitVec 32 := 4#32
  let v897 : BitVec 32 := Scalar.muli v12 c4_i32_716
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v899 : BitVec 32 := Scalar.muli v8 c1_i32_717
  let v900 : BitVec 32 := Scalar.addi v898 v899
  v900.toNat
def k0_off9 (d0 : Dev nD) (c176_i32_722 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v907 : BitVec 32 := Scalar.addi v10 c176_i32_722
  let v911 : Index := Scalar.indexCast v907
  let c0_727 : Index := 0#32
  ![v911.toNat, 0]
def k0_off10 (d0 : Dev nD) (c176_i32_722 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v907 : BitVec 32 := Scalar.addi v10 c176_i32_722
  let c0_i32_734 : BitVec 32 := 0#32
  ![v907.toNat, 0]
def k0_dev188 (d0 : Dev nD) : Nat :=
  let c0_i32_731 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_730 : BitVec 32 := 16#32
  let v913 : BitVec 32 := Scalar.muli v9 c16_i32_730
  let v914 : BitVec 32 := Scalar.addi c0_i32_731 v913
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_732 : BitVec 32 := 4#32
  let v915 : BitVec 32 := Scalar.muli v5 c4_i32_732
  let v916 : BitVec 32 := Scalar.addi v914 v915
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_733 : BitVec 32 := 1#32
  let v917 : BitVec 32 := Scalar.muli v8 c1_i32_733
  let v918 : BitVec 32 := Scalar.addi v916 v917
  v918.toNat
def k0_dev189 (d0 : Dev nD) : Nat :=
  let c0_i32_754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_753 : BitVec 32 := 16#32
  let v941 : BitVec 32 := Scalar.muli v2 c16_i32_753
  let v942 : BitVec 32 := Scalar.addi c0_i32_754 v941
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_755 : BitVec 32 := 4#32
  let v943 : BitVec 32 := Scalar.muli v13 c4_i32_755
  let v944 : BitVec 32 := Scalar.addi v942 v943
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_756 : BitVec 32 := 1#32
  let v945 : BitVec 32 := Scalar.muli v8 c1_i32_756
  let v946 : BitVec 32 := Scalar.addi v944 v945
  v946.toNat
def k0_dev190 (d0 : Dev nD) : Nat :=
  let c0_i32_779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_778 : BitVec 32 := 16#32
  let v969 : BitVec 32 := Scalar.muli v2 c16_i32_778
  let v970 : BitVec 32 := Scalar.addi c0_i32_779 v969
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_780 : BitVec 32 := 4#32
  let v971 : BitVec 32 := Scalar.muli v12 c4_i32_780
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_781 : BitVec 32 := 1#32
  let v973 : BitVec 32 := Scalar.muli v8 c1_i32_781
  let v974 : BitVec 32 := Scalar.addi v972 v973
  v974.toNat
def k0_dev191 (d0 : Dev nD) : Nat :=
  let c0_i32_795 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_794 : BitVec 32 := 16#32
  let v987 : BitVec 32 := Scalar.muli v9 c16_i32_794
  let v988 : BitVec 32 := Scalar.addi c0_i32_795 v987
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_796 : BitVec 32 := 4#32
  let v989 : BitVec 32 := Scalar.muli v5 c4_i32_796
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v991 : BitVec 32 := Scalar.muli v8 c1_i32_797
  let v992 : BitVec 32 := Scalar.addi v990 v991
  v992.toNat
def k0_dev192 (d0 : Dev nD) : Nat :=
  let c0_i32_818 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_817 : BitVec 32 := 16#32
  let v1015 : BitVec 32 := Scalar.muli v2 c16_i32_817
  let v1016 : BitVec 32 := Scalar.addi c0_i32_818 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_819 : BitVec 32 := 4#32
  let v1017 : BitVec 32 := Scalar.muli v13 c4_i32_819
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_820 : BitVec 32 := 1#32
  let v1019 : BitVec 32 := Scalar.muli v8 c1_i32_820
  let v1020 : BitVec 32 := Scalar.addi v1018 v1019
  v1020.toNat
def k0_dev193 (d0 : Dev nD) : Nat :=
  let c0_i32_843 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_842 : BitVec 32 := 16#32
  let v1043 : BitVec 32 := Scalar.muli v2 c16_i32_842
  let v1044 : BitVec 32 := Scalar.addi c0_i32_843 v1043
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_844 : BitVec 32 := 4#32
  let v1045 : BitVec 32 := Scalar.muli v12 c4_i32_844
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_845 : BitVec 32 := 1#32
  let v1047 : BitVec 32 := Scalar.muli v8 c1_i32_845
  let v1048 : BitVec 32 := Scalar.addi v1046 v1047
  v1048.toNat
def k0_dev194 (d0 : Dev nD) : Nat :=
  let c0_i32_859 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_858 : BitVec 32 := 16#32
  let v1061 : BitVec 32 := Scalar.muli v9 c16_i32_858
  let v1062 : BitVec 32 := Scalar.addi c0_i32_859 v1061
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v1063 : BitVec 32 := Scalar.muli v5 c4_i32_860
  let v1064 : BitVec 32 := Scalar.addi v1062 v1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v1065 : BitVec 32 := Scalar.muli v8 c1_i32_861
  let v1066 : BitVec 32 := Scalar.addi v1064 v1065
  v1066.toNat
def k0_dev195 (d0 : Dev nD) : Nat :=
  let c0_i32_882 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_881 : BitVec 32 := 16#32
  let v1089 : BitVec 32 := Scalar.muli v2 c16_i32_881
  let v1090 : BitVec 32 := Scalar.addi c0_i32_882 v1089
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_883 : BitVec 32 := 4#32
  let v1091 : BitVec 32 := Scalar.muli v13 c4_i32_883
  let v1092 : BitVec 32 := Scalar.addi v1090 v1091
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_884 : BitVec 32 := 1#32
  let v1093 : BitVec 32 := Scalar.muli v8 c1_i32_884
  let v1094 : BitVec 32 := Scalar.addi v1092 v1093
  v1094.toNat
def k0_dev196 (d0 : Dev nD) : Nat :=
  let c0_i32_907 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_906 : BitVec 32 := 16#32
  let v1117 : BitVec 32 := Scalar.muli v2 c16_i32_906
  let v1118 : BitVec 32 := Scalar.addi c0_i32_907 v1117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_908 : BitVec 32 := 4#32
  let v1119 : BitVec 32 := Scalar.muli v12 c4_i32_908
  let v1120 : BitVec 32 := Scalar.addi v1118 v1119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_909 : BitVec 32 := 1#32
  let v1121 : BitVec 32 := Scalar.muli v8 c1_i32_909
  let v1122 : BitVec 32 := Scalar.addi v1120 v1121
  v1122.toNat
def k0_dev197 (d0 : Dev nD) : Nat :=
  let c0_i32_923 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_922 : BitVec 32 := 16#32
  let v1135 : BitVec 32 := Scalar.muli v9 c16_i32_922
  let v1136 : BitVec 32 := Scalar.addi c0_i32_923 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_924 : BitVec 32 := 4#32
  let v1137 : BitVec 32 := Scalar.muli v5 c4_i32_924
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_925 : BitVec 32 := 1#32
  let v1139 : BitVec 32 := Scalar.muli v8 c1_i32_925
  let v1140 : BitVec 32 := Scalar.addi v1138 v1139
  v1140.toNat
def k0_dev198 (d0 : Dev nD) : Nat :=
  let c0_i32_946 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_945 : BitVec 32 := 16#32
  let v1163 : BitVec 32 := Scalar.muli v2 c16_i32_945
  let v1164 : BitVec 32 := Scalar.addi c0_i32_946 v1163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_947 : BitVec 32 := 4#32
  let v1165 : BitVec 32 := Scalar.muli v13 c4_i32_947
  let v1166 : BitVec 32 := Scalar.addi v1164 v1165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_948 : BitVec 32 := 1#32
  let v1167 : BitVec 32 := Scalar.muli v8 c1_i32_948
  let v1168 : BitVec 32 := Scalar.addi v1166 v1167
  v1168.toNat
def k0_dev199 (d0 : Dev nD) : Nat :=
  let c0_i32_971 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_970 : BitVec 32 := 16#32
  let v1191 : BitVec 32 := Scalar.muli v2 c16_i32_970
  let v1192 : BitVec 32 := Scalar.addi c0_i32_971 v1191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_972 : BitVec 32 := 4#32
  let v1193 : BitVec 32 := Scalar.muli v12 c4_i32_972
  let v1194 : BitVec 32 := Scalar.addi v1192 v1193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_973 : BitVec 32 := 1#32
  let v1195 : BitVec 32 := Scalar.muli v8 c1_i32_973
  let v1196 : BitVec 32 := Scalar.addi v1194 v1195
  v1196.toNat
def k0_dev200 (d0 : Dev nD) : Nat :=
  let c0_i32_987 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_986 : BitVec 32 := 16#32
  let v1209 : BitVec 32 := Scalar.muli v9 c16_i32_986
  let v1210 : BitVec 32 := Scalar.addi c0_i32_987 v1209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_988 : BitVec 32 := 4#32
  let v1211 : BitVec 32 := Scalar.muli v5 c4_i32_988
  let v1212 : BitVec 32 := Scalar.addi v1210 v1211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1213 : BitVec 32 := Scalar.muli v8 c1_i32_989
  let v1214 : BitVec 32 := Scalar.addi v1212 v1213
  v1214.toNat
def k0_dev201 (d0 : Dev nD) : Nat :=
  let c0_i32_1010 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1009 : BitVec 32 := 16#32
  let v1237 : BitVec 32 := Scalar.muli v2 c16_i32_1009
  let v1238 : BitVec 32 := Scalar.addi c0_i32_1010 v1237
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1011 : BitVec 32 := 4#32
  let v1239 : BitVec 32 := Scalar.muli v13 c4_i32_1011
  let v1240 : BitVec 32 := Scalar.addi v1238 v1239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1012 : BitVec 32 := 1#32
  let v1241 : BitVec 32 := Scalar.muli v8 c1_i32_1012
  let v1242 : BitVec 32 := Scalar.addi v1240 v1241
  v1242.toNat
def k0_dev202 (d0 : Dev nD) : Nat :=
  let c0_i32_1036 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1035 : BitVec 32 := 16#32
  let v1265 : BitVec 32 := Scalar.muli v2 c16_i32_1035
  let v1266 : BitVec 32 := Scalar.addi c0_i32_1036 v1265
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1037 : BitVec 32 := 4#32
  let v1267 : BitVec 32 := Scalar.muli v12 c4_i32_1037
  let v1268 : BitVec 32 := Scalar.addi v1266 v1267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1038 : BitVec 32 := 1#32
  let v1269 : BitVec 32 := Scalar.muli v8 c1_i32_1038
  let v1270 : BitVec 32 := Scalar.addi v1268 v1269
  v1270.toNat
def k0_dev203 (d0 : Dev nD) : Nat :=
  let c0_i32_1052 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1051 : BitVec 32 := 16#32
  let v1283 : BitVec 32 := Scalar.muli v9 c16_i32_1051
  let v1284 : BitVec 32 := Scalar.addi c0_i32_1052 v1283
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1053 : BitVec 32 := 4#32
  let v1285 : BitVec 32 := Scalar.muli v5 c4_i32_1053
  let v1286 : BitVec 32 := Scalar.addi v1284 v1285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1054 : BitVec 32 := 1#32
  let v1287 : BitVec 32 := Scalar.muli v8 c1_i32_1054
  let v1288 : BitVec 32 := Scalar.addi v1286 v1287
  v1288.toNat
def k0_dev204 (d0 : Dev nD) : Nat :=
  let c0_i32_1075 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1074 : BitVec 32 := 16#32
  let v1311 : BitVec 32 := Scalar.muli v2 c16_i32_1074
  let v1312 : BitVec 32 := Scalar.addi c0_i32_1075 v1311
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1076 : BitVec 32 := 4#32
  let v1313 : BitVec 32 := Scalar.muli v13 c4_i32_1076
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1077 : BitVec 32 := 1#32
  let v1315 : BitVec 32 := Scalar.muli v8 c1_i32_1077
  let v1316 : BitVec 32 := Scalar.addi v1314 v1315
  v1316.toNat
def k0_dev205 (d0 : Dev nD) : Nat :=
  let c0_i32_1101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1100 : BitVec 32 := 16#32
  let v1339 : BitVec 32 := Scalar.muli v2 c16_i32_1100
  let v1340 : BitVec 32 := Scalar.addi c0_i32_1101 v1339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1102 : BitVec 32 := 4#32
  let v1341 : BitVec 32 := Scalar.muli v12 c4_i32_1102
  let v1342 : BitVec 32 := Scalar.addi v1340 v1341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1103 : BitVec 32 := 1#32
  let v1343 : BitVec 32 := Scalar.muli v8 c1_i32_1103
  let v1344 : BitVec 32 := Scalar.addi v1342 v1343
  v1344.toNat
def k0_dev206 (d0 : Dev nD) : Nat :=
  let c0_i32_1117 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1116 : BitVec 32 := 16#32
  let v1357 : BitVec 32 := Scalar.muli v9 c16_i32_1116
  let v1358 : BitVec 32 := Scalar.addi c0_i32_1117 v1357
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1118 : BitVec 32 := 4#32
  let v1359 : BitVec 32 := Scalar.muli v5 c4_i32_1118
  let v1360 : BitVec 32 := Scalar.addi v1358 v1359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1119 : BitVec 32 := 1#32
  let v1361 : BitVec 32 := Scalar.muli v8 c1_i32_1119
  let v1362 : BitVec 32 := Scalar.addi v1360 v1361
  v1362.toNat
def k0_dev207 (d0 : Dev nD) : Nat :=
  let c0_i32_1140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1139 : BitVec 32 := 16#32
  let v1385 : BitVec 32 := Scalar.muli v2 c16_i32_1139
  let v1386 : BitVec 32 := Scalar.addi c0_i32_1140 v1385
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1141 : BitVec 32 := 4#32
  let v1387 : BitVec 32 := Scalar.muli v13 c4_i32_1141
  let v1388 : BitVec 32 := Scalar.addi v1386 v1387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1142 : BitVec 32 := 1#32
  let v1389 : BitVec 32 := Scalar.muli v8 c1_i32_1142
  let v1390 : BitVec 32 := Scalar.addi v1388 v1389
  v1390.toNat
def k0_dev208 (d0 : Dev nD) : Nat :=
  let c0_i32_1166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1165 : BitVec 32 := 16#32
  let v1413 : BitVec 32 := Scalar.muli v2 c16_i32_1165
  let v1414 : BitVec 32 := Scalar.addi c0_i32_1166 v1413
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1167 : BitVec 32 := 4#32
  let v1415 : BitVec 32 := Scalar.muli v12 c4_i32_1167
  let v1416 : BitVec 32 := Scalar.addi v1414 v1415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1168 : BitVec 32 := 1#32
  let v1417 : BitVec 32 := Scalar.muli v8 c1_i32_1168
  let v1418 : BitVec 32 := Scalar.addi v1416 v1417
  v1418.toNat
def k0_dev209 (d0 : Dev nD) : Nat :=
  let c0_i32_1182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1181 : BitVec 32 := 16#32
  let v1431 : BitVec 32 := Scalar.muli v9 c16_i32_1181
  let v1432 : BitVec 32 := Scalar.addi c0_i32_1182 v1431
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1183 : BitVec 32 := 4#32
  let v1433 : BitVec 32 := Scalar.muli v5 c4_i32_1183
  let v1434 : BitVec 32 := Scalar.addi v1432 v1433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1435 : BitVec 32 := Scalar.muli v8 c1_i32_1184
  let v1436 : BitVec 32 := Scalar.addi v1434 v1435
  v1436.toNat
def k0_dev210 (d0 : Dev nD) : Nat :=
  let c0_i32_1205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1204 : BitVec 32 := 16#32
  let v1459 : BitVec 32 := Scalar.muli v2 c16_i32_1204
  let v1460 : BitVec 32 := Scalar.addi c0_i32_1205 v1459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1206 : BitVec 32 := 4#32
  let v1461 : BitVec 32 := Scalar.muli v13 c4_i32_1206
  let v1462 : BitVec 32 := Scalar.addi v1460 v1461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1207 : BitVec 32 := 1#32
  let v1463 : BitVec 32 := Scalar.muli v8 c1_i32_1207
  let v1464 : BitVec 32 := Scalar.addi v1462 v1463
  v1464.toNat
def k0_dev211 (d0 : Dev nD) : Nat :=
  let c0_i32_1231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1230 : BitVec 32 := 16#32
  let v1487 : BitVec 32 := Scalar.muli v2 c16_i32_1230
  let v1488 : BitVec 32 := Scalar.addi c0_i32_1231 v1487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1232 : BitVec 32 := 4#32
  let v1489 : BitVec 32 := Scalar.muli v12 c4_i32_1232
  let v1490 : BitVec 32 := Scalar.addi v1488 v1489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1491 : BitVec 32 := Scalar.muli v8 c1_i32_1233
  let v1492 : BitVec 32 := Scalar.addi v1490 v1491
  v1492.toNat
def k0_dev212 (d0 : Dev nD) : Nat :=
  let c0_i32_1247 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1246 : BitVec 32 := 16#32
  let v1505 : BitVec 32 := Scalar.muli v9 c16_i32_1246
  let v1506 : BitVec 32 := Scalar.addi c0_i32_1247 v1505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1248 : BitVec 32 := 4#32
  let v1507 : BitVec 32 := Scalar.muli v5 c4_i32_1248
  let v1508 : BitVec 32 := Scalar.addi v1506 v1507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1249 : BitVec 32 := 1#32
  let v1509 : BitVec 32 := Scalar.muli v8 c1_i32_1249
  let v1510 : BitVec 32 := Scalar.addi v1508 v1509
  v1510.toNat
def k0_dev213 (d0 : Dev nD) : Nat :=
  let c0_i32_1270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1269 : BitVec 32 := 16#32
  let v1533 : BitVec 32 := Scalar.muli v2 c16_i32_1269
  let v1534 : BitVec 32 := Scalar.addi c0_i32_1270 v1533
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1271 : BitVec 32 := 4#32
  let v1535 : BitVec 32 := Scalar.muli v13 c4_i32_1271
  let v1536 : BitVec 32 := Scalar.addi v1534 v1535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1537 : BitVec 32 := Scalar.muli v8 c1_i32_1272
  let v1538 : BitVec 32 := Scalar.addi v1536 v1537
  v1538.toNat
def k0_dev214 (d0 : Dev nD) : Nat :=
  let c0_i32_1296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1295 : BitVec 32 := 16#32
  let v1561 : BitVec 32 := Scalar.muli v2 c16_i32_1295
  let v1562 : BitVec 32 := Scalar.addi c0_i32_1296 v1561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1297 : BitVec 32 := 4#32
  let v1563 : BitVec 32 := Scalar.muli v12 c4_i32_1297
  let v1564 : BitVec 32 := Scalar.addi v1562 v1563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1298 : BitVec 32 := 1#32
  let v1565 : BitVec 32 := Scalar.muli v8 c1_i32_1298
  let v1566 : BitVec 32 := Scalar.addi v1564 v1565
  v1566.toNat
def k0_dev215 (d0 : Dev nD) : Nat :=
  let c0_i32_1312 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1311 : BitVec 32 := 16#32
  let v1579 : BitVec 32 := Scalar.muli v9 c16_i32_1311
  let v1580 : BitVec 32 := Scalar.addi c0_i32_1312 v1579
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1581 : BitVec 32 := Scalar.muli v5 c4_i32_1313
  let v1582 : BitVec 32 := Scalar.addi v1580 v1581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1583 : BitVec 32 := Scalar.muli v8 c1_i32_1314
  let v1584 : BitVec 32 := Scalar.addi v1582 v1583
  v1584.toNat
def k0_dev216 (d0 : Dev nD) : Nat :=
  let c0_i32_1335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1334 : BitVec 32 := 16#32
  let v1607 : BitVec 32 := Scalar.muli v2 c16_i32_1334
  let v1608 : BitVec 32 := Scalar.addi c0_i32_1335 v1607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1336 : BitVec 32 := 4#32
  let v1609 : BitVec 32 := Scalar.muli v13 c4_i32_1336
  let v1610 : BitVec 32 := Scalar.addi v1608 v1609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1337 : BitVec 32 := 1#32
  let v1611 : BitVec 32 := Scalar.muli v8 c1_i32_1337
  let v1612 : BitVec 32 := Scalar.addi v1610 v1611
  v1612.toNat
def k0_dev217 (d0 : Dev nD) : Nat :=
  let c0_i32_1361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1360 : BitVec 32 := 16#32
  let v1635 : BitVec 32 := Scalar.muli v2 c16_i32_1360
  let v1636 : BitVec 32 := Scalar.addi c0_i32_1361 v1635
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1362 : BitVec 32 := 4#32
  let v1637 : BitVec 32 := Scalar.muli v12 c4_i32_1362
  let v1638 : BitVec 32 := Scalar.addi v1636 v1637
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1363 : BitVec 32 := 1#32
  let v1639 : BitVec 32 := Scalar.muli v8 c1_i32_1363
  let v1640 : BitVec 32 := Scalar.addi v1638 v1639
  v1640.toNat
def k0_dev218 (d0 : Dev nD) : Nat :=
  let c0_i32_1377 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1376 : BitVec 32 := 16#32
  let v1653 : BitVec 32 := Scalar.muli v9 c16_i32_1376
  let v1654 : BitVec 32 := Scalar.addi c0_i32_1377 v1653
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1378 : BitVec 32 := 4#32
  let v1655 : BitVec 32 := Scalar.muli v5 c4_i32_1378
  let v1656 : BitVec 32 := Scalar.addi v1654 v1655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1379 : BitVec 32 := 1#32
  let v1657 : BitVec 32 := Scalar.muli v8 c1_i32_1379
  let v1658 : BitVec 32 := Scalar.addi v1656 v1657
  v1658.toNat
def k0_dev219 (d0 : Dev nD) : Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1399 : BitVec 32 := 16#32
  let v1681 : BitVec 32 := Scalar.muli v2 c16_i32_1399
  let v1682 : BitVec 32 := Scalar.addi c0_i32_1400 v1681
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1401 : BitVec 32 := 4#32
  let v1683 : BitVec 32 := Scalar.muli v13 c4_i32_1401
  let v1684 : BitVec 32 := Scalar.addi v1682 v1683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1402 : BitVec 32 := 1#32
  let v1685 : BitVec 32 := Scalar.muli v8 c1_i32_1402
  let v1686 : BitVec 32 := Scalar.addi v1684 v1685
  v1686.toNat
def k0_dev220 (d0 : Dev nD) : Nat :=
  let c0_i32_1426 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1425 : BitVec 32 := 16#32
  let v1709 : BitVec 32 := Scalar.muli v2 c16_i32_1425
  let v1710 : BitVec 32 := Scalar.addi c0_i32_1426 v1709
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1427 : BitVec 32 := 4#32
  let v1711 : BitVec 32 := Scalar.muli v12 c4_i32_1427
  let v1712 : BitVec 32 := Scalar.addi v1710 v1711
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1428 : BitVec 32 := 1#32
  let v1713 : BitVec 32 := Scalar.muli v8 c1_i32_1428
  let v1714 : BitVec 32 := Scalar.addi v1712 v1713
  v1714.toNat
def k0_dev221 (d0 : Dev nD) : Nat :=
  let c0_i32_1442 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1441 : BitVec 32 := 16#32
  let v1727 : BitVec 32 := Scalar.muli v9 c16_i32_1441
  let v1728 : BitVec 32 := Scalar.addi c0_i32_1442 v1727
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1443 : BitVec 32 := 4#32
  let v1729 : BitVec 32 := Scalar.muli v5 c4_i32_1443
  let v1730 : BitVec 32 := Scalar.addi v1728 v1729
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1444 : BitVec 32 := 1#32
  let v1731 : BitVec 32 := Scalar.muli v8 c1_i32_1444
  let v1732 : BitVec 32 := Scalar.addi v1730 v1731
  v1732.toNat
def k0_dev222 (d0 : Dev nD) : Nat :=
  let c0_i32_1465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1464 : BitVec 32 := 16#32
  let v1755 : BitVec 32 := Scalar.muli v2 c16_i32_1464
  let v1756 : BitVec 32 := Scalar.addi c0_i32_1465 v1755
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1466 : BitVec 32 := 4#32
  let v1757 : BitVec 32 := Scalar.muli v13 c4_i32_1466
  let v1758 : BitVec 32 := Scalar.addi v1756 v1757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1467 : BitVec 32 := 1#32
  let v1759 : BitVec 32 := Scalar.muli v8 c1_i32_1467
  let v1760 : BitVec 32 := Scalar.addi v1758 v1759
  v1760.toNat
def k0_dev223 (d0 : Dev nD) : Nat :=
  let c0_i32_1491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1490 : BitVec 32 := 16#32
  let v1783 : BitVec 32 := Scalar.muli v2 c16_i32_1490
  let v1784 : BitVec 32 := Scalar.addi c0_i32_1491 v1783
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1492 : BitVec 32 := 4#32
  let v1785 : BitVec 32 := Scalar.muli v12 c4_i32_1492
  let v1786 : BitVec 32 := Scalar.addi v1784 v1785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1493 : BitVec 32 := 1#32
  let v1787 : BitVec 32 := Scalar.muli v8 c1_i32_1493
  let v1788 : BitVec 32 := Scalar.addi v1786 v1787
  v1788.toNat
def k0_dev224 (d0 : Dev nD) : Nat :=
  let c0_i32_1507 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1506 : BitVec 32 := 16#32
  let v1801 : BitVec 32 := Scalar.muli v9 c16_i32_1506
  let v1802 : BitVec 32 := Scalar.addi c0_i32_1507 v1801
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1508 : BitVec 32 := 4#32
  let v1803 : BitVec 32 := Scalar.muli v5 c4_i32_1508
  let v1804 : BitVec 32 := Scalar.addi v1802 v1803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1509 : BitVec 32 := 1#32
  let v1805 : BitVec 32 := Scalar.muli v8 c1_i32_1509
  let v1806 : BitVec 32 := Scalar.addi v1804 v1805
  v1806.toNat
def k0_dev225 (d0 : Dev nD) : Nat :=
  let c0_i32_1530 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1529 : BitVec 32 := 16#32
  let v1829 : BitVec 32 := Scalar.muli v2 c16_i32_1529
  let v1830 : BitVec 32 := Scalar.addi c0_i32_1530 v1829
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1531 : BitVec 32 := 4#32
  let v1831 : BitVec 32 := Scalar.muli v13 c4_i32_1531
  let v1832 : BitVec 32 := Scalar.addi v1830 v1831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1532 : BitVec 32 := 1#32
  let v1833 : BitVec 32 := Scalar.muli v8 c1_i32_1532
  let v1834 : BitVec 32 := Scalar.addi v1832 v1833
  v1834.toNat
def k0_dev226 (d0 : Dev nD) : Nat :=
  let c0_i32_1556 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1555 : BitVec 32 := 16#32
  let v1857 : BitVec 32 := Scalar.muli v2 c16_i32_1555
  let v1858 : BitVec 32 := Scalar.addi c0_i32_1556 v1857
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1557 : BitVec 32 := 4#32
  let v1859 : BitVec 32 := Scalar.muli v12 c4_i32_1557
  let v1860 : BitVec 32 := Scalar.addi v1858 v1859
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1558 : BitVec 32 := 1#32
  let v1861 : BitVec 32 := Scalar.muli v8 c1_i32_1558
  let v1862 : BitVec 32 := Scalar.addi v1860 v1861
  v1862.toNat
def k0_dev227 (d0 : Dev nD) : Nat :=
  let c0_i32_1572 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1571 : BitVec 32 := 16#32
  let v1875 : BitVec 32 := Scalar.muli v9 c16_i32_1571
  let v1876 : BitVec 32 := Scalar.addi c0_i32_1572 v1875
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1573 : BitVec 32 := 4#32
  let v1877 : BitVec 32 := Scalar.muli v5 c4_i32_1573
  let v1878 : BitVec 32 := Scalar.addi v1876 v1877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1574 : BitVec 32 := 1#32
  let v1879 : BitVec 32 := Scalar.muli v8 c1_i32_1574
  let v1880 : BitVec 32 := Scalar.addi v1878 v1879
  v1880.toNat
def k0_dev228 (d0 : Dev nD) : Nat :=
  let c0_i32_1595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1594 : BitVec 32 := 16#32
  let v1903 : BitVec 32 := Scalar.muli v2 c16_i32_1594
  let v1904 : BitVec 32 := Scalar.addi c0_i32_1595 v1903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1596 : BitVec 32 := 4#32
  let v1905 : BitVec 32 := Scalar.muli v13 c4_i32_1596
  let v1906 : BitVec 32 := Scalar.addi v1904 v1905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1597 : BitVec 32 := 1#32
  let v1907 : BitVec 32 := Scalar.muli v8 c1_i32_1597
  let v1908 : BitVec 32 := Scalar.addi v1906 v1907
  v1908.toNat
def k0_dev229 (d0 : Dev nD) : Nat :=
  let c0_i32_1621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1620 : BitVec 32 := 16#32
  let v1931 : BitVec 32 := Scalar.muli v2 c16_i32_1620
  let v1932 : BitVec 32 := Scalar.addi c0_i32_1621 v1931
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1622 : BitVec 32 := 4#32
  let v1933 : BitVec 32 := Scalar.muli v12 c4_i32_1622
  let v1934 : BitVec 32 := Scalar.addi v1932 v1933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1623 : BitVec 32 := 1#32
  let v1935 : BitVec 32 := Scalar.muli v8 c1_i32_1623
  let v1936 : BitVec 32 := Scalar.addi v1934 v1935
  v1936.toNat
def k0_dev230 (d0 : Dev nD) : Nat :=
  let c0_i32_1637 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1636 : BitVec 32 := 16#32
  let v1949 : BitVec 32 := Scalar.muli v9 c16_i32_1636
  let v1950 : BitVec 32 := Scalar.addi c0_i32_1637 v1949
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1638 : BitVec 32 := 4#32
  let v1951 : BitVec 32 := Scalar.muli v5 c4_i32_1638
  let v1952 : BitVec 32 := Scalar.addi v1950 v1951
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1639 : BitVec 32 := 1#32
  let v1953 : BitVec 32 := Scalar.muli v8 c1_i32_1639
  let v1954 : BitVec 32 := Scalar.addi v1952 v1953
  v1954.toNat
def k0_dev231 (d0 : Dev nD) : Nat :=
  let c0_i32_1660 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1659 : BitVec 32 := 16#32
  let v1977 : BitVec 32 := Scalar.muli v2 c16_i32_1659
  let v1978 : BitVec 32 := Scalar.addi c0_i32_1660 v1977
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_1661 : BitVec 32 := 4#32
  let v1979 : BitVec 32 := Scalar.muli v13 c4_i32_1661
  let v1980 : BitVec 32 := Scalar.addi v1978 v1979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1662 : BitVec 32 := 1#32
  let v1981 : BitVec 32 := Scalar.muli v8 c1_i32_1662
  let v1982 : BitVec 32 := Scalar.addi v1980 v1981
  v1982.toNat
def k0_dev232 (d0 : Dev nD) : Nat :=
  let c0_i32_1686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1685 : BitVec 32 := 16#32
  let v2005 : BitVec 32 := Scalar.muli v2 c16_i32_1685
  let v2006 : BitVec 32 := Scalar.addi c0_i32_1686 v2005
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1687 : BitVec 32 := 4#32
  let v2007 : BitVec 32 := Scalar.muli v12 c4_i32_1687
  let v2008 : BitVec 32 := Scalar.addi v2006 v2007
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1688 : BitVec 32 := 1#32
  let v2009 : BitVec 32 := Scalar.muli v8 c1_i32_1688
  let v2010 : BitVec 32 := Scalar.addi v2008 v2009
  v2010.toNat
def k0_dev233 (d0 : Dev nD) : Nat :=
  let c0_i32_1702 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1701 : BitVec 32 := 16#32
  let v2023 : BitVec 32 := Scalar.muli v9 c16_i32_1701
  let v2024 : BitVec 32 := Scalar.addi c0_i32_1702 v2023
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1703 : BitVec 32 := 4#32
  let v2025 : BitVec 32 := Scalar.muli v5 c4_i32_1703
  let v2026 : BitVec 32 := Scalar.addi v2024 v2025
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1704 : BitVec 32 := 1#32
  let v2027 : BitVec 32 := Scalar.muli v8 c1_i32_1704
  let v2028 : BitVec 32 := Scalar.addi v2026 v2027
  v2028.toNat
def k0_dev234 (d0 : Dev nD) : Nat :=
  let c0_i32_1726 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1725 : BitVec 32 := 16#32
  let v2051 : BitVec 32 := Scalar.muli v2 c16_i32_1725
  let v2052 : BitVec 32 := Scalar.addi c0_i32_1726 v2051
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1727 : BitVec 32 := 4#32
  let v2053 : BitVec 32 := Scalar.muli v12 c4_i32_1727
  let v2054 : BitVec 32 := Scalar.addi v2052 v2053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1728 : BitVec 32 := 1#32
  let v2055 : BitVec 32 := Scalar.muli v8 c1_i32_1728
  let v2056 : BitVec 32 := Scalar.addi v2054 v2055
  v2056.toNat
def k0_dev235 (d0 : Dev nD) : Nat :=
  let c0_i32_1742 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1741 : BitVec 32 := 16#32
  let v2069 : BitVec 32 := Scalar.muli v9 c16_i32_1741
  let v2070 : BitVec 32 := Scalar.addi c0_i32_1742 v2069
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1743 : BitVec 32 := 4#32
  let v2071 : BitVec 32 := Scalar.muli v5 c4_i32_1743
  let v2072 : BitVec 32 := Scalar.addi v2070 v2071
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1744 : BitVec 32 := 1#32
  let v2073 : BitVec 32 := Scalar.muli v8 c1_i32_1744
  let v2074 : BitVec 32 := Scalar.addi v2072 v2073
  v2074.toNat
def k0_dev236 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2097 : BitVec 32 := Scalar.muli v2 c16_i32_1765
  let v2098 : BitVec 32 := Scalar.addi c0_i32_1766 v2097
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1767 : BitVec 32 := 4#32
  let v2099 : BitVec 32 := Scalar.muli v12 c4_i32_1767
  let v2100 : BitVec 32 := Scalar.addi v2098 v2099
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2101 : BitVec 32 := Scalar.muli v8 c1_i32_1768
  let v2102 : BitVec 32 := Scalar.addi v2100 v2101
  v2102.toNat
def k0_dev237 (d0 : Dev nD) : Nat :=
  let c0_i32_1782 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1781 : BitVec 32 := 16#32
  let v2115 : BitVec 32 := Scalar.muli v9 c16_i32_1781
  let v2116 : BitVec 32 := Scalar.addi c0_i32_1782 v2115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1783 : BitVec 32 := 4#32
  let v2117 : BitVec 32 := Scalar.muli v5 c4_i32_1783
  let v2118 : BitVec 32 := Scalar.addi v2116 v2117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2119 : BitVec 32 := Scalar.muli v8 c1_i32_1784
  let v2120 : BitVec 32 := Scalar.addi v2118 v2119
  v2120.toNat
def k0_dev238 (d0 : Dev nD) : Nat :=
  let c0_i32_1806 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1805 : BitVec 32 := 16#32
  let v2143 : BitVec 32 := Scalar.muli v2 c16_i32_1805
  let v2144 : BitVec 32 := Scalar.addi c0_i32_1806 v2143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1807 : BitVec 32 := 4#32
  let v2145 : BitVec 32 := Scalar.muli v12 c4_i32_1807
  let v2146 : BitVec 32 := Scalar.addi v2144 v2145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1808 : BitVec 32 := 1#32
  let v2147 : BitVec 32 := Scalar.muli v8 c1_i32_1808
  let v2148 : BitVec 32 := Scalar.addi v2146 v2147
  v2148.toNat
def k0_dev239 (d0 : Dev nD) : Nat :=
  let c0_i32_1822 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1821 : BitVec 32 := 16#32
  let v2161 : BitVec 32 := Scalar.muli v9 c16_i32_1821
  let v2162 : BitVec 32 := Scalar.addi c0_i32_1822 v2161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1823 : BitVec 32 := 4#32
  let v2163 : BitVec 32 := Scalar.muli v5 c4_i32_1823
  let v2164 : BitVec 32 := Scalar.addi v2162 v2163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1824 : BitVec 32 := 1#32
  let v2165 : BitVec 32 := Scalar.muli v8 c1_i32_1824
  let v2166 : BitVec 32 := Scalar.addi v2164 v2165
  v2166.toNat
def k0_dev240 (d0 : Dev nD) : Nat :=
  let c0_i32_1846 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1845 : BitVec 32 := 16#32
  let v2189 : BitVec 32 := Scalar.muli v2 c16_i32_1845
  let v2190 : BitVec 32 := Scalar.addi c0_i32_1846 v2189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1847 : BitVec 32 := 4#32
  let v2191 : BitVec 32 := Scalar.muli v12 c4_i32_1847
  let v2192 : BitVec 32 := Scalar.addi v2190 v2191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1848 : BitVec 32 := 1#32
  let v2193 : BitVec 32 := Scalar.muli v8 c1_i32_1848
  let v2194 : BitVec 32 := Scalar.addi v2192 v2193
  v2194.toNat
def k0_dev241 (d0 : Dev nD) : Nat :=
  let c0_i32_1862 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1861 : BitVec 32 := 16#32
  let v2207 : BitVec 32 := Scalar.muli v9 c16_i32_1861
  let v2208 : BitVec 32 := Scalar.addi c0_i32_1862 v2207
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1863 : BitVec 32 := 4#32
  let v2209 : BitVec 32 := Scalar.muli v5 c4_i32_1863
  let v2210 : BitVec 32 := Scalar.addi v2208 v2209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1864 : BitVec 32 := 1#32
  let v2211 : BitVec 32 := Scalar.muli v8 c1_i32_1864
  let v2212 : BitVec 32 := Scalar.addi v2210 v2211
  v2212.toNat
def k0_dev242 (d0 : Dev nD) : Nat :=
  let c0_i32_1886 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1885 : BitVec 32 := 16#32
  let v2235 : BitVec 32 := Scalar.muli v2 c16_i32_1885
  let v2236 : BitVec 32 := Scalar.addi c0_i32_1886 v2235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v12 : BitVec 32 := Scalar.addi v5 c1_i32_4
  let c4_i32_1887 : BitVec 32 := 4#32
  let v2237 : BitVec 32 := Scalar.muli v12 c4_i32_1887
  let v2238 : BitVec 32 := Scalar.addi v2236 v2237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1888 : BitVec 32 := 1#32
  let v2239 : BitVec 32 := Scalar.muli v8 c1_i32_1888
  let v2240 : BitVec 32 := Scalar.addi v2238 v2239
  v2240.toNat
def k0_dev243 (d0 : Dev nD) : Nat :=
  let c0_i32_1902 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1901 : BitVec 32 := 16#32
  let v2253 : BitVec 32 := Scalar.muli v9 c16_i32_1901
  let v2254 : BitVec 32 := Scalar.addi c0_i32_1902 v2253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1903 : BitVec 32 := 4#32
  let v2255 : BitVec 32 := Scalar.muli v5 c4_i32_1903
  let v2256 : BitVec 32 := Scalar.addi v2254 v2255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1904 : BitVec 32 := 1#32
  let v2257 : BitVec 32 := Scalar.muli v8 c1_i32_1904
  let v2258 : BitVec 32 := Scalar.addi v2256 v2257
  v2258.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_112 : BitVec 32 := 3#32
  let v138 : BitVec 1 := Scalar.cmpi .eq v5 c3_i32_112
  let v139 : BitVec 32 := Scalar.extui v138
  let c0_i32_113 : BitVec 32 := 0#32
  let v140 : BitVec 1 := Scalar.cmpi .ne v139 c0_i32_113
  v140

def k0_dev244 (d0 : Dev nD) : Nat :=
  let c0_i32_678 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_677 : BitVec 32 := 16#32
  let v855 : BitVec 32 := Scalar.muli v2 c16_i32_677
  let v856 : BitVec 32 := Scalar.addi c0_i32_678 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_679 : BitVec 32 := 4#32
  let v857 : BitVec 32 := Scalar.muli v13 c4_i32_679
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v859 : BitVec 32 := Scalar.muli v8 c1_i32_680
  let v860 : BitVec 32 := Scalar.addi v858 v859
  v860.toNat
def k0_dev245 (d0 : Dev nD) : Nat :=
  let c0_i32_691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_690 : BitVec 32 := 16#32
  let v871 : BitVec 32 := Scalar.muli v2 c16_i32_690
  let v872 : BitVec 32 := Scalar.addi c0_i32_691 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_692 : BitVec 32 := 4#32
  let v873 : BitVec 32 := Scalar.muli v13 c4_i32_692
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v875 : BitVec 32 := Scalar.muli v8 c1_i32_693
  let v876 : BitVec 32 := Scalar.addi v874 v875
  v876.toNat
def k0_dev246 (d0 : Dev nD) : Nat :=
  let c0_i32_704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_703 : BitVec 32 := 16#32
  let v887 : BitVec 32 := Scalar.muli v2 c16_i32_703
  let v888 : BitVec 32 := Scalar.addi c0_i32_704 v887
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_705 : BitVec 32 := 4#32
  let v889 : BitVec 32 := Scalar.muli v13 c4_i32_705
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_706 : BitVec 32 := 1#32
  let v891 : BitVec 32 := Scalar.muli v8 c1_i32_706
  let v892 : BitVec 32 := Scalar.addi v890 v891
  v892.toNat
def k0_dev247 (d0 : Dev nD) : Nat :=
  let c0_i32_717 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_716 : BitVec 32 := 16#32
  let v903 : BitVec 32 := Scalar.muli v2 c16_i32_716
  let v904 : BitVec 32 := Scalar.addi c0_i32_717 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_718 : BitVec 32 := 4#32
  let v905 : BitVec 32 := Scalar.muli v13 c4_i32_718
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v907 : BitVec 32 := Scalar.muli v8 c1_i32_719
  let v908 : BitVec 32 := Scalar.addi v906 v907
  v908.toNat
def k0_dev248 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_729 : BitVec 32 := 16#32
  let v919 : BitVec 32 := Scalar.muli v2 c16_i32_729
  let v920 : BitVec 32 := Scalar.addi c0_i32_730 v919
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_731 : BitVec 32 := 4#32
  let v921 : BitVec 32 := Scalar.muli v13 c4_i32_731
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v923 : BitVec 32 := Scalar.muli v8 c1_i32_732
  let v924 : BitVec 32 := Scalar.addi v922 v923
  v924.toNat
def k0_dev249 (d0 : Dev nD) : Nat :=
  let c0_i32_743 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_742 : BitVec 32 := 16#32
  let v935 : BitVec 32 := Scalar.muli v2 c16_i32_742
  let v936 : BitVec 32 := Scalar.addi c0_i32_743 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_744 : BitVec 32 := 4#32
  let v937 : BitVec 32 := Scalar.muli v13 c4_i32_744
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v939 : BitVec 32 := Scalar.muli v8 c1_i32_745
  let v940 : BitVec 32 := Scalar.addi v938 v939
  v940.toNat
def k0_dev250 (d0 : Dev nD) : Nat :=
  let c0_i32_756 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_755 : BitVec 32 := 16#32
  let v951 : BitVec 32 := Scalar.muli v2 c16_i32_755
  let v952 : BitVec 32 := Scalar.addi c0_i32_756 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_757 : BitVec 32 := 4#32
  let v953 : BitVec 32 := Scalar.muli v13 c4_i32_757
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v955 : BitVec 32 := Scalar.muli v8 c1_i32_758
  let v956 : BitVec 32 := Scalar.addi v954 v955
  v956.toNat
def k0_dev251 (d0 : Dev nD) : Nat :=
  let c0_i32_769 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_768 : BitVec 32 := 16#32
  let v967 : BitVec 32 := Scalar.muli v2 c16_i32_768
  let v968 : BitVec 32 := Scalar.addi c0_i32_769 v967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_770 : BitVec 32 := 4#32
  let v969 : BitVec 32 := Scalar.muli v13 c4_i32_770
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_771 : BitVec 32 := 1#32
  let v971 : BitVec 32 := Scalar.muli v8 c1_i32_771
  let v972 : BitVec 32 := Scalar.addi v970 v971
  v972.toNat
def k0_dev252 (d0 : Dev nD) : Nat :=
  let c0_i32_782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_781 : BitVec 32 := 16#32
  let v983 : BitVec 32 := Scalar.muli v2 c16_i32_781
  let v984 : BitVec 32 := Scalar.addi c0_i32_782 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_783 : BitVec 32 := 4#32
  let v985 : BitVec 32 := Scalar.muli v13 c4_i32_783
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v987 : BitVec 32 := Scalar.muli v8 c1_i32_784
  let v988 : BitVec 32 := Scalar.addi v986 v987
  v988.toNat
def k0_dev253 (d0 : Dev nD) : Nat :=
  let c0_i32_795 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_794 : BitVec 32 := 16#32
  let v999 : BitVec 32 := Scalar.muli v2 c16_i32_794
  let v1000 : BitVec 32 := Scalar.addi c0_i32_795 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_796 : BitVec 32 := 4#32
  let v1001 : BitVec 32 := Scalar.muli v13 c4_i32_796
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v1003 : BitVec 32 := Scalar.muli v8 c1_i32_797
  let v1004 : BitVec 32 := Scalar.addi v1002 v1003
  v1004.toNat
def k0_dev254 (d0 : Dev nD) : Nat :=
  let c0_i32_808 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_807 : BitVec 32 := 16#32
  let v1015 : BitVec 32 := Scalar.muli v2 c16_i32_807
  let v1016 : BitVec 32 := Scalar.addi c0_i32_808 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_809 : BitVec 32 := 4#32
  let v1017 : BitVec 32 := Scalar.muli v13 c4_i32_809
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1019 : BitVec 32 := Scalar.muli v8 c1_i32_810
  let v1020 : BitVec 32 := Scalar.addi v1018 v1019
  v1020.toNat
def k0_dev255 (d0 : Dev nD) : Nat :=
  let c0_i32_821 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_820 : BitVec 32 := 16#32
  let v1031 : BitVec 32 := Scalar.muli v2 c16_i32_820
  let v1032 : BitVec 32 := Scalar.addi c0_i32_821 v1031
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_822 : BitVec 32 := 4#32
  let v1033 : BitVec 32 := Scalar.muli v13 c4_i32_822
  let v1034 : BitVec 32 := Scalar.addi v1032 v1033
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_823 : BitVec 32 := 1#32
  let v1035 : BitVec 32 := Scalar.muli v8 c1_i32_823
  let v1036 : BitVec 32 := Scalar.addi v1034 v1035
  v1036.toNat
def k0_dev256 (d0 : Dev nD) : Nat :=
  let c0_i32_834 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_833 : BitVec 32 := 16#32
  let v1047 : BitVec 32 := Scalar.muli v2 c16_i32_833
  let v1048 : BitVec 32 := Scalar.addi c0_i32_834 v1047
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_835 : BitVec 32 := 4#32
  let v1049 : BitVec 32 := Scalar.muli v13 c4_i32_835
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_836 : BitVec 32 := 1#32
  let v1051 : BitVec 32 := Scalar.muli v8 c1_i32_836
  let v1052 : BitVec 32 := Scalar.addi v1050 v1051
  v1052.toNat
def k0_dev257 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_846 : BitVec 32 := 16#32
  let v1063 : BitVec 32 := Scalar.muli v2 c16_i32_846
  let v1064 : BitVec 32 := Scalar.addi c0_i32_847 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_848 : BitVec 32 := 4#32
  let v1065 : BitVec 32 := Scalar.muli v13 c4_i32_848
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v1067 : BitVec 32 := Scalar.muli v8 c1_i32_849
  let v1068 : BitVec 32 := Scalar.addi v1066 v1067
  v1068.toNat
def k0_dev258 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v1079 : BitVec 32 := Scalar.muli v2 c16_i32_859
  let v1080 : BitVec 32 := Scalar.addi c0_i32_860 v1079
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_861 : BitVec 32 := 4#32
  let v1081 : BitVec 32 := Scalar.muli v13 c4_i32_861
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v1083 : BitVec 32 := Scalar.muli v8 c1_i32_862
  let v1084 : BitVec 32 := Scalar.addi v1082 v1083
  v1084.toNat
def k0_dev259 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_872 : BitVec 32 := 16#32
  let v1095 : BitVec 32 := Scalar.muli v2 c16_i32_872
  let v1096 : BitVec 32 := Scalar.addi c0_i32_873 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v13 : BitVec 32 := Scalar.subi v5 c1_i32_5
  let c4_i32_874 : BitVec 32 := 4#32
  let v1097 : BitVec 32 := Scalar.muli v13 c4_i32_874
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_875 : BitVec 32 := 1#32
  let v1099 : BitVec 32 := Scalar.muli v8 c1_i32_875
  let v1100 : BitVec 32 := Scalar.addi v1098 v1099
  v1100.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_114 : BitVec 32 := 0#32
  let v141 : BitVec 1 := Scalar.cmpi .eq v5 c0_i32_114
  let v142 : BitVec 32 := Scalar.extui v141
  let c0_i32_115 : BitVec 32 := 0#32
  let v143 : BitVec 1 := Scalar.cmpi .ne v142 c0_i32_115
  v143

def k0_off11 (d0 : Dev nD) (c0_i32_681 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v861 : BitVec 32 := Scalar.addi v10 c0_i32_681
  let v865 : Index := Scalar.indexCast v861
  let c0_686 : Index := 0#32
  ![v865.toNat, 0]
def k0_off12 (d0 : Dev nD) (c0_i32_681 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v861 : BitVec 32 := Scalar.addi v10 c0_i32_681
  let c0_i32_693 : BitVec 32 := 0#32
  ![v861.toNat, 0]
def k0_dev260 (d0 : Dev nD) : Nat :=
  let c0_i32_690 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_689 : BitVec 32 := 16#32
  let v867 : BitVec 32 := Scalar.muli v9 c16_i32_689
  let v868 : BitVec 32 := Scalar.addi c0_i32_690 v867
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_691 : BitVec 32 := 4#32
  let v869 : BitVec 32 := Scalar.muli v5 c4_i32_691
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v871 : BitVec 32 := Scalar.muli v8 c1_i32_692
  let v872 : BitVec 32 := Scalar.addi v870 v871
  v872.toNat
def k0_dev261 (d0 : Dev nD) : Nat :=
  let c0_i32_713 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_712 : BitVec 32 := 16#32
  let v895 : BitVec 32 := Scalar.muli v9 c16_i32_712
  let v896 : BitVec 32 := Scalar.addi c0_i32_713 v895
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_714 : BitVec 32 := 4#32
  let v897 : BitVec 32 := Scalar.muli v5 c4_i32_714
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_715 : BitVec 32 := 1#32
  let v899 : BitVec 32 := Scalar.muli v8 c1_i32_715
  let v900 : BitVec 32 := Scalar.addi v898 v899
  v900.toNat
def k0_dev262 (d0 : Dev nD) : Nat :=
  let c0_i32_736 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_735 : BitVec 32 := 16#32
  let v923 : BitVec 32 := Scalar.muli v9 c16_i32_735
  let v924 : BitVec 32 := Scalar.addi c0_i32_736 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_737 : BitVec 32 := 4#32
  let v925 : BitVec 32 := Scalar.muli v5 c4_i32_737
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v927 : BitVec 32 := Scalar.muli v8 c1_i32_738
  let v928 : BitVec 32 := Scalar.addi v926 v927
  v928.toNat
def k0_dev263 (d0 : Dev nD) : Nat :=
  let c0_i32_759 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_758 : BitVec 32 := 16#32
  let v951 : BitVec 32 := Scalar.muli v9 c16_i32_758
  let v952 : BitVec 32 := Scalar.addi c0_i32_759 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_760 : BitVec 32 := 4#32
  let v953 : BitVec 32 := Scalar.muli v5 c4_i32_760
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_761 : BitVec 32 := 1#32
  let v955 : BitVec 32 := Scalar.muli v8 c1_i32_761
  let v956 : BitVec 32 := Scalar.addi v954 v955
  v956.toNat
def k0_dev264 (d0 : Dev nD) : Nat :=
  let c0_i32_782 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_781 : BitVec 32 := 16#32
  let v979 : BitVec 32 := Scalar.muli v9 c16_i32_781
  let v980 : BitVec 32 := Scalar.addi c0_i32_782 v979
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_783 : BitVec 32 := 4#32
  let v981 : BitVec 32 := Scalar.muli v5 c4_i32_783
  let v982 : BitVec 32 := Scalar.addi v980 v981
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v983 : BitVec 32 := Scalar.muli v8 c1_i32_784
  let v984 : BitVec 32 := Scalar.addi v982 v983
  v984.toNat
def k0_dev265 (d0 : Dev nD) : Nat :=
  let c0_i32_805 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_804 : BitVec 32 := 16#32
  let v1007 : BitVec 32 := Scalar.muli v9 c16_i32_804
  let v1008 : BitVec 32 := Scalar.addi c0_i32_805 v1007
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_806 : BitVec 32 := 4#32
  let v1009 : BitVec 32 := Scalar.muli v5 c4_i32_806
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v1011 : BitVec 32 := Scalar.muli v8 c1_i32_807
  let v1012 : BitVec 32 := Scalar.addi v1010 v1011
  v1012.toNat
def k0_dev266 (d0 : Dev nD) : Nat :=
  let c0_i32_828 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_827 : BitVec 32 := 16#32
  let v1035 : BitVec 32 := Scalar.muli v9 c16_i32_827
  let v1036 : BitVec 32 := Scalar.addi c0_i32_828 v1035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_829 : BitVec 32 := 4#32
  let v1037 : BitVec 32 := Scalar.muli v5 c4_i32_829
  let v1038 : BitVec 32 := Scalar.addi v1036 v1037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v1039 : BitVec 32 := Scalar.muli v8 c1_i32_830
  let v1040 : BitVec 32 := Scalar.addi v1038 v1039
  v1040.toNat
def k0_dev267 (d0 : Dev nD) : Nat :=
  let c0_i32_851 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_850 : BitVec 32 := 16#32
  let v1063 : BitVec 32 := Scalar.muli v9 c16_i32_850
  let v1064 : BitVec 32 := Scalar.addi c0_i32_851 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v1065 : BitVec 32 := Scalar.muli v5 c4_i32_852
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_853 : BitVec 32 := 1#32
  let v1067 : BitVec 32 := Scalar.muli v8 c1_i32_853
  let v1068 : BitVec 32 := Scalar.addi v1066 v1067
  v1068.toNat
def k0_dev268 (d0 : Dev nD) : Nat :=
  let c0_i32_874 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_873 : BitVec 32 := 16#32
  let v1091 : BitVec 32 := Scalar.muli v9 c16_i32_873
  let v1092 : BitVec 32 := Scalar.addi c0_i32_874 v1091
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_875 : BitVec 32 := 4#32
  let v1093 : BitVec 32 := Scalar.muli v5 c4_i32_875
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v1095 : BitVec 32 := Scalar.muli v8 c1_i32_876
  let v1096 : BitVec 32 := Scalar.addi v1094 v1095
  v1096.toNat
def k0_dev269 (d0 : Dev nD) : Nat :=
  let c0_i32_897 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_896 : BitVec 32 := 16#32
  let v1119 : BitVec 32 := Scalar.muli v9 c16_i32_896
  let v1120 : BitVec 32 := Scalar.addi c0_i32_897 v1119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_898 : BitVec 32 := 4#32
  let v1121 : BitVec 32 := Scalar.muli v5 c4_i32_898
  let v1122 : BitVec 32 := Scalar.addi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_899 : BitVec 32 := 1#32
  let v1123 : BitVec 32 := Scalar.muli v8 c1_i32_899
  let v1124 : BitVec 32 := Scalar.addi v1122 v1123
  v1124.toNat
def k0_dev270 (d0 : Dev nD) : Nat :=
  let c0_i32_920 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_919 : BitVec 32 := 16#32
  let v1147 : BitVec 32 := Scalar.muli v9 c16_i32_919
  let v1148 : BitVec 32 := Scalar.addi c0_i32_920 v1147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_921 : BitVec 32 := 4#32
  let v1149 : BitVec 32 := Scalar.muli v5 c4_i32_921
  let v1150 : BitVec 32 := Scalar.addi v1148 v1149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_922 : BitVec 32 := 1#32
  let v1151 : BitVec 32 := Scalar.muli v8 c1_i32_922
  let v1152 : BitVec 32 := Scalar.addi v1150 v1151
  v1152.toNat
def k0_dev271 (d0 : Dev nD) : Nat :=
  let c0_i32_943 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_942 : BitVec 32 := 16#32
  let v1175 : BitVec 32 := Scalar.muli v9 c16_i32_942
  let v1176 : BitVec 32 := Scalar.addi c0_i32_943 v1175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_944 : BitVec 32 := 4#32
  let v1177 : BitVec 32 := Scalar.muli v5 c4_i32_944
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_945 : BitVec 32 := 1#32
  let v1179 : BitVec 32 := Scalar.muli v8 c1_i32_945
  let v1180 : BitVec 32 := Scalar.addi v1178 v1179
  v1180.toNat
def k0_dev272 (d0 : Dev nD) : Nat :=
  let c0_i32_966 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_965 : BitVec 32 := 16#32
  let v1203 : BitVec 32 := Scalar.muli v9 c16_i32_965
  let v1204 : BitVec 32 := Scalar.addi c0_i32_966 v1203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_967 : BitVec 32 := 4#32
  let v1205 : BitVec 32 := Scalar.muli v5 c4_i32_967
  let v1206 : BitVec 32 := Scalar.addi v1204 v1205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_968 : BitVec 32 := 1#32
  let v1207 : BitVec 32 := Scalar.muli v8 c1_i32_968
  let v1208 : BitVec 32 := Scalar.addi v1206 v1207
  v1208.toNat
def k0_dev273 (d0 : Dev nD) : Nat :=
  let c0_i32_989 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_988 : BitVec 32 := 16#32
  let v1231 : BitVec 32 := Scalar.muli v9 c16_i32_988
  let v1232 : BitVec 32 := Scalar.addi c0_i32_989 v1231
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_990 : BitVec 32 := 4#32
  let v1233 : BitVec 32 := Scalar.muli v5 c4_i32_990
  let v1234 : BitVec 32 := Scalar.addi v1232 v1233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1235 : BitVec 32 := Scalar.muli v8 c1_i32_991
  let v1236 : BitVec 32 := Scalar.addi v1234 v1235
  v1236.toNat
def k0_dev274 (d0 : Dev nD) : Nat :=
  let c0_i32_1012 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1011 : BitVec 32 := 16#32
  let v1259 : BitVec 32 := Scalar.muli v9 c16_i32_1011
  let v1260 : BitVec 32 := Scalar.addi c0_i32_1012 v1259
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1013 : BitVec 32 := 4#32
  let v1261 : BitVec 32 := Scalar.muli v5 c4_i32_1013
  let v1262 : BitVec 32 := Scalar.addi v1260 v1261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1014 : BitVec 32 := 1#32
  let v1263 : BitVec 32 := Scalar.muli v8 c1_i32_1014
  let v1264 : BitVec 32 := Scalar.addi v1262 v1263
  v1264.toNat
def k0_dev275 (d0 : Dev nD) : Nat :=
  let c0_i32_1035 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1034 : BitVec 32 := 16#32
  let v1287 : BitVec 32 := Scalar.muli v9 c16_i32_1034
  let v1288 : BitVec 32 := Scalar.addi c0_i32_1035 v1287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1036 : BitVec 32 := 4#32
  let v1289 : BitVec 32 := Scalar.muli v5 c4_i32_1036
  let v1290 : BitVec 32 := Scalar.addi v1288 v1289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1037 : BitVec 32 := 1#32
  let v1291 : BitVec 32 := Scalar.muli v8 c1_i32_1037
  let v1292 : BitVec 32 := Scalar.addi v1290 v1291
  v1292.toNat
def k0_dev276 (d0 : Dev nD) : Nat :=
  let c0_i32_1059 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1058 : BitVec 32 := 16#32
  let v1315 : BitVec 32 := Scalar.muli v9 c16_i32_1058
  let v1316 : BitVec 32 := Scalar.addi c0_i32_1059 v1315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1060 : BitVec 32 := 4#32
  let v1317 : BitVec 32 := Scalar.muli v5 c4_i32_1060
  let v1318 : BitVec 32 := Scalar.addi v1316 v1317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1061 : BitVec 32 := 1#32
  let v1319 : BitVec 32 := Scalar.muli v8 c1_i32_1061
  let v1320 : BitVec 32 := Scalar.addi v1318 v1319
  v1320.toNat
def k0_dev277 (d0 : Dev nD) : Nat :=
  let c0_i32_1082 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1081 : BitVec 32 := 16#32
  let v1343 : BitVec 32 := Scalar.muli v9 c16_i32_1081
  let v1344 : BitVec 32 := Scalar.addi c0_i32_1082 v1343
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1083 : BitVec 32 := 4#32
  let v1345 : BitVec 32 := Scalar.muli v5 c4_i32_1083
  let v1346 : BitVec 32 := Scalar.addi v1344 v1345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1084 : BitVec 32 := 1#32
  let v1347 : BitVec 32 := Scalar.muli v8 c1_i32_1084
  let v1348 : BitVec 32 := Scalar.addi v1346 v1347
  v1348.toNat
def k0_dev278 (d0 : Dev nD) : Nat :=
  let c0_i32_1105 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1104 : BitVec 32 := 16#32
  let v1371 : BitVec 32 := Scalar.muli v9 c16_i32_1104
  let v1372 : BitVec 32 := Scalar.addi c0_i32_1105 v1371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1106 : BitVec 32 := 4#32
  let v1373 : BitVec 32 := Scalar.muli v5 c4_i32_1106
  let v1374 : BitVec 32 := Scalar.addi v1372 v1373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1107 : BitVec 32 := 1#32
  let v1375 : BitVec 32 := Scalar.muli v8 c1_i32_1107
  let v1376 : BitVec 32 := Scalar.addi v1374 v1375
  v1376.toNat
def k0_dev279 (d0 : Dev nD) : Nat :=
  let c0_i32_1128 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1127 : BitVec 32 := 16#32
  let v1399 : BitVec 32 := Scalar.muli v9 c16_i32_1127
  let v1400 : BitVec 32 := Scalar.addi c0_i32_1128 v1399
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1129 : BitVec 32 := 4#32
  let v1401 : BitVec 32 := Scalar.muli v5 c4_i32_1129
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1130 : BitVec 32 := 1#32
  let v1403 : BitVec 32 := Scalar.muli v8 c1_i32_1130
  let v1404 : BitVec 32 := Scalar.addi v1402 v1403
  v1404.toNat
def k0_dev280 (d0 : Dev nD) : Nat :=
  let c0_i32_1151 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1150 : BitVec 32 := 16#32
  let v1427 : BitVec 32 := Scalar.muli v9 c16_i32_1150
  let v1428 : BitVec 32 := Scalar.addi c0_i32_1151 v1427
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1152 : BitVec 32 := 4#32
  let v1429 : BitVec 32 := Scalar.muli v5 c4_i32_1152
  let v1430 : BitVec 32 := Scalar.addi v1428 v1429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1153 : BitVec 32 := 1#32
  let v1431 : BitVec 32 := Scalar.muli v8 c1_i32_1153
  let v1432 : BitVec 32 := Scalar.addi v1430 v1431
  v1432.toNat
def k0_dev281 (d0 : Dev nD) : Nat :=
  let c0_i32_1174 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1173 : BitVec 32 := 16#32
  let v1455 : BitVec 32 := Scalar.muli v9 c16_i32_1173
  let v1456 : BitVec 32 := Scalar.addi c0_i32_1174 v1455
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1175 : BitVec 32 := 4#32
  let v1457 : BitVec 32 := Scalar.muli v5 c4_i32_1175
  let v1458 : BitVec 32 := Scalar.addi v1456 v1457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1176 : BitVec 32 := 1#32
  let v1459 : BitVec 32 := Scalar.muli v8 c1_i32_1176
  let v1460 : BitVec 32 := Scalar.addi v1458 v1459
  v1460.toNat
def k0_dev282 (d0 : Dev nD) : Nat :=
  let c0_i32_1197 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1196 : BitVec 32 := 16#32
  let v1483 : BitVec 32 := Scalar.muli v9 c16_i32_1196
  let v1484 : BitVec 32 := Scalar.addi c0_i32_1197 v1483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1198 : BitVec 32 := 4#32
  let v1485 : BitVec 32 := Scalar.muli v5 c4_i32_1198
  let v1486 : BitVec 32 := Scalar.addi v1484 v1485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1199 : BitVec 32 := 1#32
  let v1487 : BitVec 32 := Scalar.muli v8 c1_i32_1199
  let v1488 : BitVec 32 := Scalar.addi v1486 v1487
  v1488.toNat
def k0_dev283 (d0 : Dev nD) : Nat :=
  let c0_i32_1220 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1219 : BitVec 32 := 16#32
  let v1511 : BitVec 32 := Scalar.muli v9 c16_i32_1219
  let v1512 : BitVec 32 := Scalar.addi c0_i32_1220 v1511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1221 : BitVec 32 := 4#32
  let v1513 : BitVec 32 := Scalar.muli v5 c4_i32_1221
  let v1514 : BitVec 32 := Scalar.addi v1512 v1513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1222 : BitVec 32 := 1#32
  let v1515 : BitVec 32 := Scalar.muli v8 c1_i32_1222
  let v1516 : BitVec 32 := Scalar.addi v1514 v1515
  v1516.toNat
def k0_dev284 (d0 : Dev nD) : Nat :=
  let c0_i32_1243 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1242 : BitVec 32 := 16#32
  let v1539 : BitVec 32 := Scalar.muli v9 c16_i32_1242
  let v1540 : BitVec 32 := Scalar.addi c0_i32_1243 v1539
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1244 : BitVec 32 := 4#32
  let v1541 : BitVec 32 := Scalar.muli v5 c4_i32_1244
  let v1542 : BitVec 32 := Scalar.addi v1540 v1541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1245 : BitVec 32 := 1#32
  let v1543 : BitVec 32 := Scalar.muli v8 c1_i32_1245
  let v1544 : BitVec 32 := Scalar.addi v1542 v1543
  v1544.toNat
def k0_dev285 (d0 : Dev nD) : Nat :=
  let c0_i32_1266 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1265 : BitVec 32 := 16#32
  let v1567 : BitVec 32 := Scalar.muli v9 c16_i32_1265
  let v1568 : BitVec 32 := Scalar.addi c0_i32_1266 v1567
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1267 : BitVec 32 := 4#32
  let v1569 : BitVec 32 := Scalar.muli v5 c4_i32_1267
  let v1570 : BitVec 32 := Scalar.addi v1568 v1569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1268 : BitVec 32 := 1#32
  let v1571 : BitVec 32 := Scalar.muli v8 c1_i32_1268
  let v1572 : BitVec 32 := Scalar.addi v1570 v1571
  v1572.toNat
def k0_dev286 (d0 : Dev nD) : Nat :=
  let c0_i32_1289 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1288 : BitVec 32 := 16#32
  let v1595 : BitVec 32 := Scalar.muli v9 c16_i32_1288
  let v1596 : BitVec 32 := Scalar.addi c0_i32_1289 v1595
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1290 : BitVec 32 := 4#32
  let v1597 : BitVec 32 := Scalar.muli v5 c4_i32_1290
  let v1598 : BitVec 32 := Scalar.addi v1596 v1597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1291 : BitVec 32 := 1#32
  let v1599 : BitVec 32 := Scalar.muli v8 c1_i32_1291
  let v1600 : BitVec 32 := Scalar.addi v1598 v1599
  v1600.toNat
def k0_dev287 (d0 : Dev nD) : Nat :=
  let c0_i32_1312 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1311 : BitVec 32 := 16#32
  let v1623 : BitVec 32 := Scalar.muli v9 c16_i32_1311
  let v1624 : BitVec 32 := Scalar.addi c0_i32_1312 v1623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1313 : BitVec 32 := 4#32
  let v1625 : BitVec 32 := Scalar.muli v5 c4_i32_1313
  let v1626 : BitVec 32 := Scalar.addi v1624 v1625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1314 : BitVec 32 := 1#32
  let v1627 : BitVec 32 := Scalar.muli v8 c1_i32_1314
  let v1628 : BitVec 32 := Scalar.addi v1626 v1627
  v1628.toNat
def k0_dev288 (d0 : Dev nD) : Nat :=
  let c0_i32_1335 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1334 : BitVec 32 := 16#32
  let v1651 : BitVec 32 := Scalar.muli v9 c16_i32_1334
  let v1652 : BitVec 32 := Scalar.addi c0_i32_1335 v1651
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1336 : BitVec 32 := 4#32
  let v1653 : BitVec 32 := Scalar.muli v5 c4_i32_1336
  let v1654 : BitVec 32 := Scalar.addi v1652 v1653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1337 : BitVec 32 := 1#32
  let v1655 : BitVec 32 := Scalar.muli v8 c1_i32_1337
  let v1656 : BitVec 32 := Scalar.addi v1654 v1655
  v1656.toNat
def k0_dev289 (d0 : Dev nD) : Nat :=
  let c0_i32_1358 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1357 : BitVec 32 := 16#32
  let v1679 : BitVec 32 := Scalar.muli v9 c16_i32_1357
  let v1680 : BitVec 32 := Scalar.addi c0_i32_1358 v1679
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1359 : BitVec 32 := 4#32
  let v1681 : BitVec 32 := Scalar.muli v5 c4_i32_1359
  let v1682 : BitVec 32 := Scalar.addi v1680 v1681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1360 : BitVec 32 := 1#32
  let v1683 : BitVec 32 := Scalar.muli v8 c1_i32_1360
  let v1684 : BitVec 32 := Scalar.addi v1682 v1683
  v1684.toNat
def k0_dev290 (d0 : Dev nD) : Nat :=
  let c0_i32_1381 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1380 : BitVec 32 := 16#32
  let v1707 : BitVec 32 := Scalar.muli v9 c16_i32_1380
  let v1708 : BitVec 32 := Scalar.addi c0_i32_1381 v1707
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1382 : BitVec 32 := 4#32
  let v1709 : BitVec 32 := Scalar.muli v5 c4_i32_1382
  let v1710 : BitVec 32 := Scalar.addi v1708 v1709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1383 : BitVec 32 := 1#32
  let v1711 : BitVec 32 := Scalar.muli v8 c1_i32_1383
  let v1712 : BitVec 32 := Scalar.addi v1710 v1711
  v1712.toNat
def k0_dev291 (d0 : Dev nD) : Nat :=
  let c0_i32_1404 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1403 : BitVec 32 := 16#32
  let v1735 : BitVec 32 := Scalar.muli v9 c16_i32_1403
  let v1736 : BitVec 32 := Scalar.addi c0_i32_1404 v1735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1405 : BitVec 32 := 4#32
  let v1737 : BitVec 32 := Scalar.muli v5 c4_i32_1405
  let v1738 : BitVec 32 := Scalar.addi v1736 v1737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1406 : BitVec 32 := 1#32
  let v1739 : BitVec 32 := Scalar.muli v8 c1_i32_1406
  let v1740 : BitVec 32 := Scalar.addi v1738 v1739
  v1740.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_116 : BitVec 32 := 3#32
  let v144 : BitVec 1 := Scalar.cmpi .eq v5 c3_i32_116
  let v145 : BitVec 32 := Scalar.extui v144
  let c0_i32_117 : BitVec 32 := 0#32
  let v146 : BitVec 1 := Scalar.cmpi .ne v145 c0_i32_117
  v146

def k0_off13 (d0 : Dev nD) (c0_i32_687 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v867 : BitVec 32 := Scalar.addi v10 c0_i32_687
  let v869 : Index := Scalar.indexCast v867
  let c0_690 : Index := 0#32
  ![v869.toNat, 0]
def k0_off14 (d0 : Dev nD) (c0_i32_687 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v867 : BitVec 32 := Scalar.addi v10 c0_i32_687
  let c0_i32_697 : BitVec 32 := 0#32
  ![v867.toNat, 0]
def k0_dev292 (d0 : Dev nD) : Nat :=
  let c0_i32_694 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_693 : BitVec 32 := 16#32
  let v871 : BitVec 32 := Scalar.muli v9 c16_i32_693
  let v872 : BitVec 32 := Scalar.addi c0_i32_694 v871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_695 : BitVec 32 := 4#32
  let v873 : BitVec 32 := Scalar.muli v5 c4_i32_695
  let v874 : BitVec 32 := Scalar.addi v872 v873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_696 : BitVec 32 := 1#32
  let v875 : BitVec 32 := Scalar.muli v8 c1_i32_696
  let v876 : BitVec 32 := Scalar.addi v874 v875
  v876.toNat
def k0_dev293 (d0 : Dev nD) : Nat :=
  let c0_i32_721 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_720 : BitVec 32 := 16#32
  let v903 : BitVec 32 := Scalar.muli v9 c16_i32_720
  let v904 : BitVec 32 := Scalar.addi c0_i32_721 v903
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_722 : BitVec 32 := 4#32
  let v905 : BitVec 32 := Scalar.muli v5 c4_i32_722
  let v906 : BitVec 32 := Scalar.addi v904 v905
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_723 : BitVec 32 := 1#32
  let v907 : BitVec 32 := Scalar.muli v8 c1_i32_723
  let v908 : BitVec 32 := Scalar.addi v906 v907
  v908.toNat
def k0_dev294 (d0 : Dev nD) : Nat :=
  let c0_i32_748 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_747 : BitVec 32 := 16#32
  let v935 : BitVec 32 := Scalar.muli v9 c16_i32_747
  let v936 : BitVec 32 := Scalar.addi c0_i32_748 v935
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_749 : BitVec 32 := 4#32
  let v937 : BitVec 32 := Scalar.muli v5 c4_i32_749
  let v938 : BitVec 32 := Scalar.addi v936 v937
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v939 : BitVec 32 := Scalar.muli v8 c1_i32_750
  let v940 : BitVec 32 := Scalar.addi v938 v939
  v940.toNat
def k0_dev295 (d0 : Dev nD) : Nat :=
  let c0_i32_775 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_774 : BitVec 32 := 16#32
  let v967 : BitVec 32 := Scalar.muli v9 c16_i32_774
  let v968 : BitVec 32 := Scalar.addi c0_i32_775 v967
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_776 : BitVec 32 := 4#32
  let v969 : BitVec 32 := Scalar.muli v5 c4_i32_776
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v971 : BitVec 32 := Scalar.muli v8 c1_i32_777
  let v972 : BitVec 32 := Scalar.addi v970 v971
  v972.toNat
def k0_dev296 (d0 : Dev nD) : Nat :=
  let c0_i32_802 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_801 : BitVec 32 := 16#32
  let v999 : BitVec 32 := Scalar.muli v9 c16_i32_801
  let v1000 : BitVec 32 := Scalar.addi c0_i32_802 v999
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_803 : BitVec 32 := 4#32
  let v1001 : BitVec 32 := Scalar.muli v5 c4_i32_803
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_804 : BitVec 32 := 1#32
  let v1003 : BitVec 32 := Scalar.muli v8 c1_i32_804
  let v1004 : BitVec 32 := Scalar.addi v1002 v1003
  v1004.toNat
def k0_dev297 (d0 : Dev nD) : Nat :=
  let c0_i32_829 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_828 : BitVec 32 := 16#32
  let v1031 : BitVec 32 := Scalar.muli v9 c16_i32_828
  let v1032 : BitVec 32 := Scalar.addi c0_i32_829 v1031
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_830 : BitVec 32 := 4#32
  let v1033 : BitVec 32 := Scalar.muli v5 c4_i32_830
  let v1034 : BitVec 32 := Scalar.addi v1032 v1033
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_831 : BitVec 32 := 1#32
  let v1035 : BitVec 32 := Scalar.muli v8 c1_i32_831
  let v1036 : BitVec 32 := Scalar.addi v1034 v1035
  v1036.toNat
def k0_dev298 (d0 : Dev nD) : Nat :=
  let c0_i32_856 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_855 : BitVec 32 := 16#32
  let v1063 : BitVec 32 := Scalar.muli v9 c16_i32_855
  let v1064 : BitVec 32 := Scalar.addi c0_i32_856 v1063
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_857 : BitVec 32 := 4#32
  let v1065 : BitVec 32 := Scalar.muli v5 c4_i32_857
  let v1066 : BitVec 32 := Scalar.addi v1064 v1065
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v1067 : BitVec 32 := Scalar.muli v8 c1_i32_858
  let v1068 : BitVec 32 := Scalar.addi v1066 v1067
  v1068.toNat
def k0_dev299 (d0 : Dev nD) : Nat :=
  let c0_i32_883 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_882 : BitVec 32 := 16#32
  let v1095 : BitVec 32 := Scalar.muli v9 c16_i32_882
  let v1096 : BitVec 32 := Scalar.addi c0_i32_883 v1095
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_884 : BitVec 32 := 4#32
  let v1097 : BitVec 32 := Scalar.muli v5 c4_i32_884
  let v1098 : BitVec 32 := Scalar.addi v1096 v1097
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_885 : BitVec 32 := 1#32
  let v1099 : BitVec 32 := Scalar.muli v8 c1_i32_885
  let v1100 : BitVec 32 := Scalar.addi v1098 v1099
  v1100.toNat
def k0_dev300 (d0 : Dev nD) : Nat :=
  let c0_i32_910 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_909 : BitVec 32 := 16#32
  let v1127 : BitVec 32 := Scalar.muli v9 c16_i32_909
  let v1128 : BitVec 32 := Scalar.addi c0_i32_910 v1127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_911 : BitVec 32 := 4#32
  let v1129 : BitVec 32 := Scalar.muli v5 c4_i32_911
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_912 : BitVec 32 := 1#32
  let v1131 : BitVec 32 := Scalar.muli v8 c1_i32_912
  let v1132 : BitVec 32 := Scalar.addi v1130 v1131
  v1132.toNat
def k0_dev301 (d0 : Dev nD) : Nat :=
  let c0_i32_937 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_936 : BitVec 32 := 16#32
  let v1159 : BitVec 32 := Scalar.muli v9 c16_i32_936
  let v1160 : BitVec 32 := Scalar.addi c0_i32_937 v1159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_938 : BitVec 32 := 4#32
  let v1161 : BitVec 32 := Scalar.muli v5 c4_i32_938
  let v1162 : BitVec 32 := Scalar.addi v1160 v1161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_939 : BitVec 32 := 1#32
  let v1163 : BitVec 32 := Scalar.muli v8 c1_i32_939
  let v1164 : BitVec 32 := Scalar.addi v1162 v1163
  v1164.toNat
def k0_dev302 (d0 : Dev nD) : Nat :=
  let c0_i32_964 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_963 : BitVec 32 := 16#32
  let v1191 : BitVec 32 := Scalar.muli v9 c16_i32_963
  let v1192 : BitVec 32 := Scalar.addi c0_i32_964 v1191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_965 : BitVec 32 := 4#32
  let v1193 : BitVec 32 := Scalar.muli v5 c4_i32_965
  let v1194 : BitVec 32 := Scalar.addi v1192 v1193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_966 : BitVec 32 := 1#32
  let v1195 : BitVec 32 := Scalar.muli v8 c1_i32_966
  let v1196 : BitVec 32 := Scalar.addi v1194 v1195
  v1196.toNat
def k0_dev303 (d0 : Dev nD) : Nat :=
  let c0_i32_991 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_990 : BitVec 32 := 16#32
  let v1223 : BitVec 32 := Scalar.muli v9 c16_i32_990
  let v1224 : BitVec 32 := Scalar.addi c0_i32_991 v1223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_992 : BitVec 32 := 4#32
  let v1225 : BitVec 32 := Scalar.muli v5 c4_i32_992
  let v1226 : BitVec 32 := Scalar.addi v1224 v1225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_993 : BitVec 32 := 1#32
  let v1227 : BitVec 32 := Scalar.muli v8 c1_i32_993
  let v1228 : BitVec 32 := Scalar.addi v1226 v1227
  v1228.toNat
def k0_dev304 (d0 : Dev nD) : Nat :=
  let c0_i32_1018 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1017 : BitVec 32 := 16#32
  let v1255 : BitVec 32 := Scalar.muli v9 c16_i32_1017
  let v1256 : BitVec 32 := Scalar.addi c0_i32_1018 v1255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1019 : BitVec 32 := 4#32
  let v1257 : BitVec 32 := Scalar.muli v5 c4_i32_1019
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1020 : BitVec 32 := 1#32
  let v1259 : BitVec 32 := Scalar.muli v8 c1_i32_1020
  let v1260 : BitVec 32 := Scalar.addi v1258 v1259
  v1260.toNat
def k0_dev305 (d0 : Dev nD) : Nat :=
  let c0_i32_1045 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1044 : BitVec 32 := 16#32
  let v1287 : BitVec 32 := Scalar.muli v9 c16_i32_1044
  let v1288 : BitVec 32 := Scalar.addi c0_i32_1045 v1287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1046 : BitVec 32 := 4#32
  let v1289 : BitVec 32 := Scalar.muli v5 c4_i32_1046
  let v1290 : BitVec 32 := Scalar.addi v1288 v1289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1291 : BitVec 32 := Scalar.muli v8 c1_i32_1047
  let v1292 : BitVec 32 := Scalar.addi v1290 v1291
  v1292.toNat
def k0_dev306 (d0 : Dev nD) : Nat :=
  let c0_i32_1072 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1071 : BitVec 32 := 16#32
  let v1319 : BitVec 32 := Scalar.muli v9 c16_i32_1071
  let v1320 : BitVec 32 := Scalar.addi c0_i32_1072 v1319
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1073 : BitVec 32 := 4#32
  let v1321 : BitVec 32 := Scalar.muli v5 c4_i32_1073
  let v1322 : BitVec 32 := Scalar.addi v1320 v1321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1074 : BitVec 32 := 1#32
  let v1323 : BitVec 32 := Scalar.muli v8 c1_i32_1074
  let v1324 : BitVec 32 := Scalar.addi v1322 v1323
  v1324.toNat
def k0_dev307 (d0 : Dev nD) : Nat :=
  let c0_i32_1099 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1098 : BitVec 32 := 16#32
  let v1351 : BitVec 32 := Scalar.muli v9 c16_i32_1098
  let v1352 : BitVec 32 := Scalar.addi c0_i32_1099 v1351
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1100 : BitVec 32 := 4#32
  let v1353 : BitVec 32 := Scalar.muli v5 c4_i32_1100
  let v1354 : BitVec 32 := Scalar.addi v1352 v1353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1101 : BitVec 32 := 1#32
  let v1355 : BitVec 32 := Scalar.muli v8 c1_i32_1101
  let v1356 : BitVec 32 := Scalar.addi v1354 v1355
  v1356.toNat
def k0_dev308 (d0 : Dev nD) : Nat :=
  let c0_i32_1127 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1126 : BitVec 32 := 16#32
  let v1383 : BitVec 32 := Scalar.muli v9 c16_i32_1126
  let v1384 : BitVec 32 := Scalar.addi c0_i32_1127 v1383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1128 : BitVec 32 := 4#32
  let v1385 : BitVec 32 := Scalar.muli v5 c4_i32_1128
  let v1386 : BitVec 32 := Scalar.addi v1384 v1385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1129 : BitVec 32 := 1#32
  let v1387 : BitVec 32 := Scalar.muli v8 c1_i32_1129
  let v1388 : BitVec 32 := Scalar.addi v1386 v1387
  v1388.toNat
def k0_dev309 (d0 : Dev nD) : Nat :=
  let c0_i32_1154 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1153 : BitVec 32 := 16#32
  let v1415 : BitVec 32 := Scalar.muli v9 c16_i32_1153
  let v1416 : BitVec 32 := Scalar.addi c0_i32_1154 v1415
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1155 : BitVec 32 := 4#32
  let v1417 : BitVec 32 := Scalar.muli v5 c4_i32_1155
  let v1418 : BitVec 32 := Scalar.addi v1416 v1417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1156 : BitVec 32 := 1#32
  let v1419 : BitVec 32 := Scalar.muli v8 c1_i32_1156
  let v1420 : BitVec 32 := Scalar.addi v1418 v1419
  v1420.toNat
def k0_dev310 (d0 : Dev nD) : Nat :=
  let c0_i32_1181 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1180 : BitVec 32 := 16#32
  let v1447 : BitVec 32 := Scalar.muli v9 c16_i32_1180
  let v1448 : BitVec 32 := Scalar.addi c0_i32_1181 v1447
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1182 : BitVec 32 := 4#32
  let v1449 : BitVec 32 := Scalar.muli v5 c4_i32_1182
  let v1450 : BitVec 32 := Scalar.addi v1448 v1449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1183 : BitVec 32 := 1#32
  let v1451 : BitVec 32 := Scalar.muli v8 c1_i32_1183
  let v1452 : BitVec 32 := Scalar.addi v1450 v1451
  v1452.toNat
def k0_dev311 (d0 : Dev nD) : Nat :=
  let c0_i32_1208 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1207 : BitVec 32 := 16#32
  let v1479 : BitVec 32 := Scalar.muli v9 c16_i32_1207
  let v1480 : BitVec 32 := Scalar.addi c0_i32_1208 v1479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1209 : BitVec 32 := 4#32
  let v1481 : BitVec 32 := Scalar.muli v5 c4_i32_1209
  let v1482 : BitVec 32 := Scalar.addi v1480 v1481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1210 : BitVec 32 := 1#32
  let v1483 : BitVec 32 := Scalar.muli v8 c1_i32_1210
  let v1484 : BitVec 32 := Scalar.addi v1482 v1483
  v1484.toNat
def k0_dev312 (d0 : Dev nD) : Nat :=
  let c0_i32_1235 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1234 : BitVec 32 := 16#32
  let v1511 : BitVec 32 := Scalar.muli v9 c16_i32_1234
  let v1512 : BitVec 32 := Scalar.addi c0_i32_1235 v1511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1236 : BitVec 32 := 4#32
  let v1513 : BitVec 32 := Scalar.muli v5 c4_i32_1236
  let v1514 : BitVec 32 := Scalar.addi v1512 v1513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1237 : BitVec 32 := 1#32
  let v1515 : BitVec 32 := Scalar.muli v8 c1_i32_1237
  let v1516 : BitVec 32 := Scalar.addi v1514 v1515
  v1516.toNat
def k0_dev313 (d0 : Dev nD) : Nat :=
  let c0_i32_1262 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1261 : BitVec 32 := 16#32
  let v1543 : BitVec 32 := Scalar.muli v9 c16_i32_1261
  let v1544 : BitVec 32 := Scalar.addi c0_i32_1262 v1543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1263 : BitVec 32 := 4#32
  let v1545 : BitVec 32 := Scalar.muli v5 c4_i32_1263
  let v1546 : BitVec 32 := Scalar.addi v1544 v1545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1264 : BitVec 32 := 1#32
  let v1547 : BitVec 32 := Scalar.muli v8 c1_i32_1264
  let v1548 : BitVec 32 := Scalar.addi v1546 v1547
  v1548.toNat
def k0_dev314 (d0 : Dev nD) : Nat :=
  let c0_i32_1289 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1288 : BitVec 32 := 16#32
  let v1575 : BitVec 32 := Scalar.muli v9 c16_i32_1288
  let v1576 : BitVec 32 := Scalar.addi c0_i32_1289 v1575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1290 : BitVec 32 := 4#32
  let v1577 : BitVec 32 := Scalar.muli v5 c4_i32_1290
  let v1578 : BitVec 32 := Scalar.addi v1576 v1577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1291 : BitVec 32 := 1#32
  let v1579 : BitVec 32 := Scalar.muli v8 c1_i32_1291
  let v1580 : BitVec 32 := Scalar.addi v1578 v1579
  v1580.toNat
def k0_dev315 (d0 : Dev nD) : Nat :=
  let c0_i32_1316 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1315 : BitVec 32 := 16#32
  let v1607 : BitVec 32 := Scalar.muli v9 c16_i32_1315
  let v1608 : BitVec 32 := Scalar.addi c0_i32_1316 v1607
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1317 : BitVec 32 := 4#32
  let v1609 : BitVec 32 := Scalar.muli v5 c4_i32_1317
  let v1610 : BitVec 32 := Scalar.addi v1608 v1609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1318 : BitVec 32 := 1#32
  let v1611 : BitVec 32 := Scalar.muli v8 c1_i32_1318
  let v1612 : BitVec 32 := Scalar.addi v1610 v1611
  v1612.toNat
def k0_dev316 (d0 : Dev nD) : Nat :=
  let c0_i32_1343 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1342 : BitVec 32 := 16#32
  let v1639 : BitVec 32 := Scalar.muli v9 c16_i32_1342
  let v1640 : BitVec 32 := Scalar.addi c0_i32_1343 v1639
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1344 : BitVec 32 := 4#32
  let v1641 : BitVec 32 := Scalar.muli v5 c4_i32_1344
  let v1642 : BitVec 32 := Scalar.addi v1640 v1641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v1643 : BitVec 32 := Scalar.muli v8 c1_i32_1345
  let v1644 : BitVec 32 := Scalar.addi v1642 v1643
  v1644.toNat
def k0_dev317 (d0 : Dev nD) : Nat :=
  let c0_i32_1370 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1369 : BitVec 32 := 16#32
  let v1671 : BitVec 32 := Scalar.muli v9 c16_i32_1369
  let v1672 : BitVec 32 := Scalar.addi c0_i32_1370 v1671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1371 : BitVec 32 := 4#32
  let v1673 : BitVec 32 := Scalar.muli v5 c4_i32_1371
  let v1674 : BitVec 32 := Scalar.addi v1672 v1673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372 : BitVec 32 := 1#32
  let v1675 : BitVec 32 := Scalar.muli v8 c1_i32_1372
  let v1676 : BitVec 32 := Scalar.addi v1674 v1675
  v1676.toNat
def k0_dev318 (d0 : Dev nD) : Nat :=
  let c0_i32_1397 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1396 : BitVec 32 := 16#32
  let v1703 : BitVec 32 := Scalar.muli v9 c16_i32_1396
  let v1704 : BitVec 32 := Scalar.addi c0_i32_1397 v1703
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1705 : BitVec 32 := Scalar.muli v5 c4_i32_1398
  let v1706 : BitVec 32 := Scalar.addi v1704 v1705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1707 : BitVec 32 := Scalar.muli v8 c1_i32_1399
  let v1708 : BitVec 32 := Scalar.addi v1706 v1707
  v1708.toNat
def k0_dev319 (d0 : Dev nD) : Nat :=
  let c0_i32_1424 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1423 : BitVec 32 := 16#32
  let v1735 : BitVec 32 := Scalar.muli v9 c16_i32_1423
  let v1736 : BitVec 32 := Scalar.addi c0_i32_1424 v1735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1425 : BitVec 32 := 4#32
  let v1737 : BitVec 32 := Scalar.muli v5 c4_i32_1425
  let v1738 : BitVec 32 := Scalar.addi v1736 v1737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1426 : BitVec 32 := 1#32
  let v1739 : BitVec 32 := Scalar.muli v8 c1_i32_1426
  let v1740 : BitVec 32 := Scalar.addi v1738 v1739
  v1740.toNat
def k0_dev320 (d0 : Dev nD) : Nat :=
  let c0_i32_1451 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1450 : BitVec 32 := 16#32
  let v1767 : BitVec 32 := Scalar.muli v9 c16_i32_1450
  let v1768 : BitVec 32 := Scalar.addi c0_i32_1451 v1767
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1452 : BitVec 32 := 4#32
  let v1769 : BitVec 32 := Scalar.muli v5 c4_i32_1452
  let v1770 : BitVec 32 := Scalar.addi v1768 v1769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1453 : BitVec 32 := 1#32
  let v1771 : BitVec 32 := Scalar.muli v8 c1_i32_1453
  let v1772 : BitVec 32 := Scalar.addi v1770 v1771
  v1772.toNat
def k0_dev321 (d0 : Dev nD) : Nat :=
  let c0_i32_1478 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1477 : BitVec 32 := 16#32
  let v1799 : BitVec 32 := Scalar.muli v9 c16_i32_1477
  let v1800 : BitVec 32 := Scalar.addi c0_i32_1478 v1799
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1479 : BitVec 32 := 4#32
  let v1801 : BitVec 32 := Scalar.muli v5 c4_i32_1479
  let v1802 : BitVec 32 := Scalar.addi v1800 v1801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1480 : BitVec 32 := 1#32
  let v1803 : BitVec 32 := Scalar.muli v8 c1_i32_1480
  let v1804 : BitVec 32 := Scalar.addi v1802 v1803
  v1804.toNat
def k0_dev322 (d0 : Dev nD) : Nat :=
  let c0_i32_1505 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1504 : BitVec 32 := 16#32
  let v1831 : BitVec 32 := Scalar.muli v9 c16_i32_1504
  let v1832 : BitVec 32 := Scalar.addi c0_i32_1505 v1831
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1506 : BitVec 32 := 4#32
  let v1833 : BitVec 32 := Scalar.muli v5 c4_i32_1506
  let v1834 : BitVec 32 := Scalar.addi v1832 v1833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1507 : BitVec 32 := 1#32
  let v1835 : BitVec 32 := Scalar.muli v8 c1_i32_1507
  let v1836 : BitVec 32 := Scalar.addi v1834 v1835
  v1836.toNat
def k0_dev323 (d0 : Dev nD) : Nat :=
  let c0_i32_1532 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1531 : BitVec 32 := 16#32
  let v1863 : BitVec 32 := Scalar.muli v9 c16_i32_1531
  let v1864 : BitVec 32 := Scalar.addi c0_i32_1532 v1863
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1533 : BitVec 32 := 4#32
  let v1865 : BitVec 32 := Scalar.muli v5 c4_i32_1533
  let v1866 : BitVec 32 := Scalar.addi v1864 v1865
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1534 : BitVec 32 := 1#32
  let v1867 : BitVec 32 := Scalar.muli v8 c1_i32_1534
  let v1868 : BitVec 32 := Scalar.addi v1866 v1867
  v1868.toNat
def k0_off15 (d0 : Dev nD) (c0_i32_118 : BitVec 32) : Fin 2 → Nat :=
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_3 : BitVec 32 := 512#32
  let v11 : BitVec 32 := Scalar.muli v9 c512_i32_3
  let v147 : BitVec 32 := Scalar.addi v11 c0_i32_118
  let c0_i32_125 : BitVec 32 := 0#32
  ![v147.toNat, 0]
def k0_off16 (d0 : Dev nD) (c0_i32_351 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v10 : BitVec 32 := Scalar.muli v2 c512_i32
  let v499 : BitVec 32 := Scalar.addi v10 c0_i32_351
  let c0_i32_355 : BitVec 32 := 0#32
  ![v499.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S16384x1024, .f32⟩
  | .hbm, ⟨3, _⟩ => ⟨S1024x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
The kernel's body as a sequence of small steps.

The body works on 32 blocks of 16 rows. What it does on one block is always one of a few things: wait for the
block's running sum, add this device's product to it, send it on, add the two running sums and send the total to
the device with the other x. Each of these is written here once, for block `b`, as a program ending in the program
that follows it. `body0` … `body3` say what a device does that stands at place 0 … 3 of the axis y.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

set_option maxRecDepth 16384

noncomputable section

namespace Cert.Chain

open Cert.KernelIdeal Cert.KernelIdeal.Gen
open Idealize.ShloMosaic
open Idealize.ShloMosaic.TcCoe
open Idealize.SL.Sem

variable {F : FTy → Type} [FloatOps F]

/-- A program of one TensorCore of this kernel. -/
abbrev Pr (F : FTy → Type) [FloatOps F] := Prog (TpuEff nD τ sig (Elt F) Λ₀ .tc) PUnit

/-! ## The devices: device `16 x + 4 y + z` stands at place `(x, y, z)` -/

/-- The place of a device on the axis y. -/
abbrev yN (c : Dev nD) : Nat := (c.val / 4) % 4

/-- The place of a device on the axis x. -/
abbrev xN (c : Dev nD) : Nat := c.val / 16

/-- The next device of the axis y (from the last one to the first). -/
def rt (c : Dev nD) : Dev nD := Fin.ofNat 32 (c.val / 16 * 16 + (yN c + 1) % 4 * 4 + c.val % 4)

/-- The device before on the axis y (from the first one to the last). -/
def lf (c : Dev nD) : Dev nD := Fin.ofNat 32 (c.val / 16 * 16 + (yN c + 3) % 4 * 4 + c.val % 4)

/-- The device with the other x. -/
def xp (c : Dev nD) : Dev nD := Fin.ofNat 32 (c.val + 16)

/-! ## The buffers, the rows of a block, the semaphores -/

abbrev dyA : Memref sig .tc .hbm S1024x4096 .f32 := Memref.whole main_arg0
abbrev wA : Memref sig .tc .hbm S1024x4096 .f32 := Memref.whole main_arg1
abbrev outM : Memref sig .tc .vmem S1024x1024 .f32 := Memref.whole cc0_stg0_0
abbrev dyM : Memref sig .tc .vmem S512x4096 .f32 := Memref.whole cc0_scratch0
abbrev wM : Memref sig .tc .vmem S1024x4096 .f32 := Memref.whole cc0_scratch1
abbrev accM : Memref sig .tc .vmem S512x1024 .f32 := Memref.whole cc0_scratch2
abbrev preM : Memref sig .tc .vmem S512x1024 .f32 := Memref.whole cc0_scratch3
abbrev sufM : Memref sig .tc .vmem S512x1024 .f32 := Memref.whole cc0_scratch4
abbrev sfoM : Memref sig .tc .vmem S512x1024 .f32 := Memref.whole cc0_scratch5

theorem inbB (b : Fin 32) : ∀ a, (![16 * b.val, 0] : Fin 2 → Nat) a + S16x1024.size a ≤ S512x1024.size a := by
  revert b; decide

theorem inbS (b : Fin 32) : ∀ a, (![b.val] : Fin 1 → Nat) a + S1.size a ≤ S32.size a := by
  revert b; decide

/-- The 16 rows of block `b` in a buffer of 512 rows. -/
abbrev rB (b : Fin 32) : Rect S512x1024 := Rect.unit (s := S512x1024) ![16 * b.val, 0] S16x1024.size (inbB b)

/-- The rows of block `b` of the half this device finishes, in the result buffer. -/
abbrev rMine (c : Dev nD) (b : Fin 32) : Rect S1024x1024 :=
  Rect.unit (s := S1024x1024) (k0_off16 c (BitVec.ofNat 32 (16 * b.val))) S16x1024.size (k0_off16_inb c b)

/-- The rows of block `b` of the other half, in the result buffer. -/
abbrev rOther (c : Dev nD) (b : Fin 32) : Rect S1024x1024 :=
  Rect.unit (s := S1024x1024) (k0_off15 c (BitVec.ofNat 32 (16 * b.val))) S16x1024.size (k0_off15_inb c b)

/-- Block `b`'s rows of a buffer of 512 rows. -/
abbrev sl (m : Memref sig .tc .vmem S512x1024 .f32) (b : Fin 32) : Memref sig .tc .vmem S16x1024 .f32 :=
  m.slice (rB b) (fun _ => rfl)

/-- Block `b`'s rows of this device's half of the result. -/
abbrev slMine (c : Dev nD) (b : Fin 32) : Memref sig .tc .vmem S16x1024 .f32 := outM.slice (rMine c b) (fun _ => rfl)

/-- Block `b`'s rows of the other half of the result. -/
abbrev slOther (c : Dev nD) (b : Fin 32) : Memref sig .tc .vmem S16x1024 .f32 := outM.slice (rOther c b) (fun _ => rfl)

/-- Semaphore `b` of an array of 32. -/
abbrev smAt (A : DmaSems sig S32) (b : Fin 32) : DmaSem sig :=
  ((A.slice (Rect.unit (s := S32) ![b.val] S1.size (inbS b))).squeeze S_ squeezes_S1_S_).sem

abbrev preS (b : Fin 32) : DmaSem sig := smAt cc0_scratch7 b
abbrev preR (b : Fin 32) : DmaSem sig := smAt cc0_scratch8 b
abbrev sufS (b : Fin 32) : DmaSem sig := smAt cc0_scratch9 b
abbrev sufR (b : Fin 32) : DmaSem sig := smAt cc0_scratch10 b
abbrev outS (b : Fin 32) : DmaSem sig := smAt cc0_scratch11 b
abbrev outR (b : Fin 32) : DmaSem sig := smAt cc0_scratch12 b

abbrev cpS0 : DmaSem sig := ((cc0_scratch6.slice (Rect.unit (s := S4) ![0] S1.size inb_S4_S1_0)).squeeze S_ squeezes_S1_S_).sem
abbrev cpS1 : DmaSem sig := ((cc0_scratch6.slice (Rect.unit (s := S4) ![1] S1.size inb_S4_S1_1)).squeeze S_ squeezes_S1_S_).sem
abbrev cpS2 : DmaSem sig := ((cc0_scratch6.slice (Rect.unit (s := S4) ![2] S1.size inb_S4_S1_2)).squeeze S_ squeezes_S1_S_).sem
abbrev cpS3 : DmaSem sig := ((cc0_scratch6.slice (Rect.unit (s := S4) ![3] S1.size inb_S4_S1_3)).squeeze S_ squeezes_S1_S_).sem

/-- The runtime's barrier semaphore. -/
abbrev barS : Sem sig := (SemArray.scalar (sig.barrier 0 rfl) : Sems sig S_).sem

/-! ## One operation, then the rest -/

/-- Wait on a copy's semaphore for as many bytes as the rows `dst`. -/
def waitK (s : DmaSem sig) (src dst : Memref sig .tc .vmem S16x1024 .f32) (K : Pr F) : Pr F :=
  Prog.op (.waitDma2 s src dst (View.wordExact_bits rfl) (View.wordExact_bits rfl)) fun _ => K

/-- Read the rows `r` of a buffer of 512 rows. -/
def loadK (m : Memref sig .tc .vmem S512x1024 .f32) (b : Fin 32) (K : Vec F S16x1024 .f32 → Pr F) : Pr F :=
  Prog.op (.load m (rB b).toLoadRect (View.loadsAt_vmem h_S16x1024)) K

/-- Write rows `b` of a buffer of 512 rows; the rows are read first and what was read is not used. -/
def storeK (m : Memref sig .tc .vmem S512x1024 .f32) (b : Fin 32) (v : Vec F S16x1024 .f32) (K : Pr F) : Pr F :=
  Prog.op (.load m (rB b).toLoadRect (View.loadsAt_vmem h_S16x1024)) fun _ =>
    Prog.op (.store m (rB b) v Finset.univ (View.stores_vmem_bits_univ h_S16x1024 rfl) (.inl rfl)) fun _ => K

/-- Send the rows `src` to the rows `dst` of device `d`. -/
def sendK (d : Dev nD) (src dst : Memref sig .tc .vmem S16x1024 .f32) (sS sR : DmaSem sig) (K : Pr F) : Pr F :=
  Prog.op (.enqueueDma src (.remote (Dev.tc d) dst (.dma sS)) (.dma sR) (View.wordExact_bits rfl) (View.wordExact_bits rfl)
    ⟨⟨rfl, Or.inl rfl⟩, trivial⟩) fun _ => K

/-- The sum of two blocks as the kernel stores it. -/
def addB (v w : Vec F S16x1024 .f32) : FVec F S16x1024 .f32 :=
  have t : FVec F S16x1024 .f32 := addf v w
  shapeCast S16x1024 t shapeCasts_S16x1024_S16x1024

/-- A block as the kernel stores it. -/
def cpB (v : Vec F S16x1024 .f32) : FVec F S16x1024 .f32 := shapeCast S16x1024 v shapeCasts_S16x1024_S16x1024

/-! ## The steps of one block -/

/-- Send block `b`'s prefix sum on to `R`. -/
def sendPre (R : Dev nD) (b : Fin 32) (K : Pr F) : Pr F := sendK R (sl preM b) (sl preM b) (preS b) (preR b) K

/-- Send block `b`'s suffix sum on to `L`. -/
def sendSuf (L : Dev nD) (b : Fin 32) (K : Pr F) : Pr F := sendK L (sl sfoM b) (sl sufM b) (sufS b) (sufR b) K

/-- The first device of the axis starts the prefix sum of block `b`: its own product. -/
def startPre (b : Fin 32) (K : Pr F) : Pr F := loadK accM b fun v => storeK preM b (cpB v) K

/-- The last device of the axis starts the suffix sum of block `b`: its own product. -/
def startSuf (b : Fin 32) (K : Pr F) : Pr F := loadK accM b fun v => storeK sfoM b (cpB v) K

/-- Wait for block `b`'s prefix sum and add this device's product to it. -/
def addPre (b : Fin 32) (K : Pr F) : Pr F :=
  waitK (preR b) (sl preM b) (sl preM b) <| loadK preM b fun v => loadK accM b fun w => storeK preM b (addB v w) K

/-- Wait for block `b`'s suffix sum. -/
def waitSuf (b : Fin 32) (K : Pr F) : Pr F := waitK (sufR b) (sl sfoM b) (sl sufM b) K

/-- Add this device's product to block `b`'s suffix sum. -/
def addSuf (b : Fin 32) (K : Pr F) : Pr F :=
  loadK sufM b fun v => loadK accM b fun w => storeK sfoM b (addB v w) K

/-- Write a block of this device's half of the result. -/
def storeOut (c : Dev nD) (b : Fin 32) (v : Vec F S16x1024 .f32) (K : Pr F) : Pr F :=
  Prog.op (.load outM (rMine c b).toLoadRect (View.loadsAt_vmem h_S16x1024)) fun _ =>
    Prog.op (.store outM (rMine c b) v Finset.univ (View.stores_vmem_bits_univ h_S16x1024 rfl) (.inl rfl)) fun _ => K

/-- Send block `b` of this device's half of the result to `X`. -/
def sendOut (c X : Dev nD) (b : Fin 32) (K : Pr F) : Pr F := sendK X (slMine c b) (slMine c b) (outS b) (outR b) K

/-- Block `b`'s total: prefix sum and suffix sum, into the result and to `X`. -/
def finish (c X : Dev nD) (b : Fin 32) (K : Pr F) : Pr F :=
  loadK preM b fun v => loadK sufM b fun w => storeOut c b (addf v w) <| sendOut c X b K

/-- Block `b`'s total on the last device of the axis, where the prefix sum is the total. -/
def finishLast (c X : Dev nD) (b : Fin 32) (K : Pr F) : Pr F :=
  loadK preM b fun v => storeOut c b v <| sendOut c X b K

/-- Wait for block `b` of the other half of the result. -/
def waitOut (c : Dev nD) (b : Fin 32) (K : Pr F) : Pr F := waitK (outR b) (slOther c b) (slOther c b) K

/-- Wait until block `b` of this device's half is sent. -/
def waitOutS (c : Dev nD) (b : Fin 32) (K : Pr F) : Pr F := waitK (outS b) (slMine c b) (slMine c b) K

/-- Wait until block `b`'s prefix sum is sent. -/
def waitPreS (b : Fin 32) (K : Pr F) : Pr F := waitK (preS b) (sl preM b) (sl preM b) K

/-- Wait until block `b`'s suffix sum is sent. -/
def waitSufS (b : Fin 32) (K : Pr F) : Pr F := waitK (sufS b) (sl sufM b) (sl sfoM b) K

/-! ## Sequences of steps -/

/-- The steps `f lo`, `f (lo + 1)`, …, `n` of them, then `K`. -/
def seqK (f : Nat → Pr F → Pr F) : Nat → Nat → Pr F → Pr F
  | 0, _, K => K
  | n + 1, lo, K => f lo (seqK f n (lo + 1) K)

/-- Block number `t` of the loops. -/
abbrev blk (t : Nat) : Fin 32 := Fin.ofNat 32 t

/-! ## The copies in, the handshake and the products -/

/-- Copy the first (`h = 0`) or the second columns of the weights in. -/
abbrev wSrc0 : Memref sig .tc .hbm S1024x2048 .f32 :=
  wA.slice (Rect.unit (s := S1024x4096) ![0, 0] S1024x2048.size inb_S1024x4096_S1024x2048_0_0) (fun _ => rfl)
abbrev wSrc1 : Memref sig .tc .hbm S1024x2048 .f32 :=
  wA.slice (Rect.unit (s := S1024x4096) ![0, 2048] S1024x2048.size inb_S1024x4096_S1024x2048_0_2048) (fun _ => rfl)
abbrev wDst0 : Memref sig .tc .vmem S1024x2048 .f32 :=
  wM.slice (Rect.unit (s := S1024x4096) ![0, 0] S1024x2048.size inb_S1024x4096_S1024x2048_0_0) (fun _ => rfl)
abbrev wDst1 : Memref sig .tc .vmem S1024x2048 .f32 :=
  wM.slice (Rect.unit (s := S1024x4096) ![0, 2048] S1024x2048.size inb_S1024x4096_S1024x2048_0_2048) (fun _ => rfl)
abbrev dySrc0 (c : Dev nD) : Memref sig .tc .hbm S256x4096 .f32 :=
  dyA.slice (Rect.unit (s := S1024x4096) (k0_off1 c) S256x4096.size (k0_off1_inb c)) (fun _ => rfl)
abbrev dySrc1 (c : Dev nD) : Memref sig .tc .hbm S256x4096 .f32 :=
  dyA.slice (Rect.unit (s := S1024x4096) (k0_off2 c) S256x4096.size (k0_off2_inb c)) (fun _ => rfl)
abbrev dyDst0 : Memref sig .tc .vmem S256x4096 .f32 :=
  dyM.slice (Rect.unit (s := S512x4096) ![0, 0] S256x4096.size inb_S512x4096_S256x4096_0_0) (fun _ => rfl)
abbrev dyDst1 : Memref sig .tc .vmem S256x4096 .f32 :=
  dyM.slice (Rect.unit (s := S512x4096) ![256, 0] S256x4096.size inb_S512x4096_S256x4096_256_0) (fun _ => rfl)

/-- Start a copy of this device into its own memory. -/
def copyK {s : Shape} (src : Memref sig .tc .hbm s .f32) (dst : Memref sig .tc .vmem s .f32) (sm : DmaSem sig) (K : Pr F) : Pr F :=
  Prog.op (.enqueueDma src (.here dst) (.dma sm) (View.wordExact_bits rfl) (View.wordExact_bits rfl) ⟨Or.inl rfl, trivial⟩) fun _ => K

/-- Wait for a copy of this device into its own memory. -/
def waitCopyK {s : Shape} (src : Memref sig .tc .hbm s .f32) (dst : Memref sig .tc .vmem s .f32) (sm : DmaSem sig) (K : Pr F) : Pr F :=
  Prog.op (.waitDma2 sm src dst (View.wordExact_bits rfl) (View.wordExact_bits rfl)) fun _ => K

/-- The four copies in, the handshake with the neighbours, and the products of the first 256 rows. -/
def head (c R L X : Dev nD) (K : Pr F) : Pr F :=
  copyK wSrc0 wDst0 cpS0 <| copyK (dySrc0 c) dyDst0 cpS2 <| copyK wSrc1 wDst1 cpS1 <| copyK (dySrc1 c) dyDst1 cpS3 <|
  Prog.op (.semSignal (R, .tc) barS (1#32 : BitVec 32).toInt) fun _ => Prog.op (.semSignal (L, .tc) barS (1#32 : BitVec 32).toInt) fun _ =>
  Prog.op (.semSignal (X, .tc) barS (1#32 : BitVec 32).toInt) fun _ => Prog.op (.semWait barS (3#32 : BitVec 32).toInt) fun _ => K

/-- The products of the first 256 rows. -/
def dotA (c : Dev nD) (K : Pr F) : Pr F :=
  waitCopyK wSrc0 wDst0 cpS0 <| waitCopyK (dySrc0 c) dyDst0 cpS2 <|
  Prog.op (.load dyM (Rect.unit (s := S512x4096) ![0, 0] S256x2048.size inb_S512x4096_S256x2048_0_0).toLoadRect (View.loadsAt_vmem h_S256x2048)) fun v =>
  Prog.op (.load wM (Rect.unit (s := S1024x4096) ![0, 0] S1024x2048.size inb_S1024x4096_S1024x2048_0_0).toLoadRect (View.loadsAt_vmem h_S1024x2048)) fun w =>
  Prog.op (.load accM (Rect.unit (s := S512x1024) ![0, 0] S256x1024.size inb_S512x1024_S256x1024_0_0).toLoadRect (View.loadsAt_vmem h_S256x1024)) fun _ =>
  Prog.op (.store accM (Rect.unit (s := S512x1024) ![0, 0] S256x1024.size inb_S512x1024_S256x1024_0_0) (k0_pay337 v w) Finset.univ (View.stores_vmem_bits_univ h_S256x1024 rfl) (.inl rfl)) fun _ =>
  waitCopyK wSrc1 wDst1 cpS1 <|
  Prog.op (.load accM (Rect.unit (s := S512x1024) ![0, 0] S256x1024.size inb_S512x1024_S256x1024_0_0).toLoadRect (View.loadsAt_vmem h_S256x1024)) fun a =>
  Prog.op (.load dyM (Rect.unit (s := S512x4096) ![0, 2048] S256x2048.size inb_S512x4096_S256x2048_0_2048).toLoadRect (View.loadsAt_vmem h_S256x2048)) fun v =>
  Prog.op (.load wM (Rect.unit (s := S1024x4096) ![0, 2048] S1024x2048.size inb_S1024x4096_S1024x2048_0_2048).toLoadRect (View.loadsAt_vmem h_S1024x2048)) fun w =>
  Prog.op (.load accM (Rect.unit (s := S512x1024) ![0, 0] S256x1024.size inb_S512x1024_S256x1024_0_0).toLoadRect (View.loadsAt_vmem h_S256x1024)) fun _ =>
  Prog.op (.store accM (Rect.unit (s := S512x1024) ![0, 0] S256x1024.size inb_S512x1024_S256x1024_0_0) (k0_pay338 a v w) Finset.univ (View.stores_vmem_bits_univ h_S256x1024 rfl) (.inl rfl)) fun _ => K

/-- The products of the last 256 rows. -/
def dotB (c : Dev nD) (K : Pr F) : Pr F :=
  waitCopyK (dySrc1 c) dyDst1 cpS3 <|
  Prog.op (.load dyM (Rect.unit (s := S512x4096) ![256, 0] S256x2048.size inb_S512x4096_S256x2048_256_0).toLoadRect (View.loadsAt_vmem h_S256x2048)) fun v =>
  Prog.op (.load wM (Rect.unit (s := S1024x4096) ![0, 0] S1024x2048.size inb_S1024x4096_S1024x2048_0_0).toLoadRect (View.loadsAt_vmem h_S1024x2048)) fun w =>
  Prog.op (.load accM (Rect.unit (s := S512x1024) ![256, 0] S256x1024.size inb_S512x1024_S256x1024_256_0).toLoadRect (View.loadsAt_vmem h_S256x1024)) fun _ =>
  Prog.op (.store accM (Rect.unit (s := S512x1024) ![256, 0] S256x1024.size inb_S512x1024_S256x1024_256_0) (k0_pay341 v w) Finset.univ (View.stores_vmem_bits_univ h_S256x1024 rfl) (.inl rfl)) fun _ =>
  Prog.op (.load accM (Rect.unit (s := S512x1024) ![256, 0] S256x1024.size inb_S512x1024_S256x1024_256_0).toLoadRect (View.loadsAt_vmem h_S256x1024)) fun a =>
  Prog.op (.load dyM (Rect.unit (s := S512x4096) ![256, 2048] S256x2048.size inb_S512x4096_S256x2048_256_2048).toLoadRect (View.loadsAt_vmem h_S256x2048)) fun v =>
  Prog.op (.load wM (Rect.unit (s := S1024x4096) ![0, 2048] S1024x2048.size inb_S1024x4096_S1024x2048_0_2048).toLoadRect (View.loadsAt_vmem h_S1024x2048)) fun w =>
  Prog.op (.load accM (Rect.unit (s := S512x1024) ![256, 0] S256x1024.size inb_S512x1024_S256x1024_256_0).toLoadRect (View.loadsAt_vmem h_S256x1024)) fun _ =>
  Prog.op (.store accM (Rect.unit (s := S512x1024) ![256, 0] S256x1024.size inb_S512x1024_S256x1024_256_0) (k0_pay342 a v w) Finset.univ (View.stores_vmem_bits_univ h_S256x1024 rfl) (.inl rfl)) fun _ => K

/-! ## What each place of the axis y does: `SR`, `SL`, `SX` are the devices it signals, `R`, `L`, `X` those it sends to -/

/-- A step of the first device: start the prefix sum of block `t` and send it. -/
def step0 (R : Dev nD) (t : Nat) (K : Pr F) : Pr F := startPre (blk t) <| sendPre R (blk t) K

/-- A step of the last device: start the suffix sum of block `t` and send it. -/
def step3 (L : Dev nD) (t : Nat) (K : Pr F) : Pr F := startSuf (blk t) <| sendSuf L (blk t) K

/-- The first half of a step of the second device. -/
def step1a (R : Dev nD) (t : Nat) (K : Pr F) : Pr F := addPre (blk t) <| sendPre R (blk t) K

/-- The second half of a step of the second device: block `t`'s suffix sum and total. -/
def step1b (c L X : Dev nD) (t : Nat) (K : Pr F) : Pr F :=
  waitSuf (blk t) <| addSuf (blk t) <| sendSuf L (blk t) <| finish c X (blk t) K

/-- The first half of a step of the third device. -/
def step2a (L : Dev nD) (t : Nat) (K : Pr F) : Pr F := waitSuf (blk t) <| addSuf (blk t) <| sendSuf L (blk t) K

/-- The second half of a step of the third device: block `t`'s prefix sum and total. -/
def step2b (c R X : Dev nD) (t : Nat) (K : Pr F) : Pr F :=
  addPre (blk t) <| sendPre R (blk t) <| finish c X (blk t) K

/-- Two halves of a step, the second five blocks behind. -/
def both (f g : Nat → Pr F → Pr F) (t : Nat) (K : Pr F) : Pr F := f t <| g (t - 5) K

/-- The totals of the first device. -/
def end0 (c X : Dev nD) (t : Nat) (K : Pr F) : Pr F := waitSuf (blk t) <| finish c X (blk t) K

/-- The totals of the last device. -/
def end3 (c X : Dev nD) (t : Nat) (K : Pr F) : Pr F := addPre (blk t) <| finishLast c X (blk t) K

def body0 (c SR SL SX R L X : Dev nD) : Pr F :=
  head c SR SL SX <| dotA c <| seqK (step0 R) 16 0 <| dotB c <| seqK (step0 R) 16 16 <| seqK (end0 c X) 32 0 <|
  seqK (fun t => waitOut c (blk t)) 32 0 <| seqK (fun t K => waitOutS c (blk t) <| waitPreS (blk t) K) 32 0 <| Prog.ret ⟨⟩

def body1 (c SR SL SX R L X : Dev nD) : Pr F :=
  head c SR SL SX <| dotA c <| seqK (step1a R) 5 0 <| seqK (both (step1a R) (step1b c L X)) 11 5 <| dotB c <|
  seqK (both (step1a R) (step1b c L X)) 16 16 <| seqK (step1b c L X) 5 27 <|
  seqK (fun t => waitOut c (blk t)) 32 0 <|
  seqK (fun t K => waitOutS c (blk t) <| waitPreS (blk t) <| waitSufS (blk t) K) 32 0 <| Prog.ret ⟨⟩

def body2 (c SR SL SX R L X : Dev nD) : Pr F :=
  head c SR SL SX <| dotA c <| seqK (step2a L) 5 0 <| seqK (both (step2a L) (step2b c R X)) 11 5 <| dotB c <|
  seqK (both (step2a L) (step2b c R X)) 16 16 <| seqK (step2b c R X) 5 27 <|
  seqK (fun t => waitOut c (blk t)) 32 0 <|
  seqK (fun t K => waitOutS c (blk t) <| waitPreS (blk t) <| waitSufS (blk t) K) 32 0 <| Prog.ret ⟨⟩

def body3 (c SR SL SX R L X : Dev nD) : Pr F :=
  head c SR SL SX <| dotA c <| seqK (step3 L) 16 0 <| dotB c <| seqK (step3 L) 16 16 <| seqK (end3 c X) 32 0 <|
  seqK (fun t => waitOut c (blk t)) 32 0 <| seqK (fun t K => waitOutS c (blk t) <| waitSufS (blk t) K) 32 0 <| Prog.ret ⟨⟩

end Cert.Chain
-- ==== Proof.Base.lean ====
/-
The protocol of the kernel: what every semaphore stands for.

Device `c` stands at place `y` of a line of four devices. Its semaphores are the runtime's barrier semaphore, four
semaphores of its copies in, and six arrays of 32, one semaphore per block of rows:

* `0` prefix sum sent, `1` prefix sum received, `2` suffix sum sent, `3` suffix sum received,
* `4` total sent to the device with the other x, `5` total received from it.

Every semaphore is used for one round. The barrier semaphore of `c` gets three units: from the device before it
(which hands over its suffix buffer, into which `c` will send), from the device after it (which hands over its prefix
buffer), and from the device with the other x (which hands over the rows of its result that `c` finishes). A receive
semaphore is paid by the device that sends the block, and hands over the block holding the sum that was sent. A send
semaphore gives the sent rows back.

The sums themselves are written `preV` (prefix), `sufV` (suffix), `outV` (total).
-/
module

public import proofs.«01_k».proof.Proof.Steps
public import proofs.«01_k».proof.Proof.Gen.KernelIdeal.Launch

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: the contents `m`, every semaphore at zero. -/
def s₀ : MemSt nD τ sig (Elt F) := ⟨m, fun _ => 0, ρ⟩

abbrev 𝒱₀ : Variants := Variants.none

/-! ## The devices -/

theorem rt_lf (c : Dev nD) : rt (lf c) = c := by revert c; decide
theorem lf_rt (c : Dev nD) : lf (rt c) = c := by revert c; decide
theorem xp_xp (c : Dev nD) : xp (xp c) = c := by revert c; decide
theorem yN_rt (c : Dev nD) : yN c < 3 → yN (rt c) = yN c + 1 := by revert c; decide
theorem yN_lf (c : Dev nD) : 0 < yN c → yN (lf c) = yN c - 1 := by revert c; decide
theorem yN_xp (c : Dev nD) : yN (xp c) = yN c := by revert c; decide
theorem yN_rt_pos (c : Dev nD) : 0 < yN (rt c) ↔ yN c < 3 := by revert c; decide
theorem yN_lf_lt (c : Dev nD) : yN (lf c) < 3 ↔ 0 < yN c := by revert c; decide
theorem yN_lt (c : Dev nD) : yN c < 4 := Nat.mod_lt _ (by decide)

/-! ## The semaphores -/

/-- The kernel's own semaphores: four of the copies in, and six arrays of 32. -/
abbrev KX : Type := Fin 4 ⊕ (Fin 6 × Fin 32)

/-- With the barrier semaphore. -/
abbrev CI : Type := Unit ⊕ KX

/-- The number of an own semaphore among the kernel's copy semaphores. -/
def dmaIx : KX → DmaSem sig
  | .inl i => ⟨1 + i.val, by have := i.isLt; show 1 + i.val < 197; omega⟩
  | .inr jb => ⟨5 + 32 * jb.1.val + jb.2.val, by have := jb.1.isLt; have := jb.2.isLt; show _ < 197; omega⟩

/-- The own semaphore of a number. -/
def dec (n : ℕ) : KX := if n < 5 then .inl (Fin.ofNat 4 (n - 1)) else .inr (Fin.ofNat 6 ((n - 5) / 32), Fin.ofNat 32 ((n - 5) % 32))

theorem dec_dmaIx (k : KX) : dec (dmaIx k).val = k := by revert k; decide
theorem dmaIx_ne_zero (k : KX) : (dmaIx k).val ≠ 0 := by revert k; decide

theorem preS_eq (b : Fin 32) : preS b = dmaIx (.inr (0, b)) := by revert b; decide
theorem preR_eq (b : Fin 32) : preR b = dmaIx (.inr (1, b)) := by revert b; decide
theorem sufS_eq (b : Fin 32) : sufS b = dmaIx (.inr (2, b)) := by revert b; decide
theorem sufR_eq (b : Fin 32) : sufR b = dmaIx (.inr (3, b)) := by revert b; decide
theorem outS_eq (b : Fin 32) : outS b = dmaIx (.inr (4, b)) := by revert b; decide
theorem outR_eq (b : Fin 32) : outR b = dmaIx (.inr (5, b)) := by revert b; decide
theorem cpS0_eq : cpS0 = dmaIx (.inl 0) := by decide
theorem cpS1_eq : cpS1 = dmaIx (.inl 1) := by decide
theorem cpS2_eq : cpS2 = dmaIx (.inl 2) := by decide
theorem cpS3_eq : cpS3 = dmaIx (.inl 3) := by decide

abbrev csem : CI → SemLoc sig
  | .inl _ => .reg barS
  | .inr k => .dma (dmaIx k)

abbrev osem (k : KX) : SemLoc sig := .dma (dmaIx k)

abbrev kcell (ck : Dev nD × CI) : GSem nD τ sig := ((ck.1 : Thread nD τ), csem ck.2)

/-- The barrier cell of device `c`, and the cell of its own semaphore `k`. -/
abbrev bar (c : Dev nD) : GSem nD τ sig := ((c : Thread nD τ), .reg barS)
abbrev cel (c : Dev nD) (k : KX) : GSem nD τ sig := ((c : Thread nD τ), .dma (dmaIx k))

/-- What a copy of one block, of half the weights, of half the rows pays. -/
abbrev N : ℕ := (sl preM 0).view.dmaCredit
abbrev NW : ℕ := wDst0.view.dmaCredit
abbrev ND : ℕ := dyDst0.view.dmaCredit

/-! ## The contents -/

/-- The rows of `dy` this device works on, the first 256 and the last 256. -/
def dyV (c : Dev nD) (h : Fin 2) : Vec F S256x4096 .f32 :=
  if h = 0 then (dySrc0 c).view.read (Elt F) (m ((c : Thread nD τ).loc main_arg0))
  else (dySrc1 c).view.read (Elt F) (m ((c : Thread nD τ).loc main_arg0))

/-- The weights, the first and the last 2048 columns. -/
def wV (c : Dev nD) (h : Fin 2) : Vec F S1024x2048 .f32 :=
  if h = 0 then wSrc0.view.read (Elt F) (m ((c : Thread nD τ).loc main_arg1))
  else wSrc1.view.read (Elt F) (m ((c : Thread nD τ).loc main_arg1))

theorem inbQ (k : Fin 2) : ∀ a, (![0, 2048 * k.val] : Fin 2 → Nat) a + S256x2048.size a ≤ S256x4096.size a := by revert k; decide

/-- The columns `k` of the rows `h`. -/
def dyQ (c : Dev nD) (h k : Fin 2) : Vec F S256x2048 .f32 :=
  fun j => dyV m c h ((Rect.unit (s := S256x4096) ![0, 2048 * k.val] S256x2048.size (inbQ k)).emb j)

/-- The device's product for 256 rows: the columns are taken in two halves. -/
def accH (c : Dev nD) (h : Fin 2) : FVec F S256x1024 .f32 :=
  k0_pay338 (k0_pay337 (dyQ m c h 0) (wV m c 0)) (dyQ m c h 1) (wV m c 1)

theorem inbH (b : Fin 32) : ∀ a, (![16 * (b.val % 16), 0] : Fin 2 → Nat) a + S16x1024.size a ≤ S256x1024.size a := by revert b; decide

/-- The device's product for block `b`. -/
def accV (c : Dev nD) (b : Fin 32) : Vec F S16x1024 .f32 :=
  fun j => accH m c (if b.val < 16 then 0 else 1) ((Rect.unit (s := S256x1024) ![16 * (b.val % 16), 0] S16x1024.size (inbH b)).emb j)

/-- The sum over the device and the `n` devices before it. -/
def preN : ℕ → Dev nD → Fin 32 → Vec F S16x1024 .f32
  | 0, c, b => cpB (accV m c b)
  | n + 1, c, b => addB (preN n (lf c) b) (accV m c b)

/-- The sum over the device and the `n` devices after it. -/
def sufN : ℕ → Dev nD → Fin 32 → Vec F S16x1024 .f32
  | 0, c, b => cpB (accV m c b)
  | n + 1, c, b => addB (sufN n (rt c) b) (accV m c b)

/-- Block `b`'s prefix sum, suffix sum and total at device `c`. -/
def preV (c : Dev nD) (b : Fin 32) : Vec F S16x1024 .f32 := preN m (yN c) c b
def sufV (c : Dev nD) (b : Fin 32) : Vec F S16x1024 .f32 := sufN m (3 - yN c) c b
def outV (c : Dev nD) (b : Fin 32) : Vec F S16x1024 .f32 := if yN c < 3 then addf (preV m c b) (sufV m (rt c) b) else preV m c b

theorem preV_zero {c : Dev nD} (h : yN c = 0) (b : Fin 32) : preV m c b = cpB (accV m c b) := by unfold preV; rw [h]; rfl
theorem preV_succ {c : Dev nD} (h : 0 < yN c) (b : Fin 32) : preV m c b = addB (preV m (lf c) b) (accV m c b) := by
  unfold preV; rw [yN_lf c h, show yN c = (yN c - 1) + 1 by omega]; rfl
theorem sufV_last {c : Dev nD} (h : yN c = 3) (b : Fin 32) : sufV m c b = cpB (accV m c b) := by unfold sufV; rw [h]; rfl
theorem sufV_succ {c : Dev nD} (h : yN c < 3) (b : Fin 32) : sufV m c b = addB (sufV m (rt c) b) (accV m c b) := by
  unfold sufV; rw [yN_rt c h, show 3 - yN c = (3 - (yN c + 1)) + 1 by omega]; rfl

/-! ## What a semaphore hands over -/

/-- A block held at the value `v`. -/
abbrev own (c : Dev nD) (M : Memref sig .tc .vmem S16x1024 .f32) (q : PosShare TreeShare) (v : Vec F S16x1024 .f32) : sProp 𝕄 :=
  owns (Ix := Unit) (Name := ℕ) (U := UU) (Lvl := ℕ) (c : Thread nD τ) M q v

/-- A block held at some value. -/
def anyOwn (c : Dev nD) (M : Memref sig .tc .vmem S16x1024 .f32) : sProp 𝕄 := iprop(∃ v, own (F := F) c M fullShare v)

/-- What the barrier semaphore of `c` hands over with unit `d`. -/
def barPay (c : Dev nD) (d : Fin 3) : sProp 𝕄 :=
  match d with
  | 0 => if 0 < yN c then bigSep Finset.univ fun b : Fin 32 => anyOwn (F := F) (lf c) (sl sufM b) else iprop(emp)
  | 1 => if yN c < 3 then bigSep Finset.univ fun b : Fin 32 => anyOwn (F := F) (rt c) (sl preM b) else iprop(emp)
  | 2 => bigSep Finset.univ fun b : Fin 32 => anyOwn (F := F) (xp c) (slMine c b)

/-- What the semaphore of a copy in hands over: the rows copied, and the rows they were copied from. -/
def cpPay (c : Dev nD) (i : Fin 4) : sProp 𝕄 :=
  match i with
  | 0 => iprop(owns (c : Thread nD τ) wDst0 fullShare (wV m c 0) ∗ (wSrc0.view.loc (c : Thread nD τ) ↦[wSrc0.view.set]{fullShare} m ((c : Thread nD τ).loc main_arg1)))
  | 1 => iprop(owns (c : Thread nD τ) wDst1 fullShare (wV m c 1) ∗ (wSrc1.view.loc (c : Thread nD τ) ↦[wSrc1.view.set]{fullShare} m ((c : Thread nD τ).loc main_arg1)))
  | 2 => iprop(owns (c : Thread nD τ) dyDst0 fullShare (dyV m c 0) ∗ ((dySrc0 c).view.loc (c : Thread nD τ) ↦[(dySrc0 c).view.set]{fullShare} m ((c : Thread nD τ).loc main_arg0)))
  | 3 => iprop(owns (c : Thread nD τ) dyDst1 fullShare (dyV m c 1) ∗ ((dySrc1 c).view.loc (c : Thread nD τ) ↦[(dySrc1 c).view.set]{fullShare} m ((c : Thread nD τ).loc main_arg0)))

/-- What an own semaphore of `c` hands over. -/
def payK (c : Dev nD) : KX → sProp 𝕄
  | .inl i => cpPay m c i
  | .inr (0, b) => own c (sl preM b) fullShare.right (preV m c b)
  | .inr (1, b) => own c (sl preM b) fullShare (preV m (lf c) b)
  | .inr (2, b) => own c (sl sfoM b) fullShare (sufV m c b)
  | .inr (3, b) => own c (sl sufM b) fullShare (sufV m (rt c) b)
  | .inr (4, b) => own c (slMine c b) fullShare (outV m c b)
  | .inr (5, b) => own c (slOther c b) fullShare (outV m (xp c) b)

/-- Whether device `c` uses its array `j`. -/
def used (c : Dev nD) (j : Fin 6) : Bool :=
  match j with
  | 0 => decide (yN c < 3)
  | 1 => decide (0 < yN c)
  | 2 => decide (0 < yN c)
  | 3 => decide (yN c < 3)
  | _ => true

def dutiesK (c : Dev nD) : KX → Finset (Fin 3)
  | .inl _ => {0}
  | .inr jb => if used c jb.1 = true then {0} else ∅

def amtK : KX → ℕ
  | .inl i => if i.val < 2 then NW else ND
  | .inr _ => N

theorem N_pos : 0 < N := View.dmaCredit_pos _ (by decide)
theorem NW_pos : 0 < NW := View.dmaCredit_pos _ (by decide)
theorem ND_pos : 0 < ND := View.dmaCredit_pos _ (by decide)

theorem amtK_pos (k : KX) : 0 < amtK k := by
  rcases k with i | jb
  · show 0 < if i.val < 2 then NW else ND
    split
    · exact NW_pos
    · exact ND_pos
  · exact N_pos

/-- The protocol: one round. -/
def Rd : Rounds.Schedule (GSem nD τ sig) (Fin 3) 𝕄 where
  duties g r := if r = 0 ∧ g.1.2 = .tc then
      (match g.2 with
        | .reg s => if s = barS then Finset.univ else ∅
        | .dma q => if q.val = 0 then ∅ else dutiesK g.1.1 (dec q.val))
    else ∅
  unitless _ := False
  amount g _ _ := match g.2 with
    | .reg _ => 1
    | .dma q => amtK (dec q.val)
  payload g _ d := match g.2 with
    | .reg _ => barPay (F := F) g.1.1 d
    | .dma q => payK m g.1.1 (dec q.val)
  amount_pos g _ _ _ := by
    rcases g with ⟨t, s | q⟩
    · exact Nat.one_pos
    · exact amtK_pos _

instance anyOwn_storable (c : Dev nD) (M : Memref sig .tc .vmem S16x1024 .f32) : BI.Storable (upEmb : UEmb _ 𝕄) (anyOwn (F := F) c M) := by
  unfold anyOwn; infer_instance

instance barPay_storable (c : Dev nD) (d : Fin 3) : BI.Storable (upEmb : UEmb _ 𝕄) (barPay (F := F) c d) := by
  fin_cases d <;> (unfold barPay; dsimp only; (repeat' split) <;> infer_instance)

instance cpPay_storable (c : Dev nD) (i : Fin 4) : BI.Storable (upEmb : UEmb _ 𝕄) (cpPay m c i) := by
  fin_cases i <;> (unfold cpPay; dsimp only; infer_instance)

instance payK_storable (c : Dev nD) (k : KX) : BI.Storable (upEmb : UEmb _ 𝕄) (payK m c k) := by
  rcases k with i | ⟨j, b⟩
  · exact cpPay_storable m c i
  · fin_cases j <;> (unfold payK; dsimp only; infer_instance)

instance Rd_payload_storable (g : GSem nD τ sig) (r : ℕ) (d : Fin 3) : BI.Storable (upEmb : UEmb _ 𝕄) ((Rd m).payload g r d) := by
  rcases g with ⟨t, s | q⟩
  · exact barPay_storable _ _
  · exact payK_storable m _ _

/-! ## The protocol at each semaphore -/

section Sched
variable (c : Dev nD)

theorem duties_bar : (Rd m).duties (bar c) 0 = Finset.univ := by
  dsimp only [Rd]; rw [if_pos ⟨rfl, rfl⟩, if_pos rfl]
theorem duties_cel (k : KX) : (Rd m).duties (cel c k) 0 = dutiesK c k := by
  dsimp only [Rd]; rw [if_pos ⟨rfl, rfl⟩, if_neg (dmaIx_ne_zero k), dec_dmaIx]
theorem duties_later (g : GSem nD τ sig) : ∀ r, 1 ≤ r → (Rd m).duties g r = ∅ :=
  fun r hr => by dsimp only [Rd]; rw [if_neg fun h => by omega]
theorem amount_bar (d : Fin 3) : (Rd m).amount (bar c) 0 d = 1 := rfl
theorem amount_cel (k : KX) (d : Fin 3) : (Rd m).amount (cel c k) 0 d = amtK k := by
  dsimp only [Rd]; rw [dec_dmaIx]
theorem payload_bar (d : Fin 3) : (Rd m).payload (bar c) 0 d = barPay (F := F) c d := rfl
theorem payload_cel (k : KX) (d : Fin 3) : (Rd m).payload (cel c k) 0 d = payK m c k := by
  dsimp only [Rd]; rw [dec_dmaIx]
theorem expect_bar : (Rd m).expect (bar c) 0 = 3 := by
  unfold Schedule.expect Schedule.amountOf
  rw [duties_bar, Finset.sum_congr rfl fun d _ => amount_bar m c d, Finset.sum_const, Finset.card_univ, Fintype.card_fin, smul_eq_mul]
theorem expect_cel (k : KX) (hk : dutiesK c k = {0}) : (Rd m).expect (cel c k) 0 = amtK k := by
  unfold Schedule.expect Schedule.amountOf; rw [duties_cel, hk, Finset.sum_singleton, amount_cel]
theorem rest_bar : bigSep ((Rd m).duties (bar c) 0 \ ∅) (fun d => (Rd m).payload (bar c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons, bigSepL_singleton]
  rfl
theorem rest_cel (k : KX) (hk : dutiesK c k = {0}) : bigSep ((Rd m).duties (cel c k) 0 \ ∅) (fun d => (Rd m).payload (cel c k) 0 d) = payK m c k := by
  rw [Finset.sdiff_empty, duties_cel, hk, bigSep_singleton, payload_cel]

end Sched

/-! ## What a device owes, and the order of the waits -/

def dPre (c : Dev nD) (b : Fin 32) : CellTallies nD τ sig Unit := if yN c < 3 then tallyAt (cel (rt c) (.inr (1, b))) () N else 0
def dSuf (c : Dev nD) (b : Fin 32) : CellTallies nD τ sig Unit := if 0 < yN c then tallyAt (cel (lf c) (.inr (3, b))) () N else 0
def dOut (c : Dev nD) (b : Fin 32) : CellTallies nD τ sig Unit := tallyAt (cel (xp c) (.inr (5, b))) () N

/-- What the first and the second half of a step pay. -/
def dA (c : Dev nD) (b : Fin 32) : CellTallies nD τ sig Unit := if yN c < 2 then dPre c b else dSuf c b
def dB (c : Dev nD) (b : Fin 32) : CellTallies nD τ sig Unit := (if yN c < 2 then dSuf c b else dPre c b) + dOut c b

/-- The sum over the blocks from `p` on. -/
def rem (f : Fin 32 → CellTallies nD τ sig Unit) (p : ℕ) : CellTallies nD τ sig Unit :=
  ∑ b ∈ Finset.univ.filter (fun b : Fin 32 => p ≤ b.val), f b

/-- What is owed after `p` first halves and `q` second halves. -/
def debt (c : Dev nD) (p q : ℕ) : CellTallies nD τ sig Unit := rem (dA c) p + rem (dB c) q

/-- What is owed at launch: also one unit to each of three barrier semaphores. -/
def O₂ (c : Dev nD) : CellTallies nD τ sig Unit := debt c 0 0 + tallyAt (bar (xp c)) () 1
def O₁ (c : Dev nD) : CellTallies nD τ sig Unit := O₂ c + tallyAt (bar (lf c)) () 1
def O₀ (c : Dev nD) : CellTallies nD τ sig Unit := O₁ c + tallyAt (bar (rt c)) () 1

theorem rem_step (f : Fin 32 → CellTallies nD τ sig Unit) (p : ℕ) (hp : p < 32) : rem f p = rem f (p + 1) + f (blk p) := by
  unfold rem
  have hb : (blk p).val = p := Nat.mod_eq_of_lt hp
  have h : Finset.univ.filter (fun b : Fin 32 => p ≤ b.val) = insert (blk p) (Finset.univ.filter (fun b : Fin 32 => p + 1 ≤ b.val)) := by
    ext b; simp only [Finset.mem_filter, Finset.mem_univ, true_and, Finset.mem_insert, Fin.ext_iff, hb]; omega
  rw [h, Finset.sum_insert (by simp only [Finset.mem_filter, Finset.mem_univ, true_and, hb]; omega), add_comm]

theorem rem_end (f : Fin 32 → CellTallies nD τ sig Unit) : rem f 32 = 0 := by
  unfold rem
  rw [Finset.filter_false_of_mem fun b _ => by have := b.isLt; omega, Finset.sum_empty]

theorem debt_a (c : Dev nD) (p q : ℕ) (hp : p < 32) : debt c p q = debt c (p + 1) q + dA c (blk p) := by
  unfold debt; rw [rem_step _ p hp, add_right_comm]
theorem debt_b (c : Dev nD) (p q : ℕ) (hq : q < 32) : debt c p q = debt c p (q + 1) + dB c (blk q) := by
  unfold debt; rw [rem_step (dB c) q hq, add_assoc]
theorem debt_end (c : Dev nD) : debt c 32 32 = 0 := by unfold debt; rw [rem_end, rem_end, add_zero]

def L (g : GSem nD τ sig) : Finset Unit := if g.1.2 = .tc then {()} else ∅
theorem L_tc (c : Dev nD) (sm : SemLoc sig) : L ((c : Thread nD τ), sm) = {()} := if_pos rfl
theorem L_of_ne (g : GSem nD τ sig) (h : g.1.2 ≠ .tc) : L g = ∅ := if_neg h

/-- The level of a device's prefix receive semaphore `b`, of its suffix receive semaphore. -/
def lvPre (y : ℕ) (b : Fin 32) : ℕ := if y = 1 then 2 else if y = 2 then 3 + b.val else 200
def lvSuf (y : ℕ) (b : Fin 32) : ℕ := if y = 2 then 2 else if y = 1 then 3 + b.val else 200

def lvK (c : Dev nD) : KX → ℕ
  | .inl _ => 0
  | .inr (1, b) => lvPre (yN c) b
  | .inr (3, b) => lvSuf (yN c) b
  | .inr (5, _) => 300
  | .inr _ => 0

/-- The order: a device only waits for a semaphore of a level below everything it owes. -/
def lv (g : GSem nD τ sig) (_ : Unit) : ℕ := match g.2 with
  | .reg _ => 1
  | .dma q => if q.val = 0 then 0 else lvK g.1.1 (dec q.val)

theorem lv_cel (c : Dev nD) (k : KX) (u : Unit) : lv (cel c k) u = lvK c k := by
  dsimp only [lv]; rw [if_neg (dmaIx_ne_zero k), dec_dmaIx]

theorem lvPre_pos (y : ℕ) (b : Fin 32) : 1 < lvPre y b := by unfold lvPre; split <;> [skip; split] <;> omega
theorem lvSuf_pos (y : ℕ) (b : Fin 32) : 1 < lvSuf y b := by unfold lvSuf; split <;> [skip; split] <;> omega

/-- Where the debt after `p` and `q` halves is positive. -/
theorem debt_pos {c : Dev nD} {p q : ℕ} {g : GSem nD τ sig} {u : Unit} (h : 0 < debt c p q g u) :
    (yN c < 3 ∧ ∃ b : Fin 32, (if yN c < 2 then p else q) ≤ b.val ∧ g = cel (rt c) (.inr (1, b)))
      ∨ (0 < yN c ∧ ∃ b : Fin 32, (if yN c < 2 then q else p) ≤ b.val ∧ g = cel (lf c) (.inr (3, b)))
      ∨ ∃ b : Fin 32, q ≤ b.val ∧ g = cel (xp c) (.inr (5, b)) := by
  have hpre : ∀ b : Fin 32, 0 < dPre c b g u → yN c < 3 ∧ g = cel (rt c) (.inr (1, b)) := fun b hb => by
    unfold dPre at hb
    by_cases hy : yN c < 3
    · rw [if_pos hy] at hb; exact ⟨hy, (Pipeline.tallyAt_pos hb).1⟩
    · rw [if_neg hy] at hb; exact absurd hb (Nat.lt_irrefl 0)
  have hsuf : ∀ b : Fin 32, 0 < dSuf c b g u → 0 < yN c ∧ g = cel (lf c) (.inr (3, b)) := fun b hb => by
    unfold dSuf at hb
    by_cases hy : 0 < yN c
    · rw [if_pos hy] at hb; exact ⟨hy, (Pipeline.tallyAt_pos hb).1⟩
    · rw [if_neg hy] at hb; exact absurd hb (Nat.lt_irrefl 0)
  unfold debt at h
  rcases Pipeline.add_pos_cases h with h | h
  · obtain ⟨b, hb, h⟩ := Pipeline.sum_pos_exists h
    have hb := (Finset.mem_filter.mp hb).2
    unfold dA at h
    by_cases hy : yN c < 2
    · rw [if_pos hy] at h; obtain ⟨h1, h2⟩ := hpre b h
      exact .inl ⟨h1, b, by rw [if_pos hy]; exact hb, h2⟩
    · rw [if_neg hy] at h; obtain ⟨h1, h2⟩ := hsuf b h
      exact .inr (.inl ⟨h1, b, by rw [if_neg hy]; exact hb, h2⟩)
  · obtain ⟨b, hb, h⟩ := Pipeline.sum_pos_exists h
    have hb := (Finset.mem_filter.mp hb).2
    unfold dB at h
    rcases Pipeline.add_pos_cases h with h | h
    · by_cases hy : yN c < 2
      · rw [if_pos hy] at h; obtain ⟨h1, h2⟩ := hsuf b h
        exact .inr (.inl ⟨h1, b, by rw [if_pos hy]; exact hb, h2⟩)
      · rw [if_neg hy] at h; obtain ⟨h1, h2⟩ := hpre b h
        exact .inl ⟨h1, b, by rw [if_neg hy]; exact hb, h2⟩
    · exact .inr (.inr ⟨b, hb, (Pipeline.tallyAt_pos h).1⟩)

/-- A wait is allowed while the debt after `p` and `q` halves is open, if its semaphore's level is below what is left. -/
theorem mayWait_debt (c : Dev nD) (sm : SemLoc sig) (ℓ p q : ℕ) (hℓ : lv ((c : Thread nD τ), sm) () = ℓ)
    (h1 : yN c < 3 → ∀ b : Fin 32, (if yN c < 2 then p else q) ≤ b.val → ℓ < lvPre (yN c + 1) b)
    (h2 : 0 < yN c → ∀ b : Fin 32, (if yN c < 2 then q else p) ≤ b.val → ℓ < lvSuf (yN c - 1) b)
    (h3 : ∀ b : Fin 32, q ≤ b.val → ℓ < 300) :
    (levAts L lv : sProp 𝕄) ⊢ MayWait (c : Thread nD τ) sm () (debt c p q) :=
  Pipeline.mayWait_of_levAts (by rw [L_tc]; exact Finset.mem_singleton_self _) fun g u hg => by
    rw [hℓ]
    rcases debt_pos hg with ⟨hy, b, hb, rfl⟩ | ⟨hy, b, hb, rfl⟩ | ⟨b, hb, rfl⟩
    · refine ⟨by rw [L_tc]; exact Finset.mem_singleton_self _, ?_⟩
      rw [lv_cel]; show ℓ < lvPre (yN (rt c)) b; rw [yN_rt c hy]; exact h1 hy b hb
    · refine ⟨by rw [L_tc]; exact Finset.mem_singleton_self _, ?_⟩
      rw [lv_cel]; show ℓ < lvSuf (yN (lf c)) b; rw [yN_lf c hy]; exact h2 hy b hb
    · refine ⟨by rw [L_tc]; exact Finset.mem_singleton_self _, ?_⟩
      rw [lv_cel]; exact h3 b hb

/-- A wait at the level 0 or 1 is always allowed after the handshake. -/
theorem mayWait_low (c : Dev nD) (sm : SemLoc sig) (p q : ℕ) (hℓ : lv ((c : Thread nD τ), sm) () ≤ 1) :
    (levAts L lv : sProp 𝕄) ⊢ MayWait (c : Thread nD τ) sm () (debt c p q) :=
  mayWait_debt c sm _ p q rfl (fun _ b _ => lt_of_le_of_lt hℓ (lvPre_pos _ b)) (fun _ b _ => lt_of_le_of_lt hℓ (lvSuf_pos _ b))
    (fun _ _ => lt_of_le_of_lt hℓ (by decide))

/-- A wait at the level 0 is allowed at launch and at the end. -/
theorem mayWait_stage (c : Dev nD) (sm : SemLoc sig) (hℓ : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    rw [hℓ]
    unfold O₀ O₁ O₂ at hg
    rcases Pipeline.add_pos_cases hg with hg | hg
    · rcases Pipeline.add_pos_cases hg with hg | hg
      · rcases Pipeline.add_pos_cases hg with hg | hg
        · rcases debt_pos hg with ⟨hy, b, hb, rfl⟩ | ⟨hy, b, hb, rfl⟩ | ⟨b, hb, rfl⟩
          · exact ⟨by rw [L_tc]; exact Finset.mem_singleton_self _, by rw [lv_cel]; exact Nat.lt_of_succ_lt (lvPre_pos _ b)⟩
          · exact ⟨by rw [L_tc]; exact Finset.mem_singleton_self _, by rw [lv_cel]; exact Nat.lt_of_succ_lt (lvSuf_pos _ b)⟩
          · exact ⟨by rw [L_tc]; exact Finset.mem_singleton_self _, by rw [lv_cel]; exact (by decide : 0 < 300)⟩
        · rw [(Pipeline.tallyAt_pos hg).1]; exact ⟨by rw [L_tc]; exact Finset.mem_singleton_self _, Nat.one_pos⟩
      · rw [(Pipeline.tallyAt_pos hg).1]; exact ⟨by rw [L_tc]; exact Finset.mem_singleton_self _, Nat.one_pos⟩
    · rw [(Pipeline.tallyAt_pos hg).1]; exact ⟨by rw [L_tc]; exact Finset.mem_singleton_self _, Nat.one_pos⟩
  · rw [MayWait_zero]; iintro -; iempintro

end Cert.Chain
-- ==== Proof.Rules.lean ====
/-
What each small step of the kernel needs and gives.

`records` is what every device knows: the cells of the protocol and the order of the waits. The rules say, for one
operation at a block, which holdings it takes and which the rest of the program gets.
-/
module

public import proofs.«01_k».proof.Proof.Base

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-- The cells of the protocol, that each has reached its round, and the order of the waits. -/
def records : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance records_persistent : BI.Persistent (records m K) := by unfold records; infer_instance

theorem inv_at (c : Dev nD) (i : CI) : records m K ⊢ cellInv ER (Rd m) (K (c, i)) (kcell (c, i)) :=
  sep_elim_left.trans (bigSep_elim (Finset.mem_univ (c, i)))
theorem reached_at (c : Dev nD) (i : CI) : records m K ⊢ reached ER (kcell (c, i)) 0 :=
  (sep_elim_right.trans sep_elim_left).trans (bigSep_elim (Finset.mem_univ (c, i)))
theorem lev_at : records m K ⊢ levAts L lv := by
  unfold records; iintro ⟨-, -, H⟩; iexact H

/-- What a device owes. -/
def owesX (c : Dev nD) (O : CellTallies nD τ sig Unit) : sProp 𝕄 := iprop(∃ W, owes (c : Thread nD τ) O W)

/-- A cell the device is done with. -/
def posEnd (c : Dev nD) (i : CI) : sProp 𝕄 :=
  iprop(∃ r, ⌜∀ r', r ≤ r' → (Rd m).duties (kcell (c, i)) r' = ∅⌝ ∗ atPos ER (kcell (c, i)) r ∅ 0)

/-- Program `p` of device `c` ends in `Q`. -/
abbrev WP (c : Dev nD) (p : Pr F) (Q : PUnit.{1} → sProp 𝕄) : sProp 𝕄 :=
  wp frame (wpE (defs₀ (F := F)) 𝒱₀ (c : Thread nD τ) none) Set.univ p Q

variable (Q : PUnit.{1} → sProp (MT nD τ sig Unit (Elt F) ℕ UU ℕ))

/-- A block held at contents that read as `v`. -/
theorem own_intro (c : Dev nD) (M : Memref sig .tc .vmem S16x1024 .f32) (q : PosShare TreeShare) (f : Buf (Elt F) (M.view.loc (c : Thread nD τ)))
    (v : Vec F S16x1024 .f32) (h : M.view.read (Elt F) f = v) :
    (M.view.loc (c : Thread nD τ) ↦[M.view.set]{q} f : sProp 𝕄) ⊢ own c M q v := by
  unfold own owns; iintro H; iexists f; isplitr; · (ipureintro; exact h)
  iexact H

theorem own_elim (c : Dev nD) (M : Memref sig .tc .vmem S16x1024 .f32) (q : PosShare TreeShare) (v : Vec F S16x1024 .f32) :
    own c M q v ⊢ (iprop(∃ f, ⌜M.view.read (Elt F) f = v⌝ ∗ (M.view.loc (c : Thread nD τ) ↦[M.view.set]{q} f)) : sProp 𝕄) := by
  unfold own owns; exact BIBase.Entails.rfl

/-- A wait on an own semaphore: what the semaphore hands over. -/
theorem wp_waitOp (c : Dev nD) (k : KX) (hk : dutiesK c k = {0}) {sp sp' : Space} {s : Shape} (src : Memref sig .tc sp s .f32) (dst : Memref sig .tc sp' s .f32)
    (hsrc : src.view.WordExact) (hdst : dst.view.WordExact) (hN : dst.view.dmaCredit = amtK k)
    (O : CellTallies nD τ sig Unit) (hO : (levAts L lv : sProp 𝕄) ⊢ MayWait (c : Thread nD τ) (.dma (dmaIx k)) () O) (Kp : Pr F) :
    iprop(records m K ∗ cred (tallyAt (cel c k) () (amtK k)) ∗ owesX (F := F) c O ∗ atPos ER (cel c k) 0 ∅ 0)
      ⊢ iprop(((owesX (F := F) c O ∗ posEnd m c (.inr k) ∗ payK m c k) -∗ WP c Kp Q)
        -∗ WP c (Prog.op (.waitDma2 (dmaIx k) src dst hsrc hdst) fun _ => Kp) Q) := by
  unfold owesX
  iintro ⟨#Hrec, Hc, ⟨%W, HO⟩, Hat⟩ Hk
  ihave #HI := (inv_at m K c (.inr k)) $$ Hrec
  ihave #Hlev := (lev_at m K) $$ Hrec
  iapply (Rounds.wp_wait_rest_token 𝒱₀ ER (Rd m) (c : Thread nD τ) none (κ := K (c, .inr k))
      (wpE_waitDma2_eq 𝒱₀ (c : Thread nD τ) none Set.univ) (Set.mem_univ _) () (O := O) (W := W) (R := 0) (m := 0) (T := ∅)
      (by rw [Nat.zero_add, expect_cel m c k hk, hN])) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  iapply Hk
  isplitl [HO]; · iexists _; iexact HO
  isplitl [Hat]
  · unfold posEnd; iexists 1; isplitr
    · ipureintro; exact duties_later m _
    · iexact Hat
  · iapply (Entails.of_eq (rest_cel m c k hk)); iexact Hpay

/-- Reading a block that is held. -/
theorem wp_loadK (c : Dev nD) (M : Memref sig .tc .vmem S512x1024 .f32) (b : Fin 32) (q : PosShare TreeShare) (v : Vec F S16x1024 .f32)
    (Kp : Vec F S16x1024 .f32 → Pr F) :
    own c (sl M b) q v ⊢ iprop((own c (sl M b) q v -∗ WP c (Kp v) Q) -∗ WP c (loadK M b Kp) Q) := by
  unfold loadK own owns
  iintro ⟨%f, %hf, H⟩ Hk
  iapply (wp_load_rect 𝒱₀ (c : Thread nD τ) none Set.univ (m := M) (r := rB b) (S := (sl M b).view.set) (Finset.Subset.refl _)) $$ H
  iintro H
  rw [show (M.access (rB b)).read (Elt F) f = v from hf]
  iapply Hk
  iexists f; isplitr; · (ipureintro; exact hf)
  iexact H

/-- Writing a block that is held. -/
theorem wp_storeK (c : Dev nD) (M : Memref sig .tc .vmem S512x1024 .f32) (b : Fin 32) (w : Vec F S16x1024 .f32) (Kp : Pr F) :
    anyOwn (F := F) c (sl M b) ⊢ iprop((own c (sl M b) fullShare w -∗ WP c Kp Q) -∗ WP c (storeK M b w Kp) Q) := by
  unfold storeK anyOwn
  iintro ⟨%v, H⟩ Hk
  ihave H := (own_elim c (sl M b) fullShare v) $$ H
  icases H with ⟨%f, %hf, H⟩
  iapply (wp_load_rect 𝒱₀ (c : Thread nD τ) none Set.univ (m := M) (r := rB b) (S := (sl M b).view.set) (Finset.Subset.refl _)) $$ H
  iintro H
  iapply (wp_store 𝒱₀ (c : Thread nD τ) none Set.univ (m := M) (r := rB b) (Mk := Finset.univ) (S := (sl M b).view.set) (Finset.Subset.refl _)) $$ H
  iintro H
  iapply Hk
  iapply (own_intro c _ fullShare _ w (View.read_write_univ f w)); iexact H

/-- Writing a block of the result. -/
theorem wp_storeOut (c : Dev nD) (b : Fin 32) (w : Vec F S16x1024 .f32) (Kp : Pr F) :
    anyOwn (F := F) c (slMine c b) ⊢ iprop((own c (slMine c b) fullShare w -∗ WP c Kp Q) -∗ WP c (storeOut c b w Kp) Q) := by
  unfold storeOut anyOwn
  iintro ⟨%v, H⟩ Hk
  ihave H := (own_elim c (slMine c b) fullShare v) $$ H
  icases H with ⟨%f, %hf, H⟩
  iapply (wp_load_rect 𝒱₀ (c : Thread nD τ) none Set.univ (m := outM) (r := rMine c b) (S := (slMine c b).view.set) (Finset.Subset.refl _)) $$ H
  iintro H
  iapply (wp_store 𝒱₀ (c : Thread nD τ) none Set.univ (m := outM) (r := rMine c b) (Mk := Finset.univ) (S := (slMine c b).view.set) (Finset.Subset.refl _)) $$ H
  iintro H
  iapply Hk
  iapply (own_intro c _ fullShare _ w (View.read_write_univ f w)); iexact H

/-- Sending a block to device `d`: the block, the rows of `d` it goes to, and the right to pay `d`'s semaphore. -/
theorem wp_sendOp (c d : Dev nD) (src dst : Memref sig .tc .vmem S16x1024 .f32) (kS kR : KX) (hS : dutiesK c kS = {0}) (hR : dutiesK d kR = {0})
    (hN : dst.view.amount (.dma (dmaIx kR)) = N) (hkS : amtK kS = N) (hkR : amtK kR = N) (q : PosShare TreeShare) (v : Vec F S16x1024 .f32)
    (hpS : own c src q v ⊢ payK m c kS) (hpR : own d dst fullShare v ⊢ payK m d kR) (O : CellTallies nD τ sig Unit) (Kp : Pr F) :
    iprop(records m K ∗ own c src q v ∗ anyOwn (F := F) d dst ∗ owesX (F := F) c (O + tallyAt (cel d kR) () N)
        ∗ dutyTok ER (cel c kS) 0 0 ∗ dutyTok ER (cel d kR) 0 0)
      ⊢ iprop(((cred (tallyAt (cel c kS) () N) ∗ owesX (F := F) c O) -∗ WP c Kp Q)
        -∗ WP c (sendK d src dst (dmaIx kS) (dmaIx kR) Kp) Q) := by
  unfold sendK owesX anyOwn
  iintro ⟨#Hrec, Hsrc, ⟨%v', Hdst⟩, ⟨%W, HO⟩, HtS, HtR⟩ Hk
  ihave Hsrc := (own_elim c src q v) $$ Hsrc
  icases Hsrc with ⟨%fs, %hfs, Hsrc⟩
  ihave Hdst := (own_elim d dst fullShare v') $$ Hdst
  icases Hdst with ⟨%fd, %hfd, Hdst⟩
  ihave #HIS := (inv_at m K c (.inr kS)) $$ Hrec
  ihave #HIR := (inv_at m K d (.inr kR)) $$ Hrec
  ihave #HrS := (reached_at m K c (.inr kS)) $$ Hrec
  ihave #HrR := (reached_at m K d (.inr kR)) $$ Hrec
  iapply (Rounds.wp_send_pointsTo 𝒱₀ ER (Rd m) (c : Thread nD τ) none (c' := (d : Thread nD τ)) (κ₁ := K (c, .inr kS)) (κ₂ := K (d, .inr kR))
    (r₁ := 0) (r₂ := 0) (d₁ := 0) (d₂ := 0) (q := q) (fs := fs) (fd := fd)
    (by rw [duties_cel, hS]; exact Finset.mem_singleton_self _) (by rw [duties_cel, hR]; exact Finset.mem_singleton_self _)
    () () N hN ((amount_cel m c kS 0).trans hkS) ((amount_cel m d kR 0).trans hkR) O rfl (W := W)
    (by rw [payload_cel]; exact (own_intro c src q fs v hfs).trans hpS)
    (by rw [payload_cel]; exact (own_intro d dst fullShare _ v ((View.read_write_univ fd _).trans hfs)).trans hpR)) $$ [Hsrc Hdst HO HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

end Cert.Chain
-- ==== Proof.Items.lean ====
/-
The steps of one block, each with what it takes and what it gives.

`accOK c n` says that the product buffer of device `c` holds the products of the blocks below `n`. `sendPreRes`,
`sendSufRes`, `sendOutRes` are what a device must hold to send a block's prefix sum, suffix sum or total: the rows it
goes to, and the two rights to pay.
-/
module

public import proofs.«01_k».proof.Proof.Rules

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## The rows of the two halves of the result -/

theorem off16_eq (c : Dev nD) (b : Fin 32) : k0_off16 c (BitVec.ofNat 32 (16 * b.val)) = ![512 * xN c + 16 * b.val, 0] := by
  revert c b; decide +kernel
theorem off15_eq (c : Dev nD) (b : Fin 32) : k0_off15 c (BitVec.ofNat 32 (16 * b.val)) = ![512 * (1 - xN c) + 16 * b.val, 0] := by
  revert c b; decide +kernel
theorem xN_xp (c : Dev nD) : xN (xp c) = 1 - xN c := by revert c; decide
theorem xN_lt (c : Dev nD) : xN c < 2 := by revert c; decide

theorem slice_congr {o o' : Fin 2 → Nat} (h : o = o') (i : ∀ a, o a + S16x1024.size a ≤ S1024x1024.size a) (i' : ∀ a, o' a + S16x1024.size a ≤ S1024x1024.size a) :
    (outM.slice (Rect.unit (s := S1024x1024) o S16x1024.size i) (fun _ => rfl) : Memref sig .tc .vmem S16x1024 .f32)
      = outM.slice (Rect.unit (s := S1024x1024) o' S16x1024.size i') (fun _ => rfl) := by
  subst h; rfl

theorem slOther_xp (c : Dev nD) (b : Fin 32) : slOther (xp c) b = slMine c b :=
  slice_congr (by rw [off15_eq, off16_eq, xN_xp]; have := xN_lt c; rw [show 1 - (1 - xN c) = xN c by omega]) _ _

/-! ## The product buffer -/

/-- The product buffer of `c` holds the products of the blocks below `n`. -/
def accOK (c : Dev nD) (n : ℕ) : sProp 𝕄 :=
  iprop(∃ f : Buf (Elt F) (accM.view.loc (c : Thread nD τ)), ⌜∀ b : Fin 32, b.val < n → (sl accM b).view.read (Elt F) f = accV m c b⌝
    ∗ (accM.view.loc (c : Thread nD τ) ↦{fullShare} f))

theorem wp_loadAcc (c : Dev nD) (n : ℕ) (b : Fin 32) (hb : b.val < n) (Kp : Vec F S16x1024 .f32 → Pr F) :
    accOK m c n ⊢ iprop((accOK m c n -∗ WP c (Kp (accV m c b)) Q) -∗ WP c (loadK accM b Kp) Q) := by
  unfold loadK accOK
  iintro ⟨%f, %hf, H⟩ Hk
  iapply (wp_load_rect 𝒱₀ (c : Thread nD τ) none Set.univ (m := accM) (r := rB b) (S := Finset.univ) (Finset.subset_univ _)) $$ H
  iintro H
  rw [show (accM.access (rB b)).read (Elt F) f = accV m c b from hf b hb]
  iapply Hk
  iexists f; isplitr; · (ipureintro; exact hf)
  iexact H

/-! ## The prefix sum -/

theorem duties0 {c : Dev nD} {b : Fin 32} (h : yN c < 3) : dutiesK c (.inr (0, b)) = {0} := by
  unfold dutiesK used; simp only [h, decide_true, if_true]
theorem duties1 {c : Dev nD} {b : Fin 32} (h : 0 < yN c) : dutiesK c (.inr (1, b)) = {0} := by
  unfold dutiesK used; simp only [h, decide_true, if_true]
theorem duties2 {c : Dev nD} {b : Fin 32} (h : 0 < yN c) : dutiesK c (.inr (2, b)) = {0} := by
  unfold dutiesK used; simp only [h, decide_true, if_true]
theorem duties3 {c : Dev nD} {b : Fin 32} (h : yN c < 3) : dutiesK c (.inr (3, b)) = {0} := by
  unfold dutiesK used; simp only [h, decide_true, if_true]
theorem duties4 {c : Dev nD} {b : Fin 32} : dutiesK c (.inr (4, b)) = {0} := rfl
theorem duties5 {c : Dev nD} {b : Fin 32} : dutiesK c (.inr (5, b)) = {0} := rfl

/-- What device `c` needs to send block `b`'s prefix sum, suffix sum, total. -/
def sendPreRes (c : Dev nD) (b : Fin 32) : sProp 𝕄 :=
  iprop(anyOwn (F := F) (rt c) (sl preM b) ∗ dutyTok ER (cel c (.inr (0, b))) 0 0 ∗ dutyTok ER (cel (rt c) (.inr (1, b))) 0 0)
def sendSufRes (c : Dev nD) (b : Fin 32) : sProp 𝕄 :=
  iprop(anyOwn (F := F) (lf c) (sl sufM b) ∗ dutyTok ER (cel c (.inr (2, b))) 0 0 ∗ dutyTok ER (cel (lf c) (.inr (3, b))) 0 0)
def sendOutRes (c : Dev nD) (b : Fin 32) : sProp 𝕄 :=
  iprop(anyOwn (F := F) c (slMine c b) ∗ anyOwn (F := F) (xp c) (slMine c b) ∗ dutyTok ER (cel c (.inr (4, b))) 0 0 ∗ dutyTok ER (cel (xp c) (.inr (5, b))) 0 0)

/-- A semaphore of `c` that is still to be waited on: the position, and the credit for what will be paid. -/
def pend (c : Dev nD) (k : KX) : sProp 𝕄 := iprop(cred (tallyAt (cel c k) () N) ∗ atPos ER (cel c k) 0 ∅ 0)

theorem share_halves {c : Dev nD} {M : Memref sig .tc .vmem S16x1024 .f32} (v : Vec F S16x1024 .f32) :
    own c M fullShare v ⊢ iprop(own c M fullShare.left v ∗ own c M fullShare.right v) := by
  iintro H
  ihave H := (own_elim c M fullShare v) $$ H
  icases H with ⟨%f, %hf, H⟩
  ihave H := (pointsTo_share (PosShare.mem_left_op_right fullShare)).1 $$ H
  icases H with ⟨H1, H2⟩
  isplitl [H1]
  · iapply (own_intro c M _ f v hf); iexact H1
  · iapply (own_intro c M _ f v hf); iexact H2

theorem join_halves {c : Dev nD} {M : Memref sig .tc .vmem S16x1024 .f32} (v w : Vec F S16x1024 .f32) :
    iprop(own c M fullShare.left v ∗ own c M fullShare.right w) ⊢ anyOwn (F := F) c M := by
  iintro ⟨H1, H2⟩
  ihave H1 := (own_elim c M _ v) $$ H1
  icases H1 with ⟨%f, %hf, H1⟩
  ihave H2 := (own_elim c M _ w) $$ H2
  icases H2 with ⟨%g, %hg, H2⟩
  ihave H := (pure_elim _ pointsTo_agree fun h => (sep_mono_right (Entails.of_eq (pointsTo_congr fun i hi => ((h i (Finset.mem_inter.mpr ⟨hi, hi⟩)).1).symm))).trans
    (pointsTo_share (PosShare.mem_left_op_right fullShare)).2) $$ [H1 H2]
  · isplitl [H1]; · iexact H1
    iexact H2
  unfold anyOwn
  iexists v; iapply (own_intro c M _ f v hf); iexact H

/-! ## The stages of a block -/

/-- The prefix sum of block `b`: before, computed and (but at the last place) being sent, done. -/
def PreP (c : Dev nD) (b : Fin 32) : ℕ → sProp 𝕄
  | 0 => iprop((if 0 < yN c then pend (F := F) c (.inr (1, b)) else iprop(anyOwn (F := F) c (sl preM b) ∗ posEnd m c (.inr (.inr (1, b)))))
      ∗ (if yN c < 3 then iprop(sendPreRes (F := F) c b ∗ atPos ER (cel c (.inr (0, b))) 0 ∅ 0) else posEnd m c (.inr (.inr (0, b)))))
  | 1 => iprop(posEnd m c (.inr (.inr (1, b)))
      ∗ (if yN c < 3 then iprop(own c (sl preM b) fullShare.left (preV m c b) ∗ pend (F := F) c (.inr (0, b)))
          else iprop(own c (sl preM b) fullShare (preV m c b) ∗ posEnd m c (.inr (.inr (0, b))))))
  | _ => iprop(posEnd m c (.inr (.inr (1, b))) ∗ posEnd m c (.inr (.inr (0, b))) ∗ anyOwn (F := F) c (sl preM b))

/-- The suffix sum of block `b`: before, computed and (but at the first place) being sent, done. -/
def SufP (c : Dev nD) (b : Fin 32) : ℕ → sProp 𝕄
  | 0 => iprop((if yN c < 3 then pend (F := F) c (.inr (3, b)) else iprop(anyOwn (F := F) c (sl sufM b) ∗ posEnd m c (.inr (.inr (3, b)))))
      ∗ anyOwn (F := F) c (sl sfoM b)
      ∗ (if 0 < yN c then iprop(sendSufRes (F := F) c b ∗ atPos ER (cel c (.inr (2, b))) 0 ∅ 0) else posEnd m c (.inr (.inr (2, b)))))
  | 1 => iprop(posEnd m c (.inr (.inr (3, b)))
      ∗ (if yN c < 3 then own c (sl sufM b) fullShare (sufV m (rt c) b) else anyOwn (F := F) c (sl sufM b))
      ∗ (if 0 < yN c then pend (F := F) c (.inr (2, b)) else iprop(anyOwn (F := F) c (sl sfoM b) ∗ posEnd m c (.inr (.inr (2, b))))))
  | _ => iprop(posEnd m c (.inr (.inr (3, b))) ∗ posEnd m c (.inr (.inr (2, b))) ∗ anyOwn (F := F) c (sl sufM b) ∗ anyOwn (F := F) c (sl sfoM b))

/-- The total of block `b`: before, being sent, the other half's block received, sent. -/
def OutP (c : Dev nD) (b : Fin 32) : ℕ → sProp 𝕄
  | 0 => iprop(sendOutRes (F := F) c b ∗ atPos ER (cel c (.inr (4, b))) 0 ∅ 0 ∗ pend (F := F) c (.inr (5, b)))
  | 1 => iprop(pend (F := F) c (.inr (4, b)) ∗ pend (F := F) c (.inr (5, b)))
  | 2 => iprop(pend (F := F) c (.inr (4, b)) ∗ own c (slOther c b) fullShare (outV m (xp c) b) ∗ posEnd m c (.inr (.inr (5, b))))
  | _ => iprop(own c (slMine c b) fullShare (outV m c b) ∗ posEnd m c (.inr (.inr (4, b)))
      ∗ own c (slOther c b) fullShare (outV m (xp c) b) ∗ posEnd m c (.inr (.inr (5, b))))

theorem OutP_0 (c : Dev nD) (b : Fin 32) : OutP m c b 0
    = iprop(sendOutRes (F := F) c b ∗ atPos ER (cel c (.inr (4, b))) 0 ∅ 0 ∗ pend (F := F) c (.inr (5, b))) := rfl
theorem OutP_1 (c : Dev nD) (b : Fin 32) : OutP m c b 1 = iprop(pend (F := F) c (.inr (4, b)) ∗ pend (F := F) c (.inr (5, b))) := rfl
theorem OutP_2 (c : Dev nD) (b : Fin 32) : OutP m c b 2
    = iprop(pend (F := F) c (.inr (4, b)) ∗ own c (slOther c b) fullShare (outV m (xp c) b) ∗ posEnd m c (.inr (.inr (5, b)))) := rfl
theorem OutP_3 (c : Dev nD) (b : Fin 32) : OutP m c b 3
    = iprop(own c (slMine c b) fullShare (outV m c b) ∗ posEnd m c (.inr (.inr (4, b)))
      ∗ own c (slOther c b) fullShare (outV m (xp c) b) ∗ posEnd m c (.inr (.inr (5, b)))) := rfl

/-! ## The steps at any place of the axis -/

/-- Block `b`'s prefix sum. -/
def preK (c : Dev nD) (b : Fin 32) (Kp : Pr F) : Pr F :=
  if 0 < yN c then (if yN c < 3 then addPre b (sendPre (rt c) b Kp) else addPre b Kp) else startPre b (sendPre (rt c) b Kp)

/-- Block `b`'s suffix sum. -/
def sufK (c : Dev nD) (b : Fin 32) (Kp : Pr F) : Pr F :=
  if yN c < 3 then (if 0 < yN c then waitSuf b (addSuf b (sendSuf (lf c) b Kp)) else waitSuf b Kp) else startSuf b (sendSuf (lf c) b Kp)

/-- Block `b`'s total. -/
def outK (c : Dev nD) (b : Fin 32) (Kp : Pr F) : Pr F := if yN c < 3 then finish c (xp c) b Kp else finishLast c (xp c) b Kp

/-- Sending on the prefix sum. -/
theorem wp_sendPre (c : Dev nD) (b : Fin 32) (h : yN c < 3) (O : CellTallies nD τ sig Unit) (Kp : Pr F) :
    iprop(records m K ∗ own c (sl preM b) fullShare (preV m c b) ∗ (sendPreRes (F := F) c b ∗ atPos ER (cel c (.inr (0, b))) 0 ∅ 0) ∗ owesX (F := F) c (O + dPre c b))
      ⊢ iprop(((own c (sl preM b) fullShare.left (preV m c b) ∗ pend (F := F) c (.inr (0, b)) ∗ owesX (F := F) c O) -∗ WP c Kp Q)
        -∗ WP c (sendPre (rt c) b Kp) Q) := by
  unfold sendPreRes sendPre dPre pend
  rw [if_pos h, preS_eq, preR_eq]
  iintro ⟨#Hrec, Hv, ⟨⟨Hd, Ht1, Ht2⟩, Hat⟩, HO⟩ Hk
  ihave Hv := (share_halves (preV m c b)) $$ Hv
  icases Hv with ⟨Hl, Hr⟩
  iapply (wp_sendOp m K Q c (rt c) (sl preM b) (sl preM b) (.inr (0, b)) (.inr (1, b)) (duties0 h) (duties1 ((yN_rt_pos c).mpr h)) rfl rfl rfl
    fullShare.right (preV m c b) BIBase.Entails.rfl (by show _ ⊢ own (rt c) (sl preM b) fullShare (preV m (lf (rt c)) b); rw [lf_rt]) O Kp) $$ [Hr Hd HO Ht1 Ht2]
  · isplitr; · iexact Hrec
    isplitl [Hr]; · iexact Hr
    isplitl [Hd]; · iexact Hd
    isplitl [HO]; · iexact HO
    isplitl [Ht1]; · iexact Ht1
    iexact Ht2
  iintro ⟨Hc, HO⟩
  iapply Hk
  isplitl [Hl]; · iexact Hl
  isplitl [Hc Hat]
  · isplitl [Hc]; · iexact Hc
    iexact Hat
  · iexact HO

/-- Waiting for the prefix sum and adding to it. -/
theorem wp_addPre (c : Dev nD) (b : Fin 32) (h : 0 < yN c) (n : ℕ) (hb : b.val < n) (O : CellTallies nD τ sig Unit)
    (hO : (levAts L lv : sProp 𝕄) ⊢ MayWait (c : Thread nD τ) (.dma (dmaIx (.inr (1, b)))) () O) (Kp : Pr F) :
    iprop(records m K ∗ pend (F := F) c (.inr (1, b)) ∗ accOK m c n ∗ owesX (F := F) c O)
      ⊢ iprop(((own c (sl preM b) fullShare (preV m c b) ∗ posEnd m c (.inr (.inr (1, b))) ∗ accOK m c n ∗ owesX (F := F) c O) -∗ WP c Kp Q)
        -∗ WP c (addPre b Kp) Q) := by
  unfold pend addPre waitK
  rw [preR_eq]
  iintro ⟨#Hrec, ⟨Hc, Hat⟩, Hacc, HO⟩ Hk
  iapply (wp_waitOp m K Q c (.inr (1, b)) (duties1 h) (sl preM b) (sl preM b) (View.wordExact_bits rfl) (View.wordExact_bits rfl) rfl O hO _) $$ [Hc Hat HO]
  · isplitr; · iexact Hrec
    isplitl [Hc]; · iexact Hc
    isplitl [HO]; · iexact HO
    iexact Hat
  iintro ⟨HO, Hat, Hv⟩
  ihave Hv := (show payK m c (.inr (1, b)) ⊢ own c (sl preM b) fullShare (preV m (lf c) b) from BIBase.Entails.rfl) $$ Hv
  iapply (wp_loadK Q c preM b fullShare (preV m (lf c) b) _) $$ Hv
  iintro Hv
  iapply (wp_loadAcc m Q c n b hb _) $$ Hacc
  iintro Hacc
  ihave Hv := (show own c (sl preM b) fullShare (preV m (lf c) b) ⊢ anyOwn (F := F) c (sl preM b) from by unfold anyOwn; iintro H; iexists _; iexact H) $$ Hv
  iapply (wp_storeK Q c preM b _ _) $$ Hv
  iintro Hv
  iapply Hk
  isplitl [Hv]; · rw [preV_succ m h]; iexact Hv
  isplitl [Hat]; · iexact Hat
  isplitl [Hacc]; · iexact Hacc
  iexact HO

theorem wp_preK (c : Dev nD) (b : Fin 32) (n : ℕ) (hb : b.val < n) (O : CellTallies nD τ sig Unit)
    (hO : 0 < yN c → (levAts L lv : sProp 𝕄) ⊢ MayWait (c : Thread nD τ) (.dma (dmaIx (.inr (1, b)))) () (O + dPre c b)) (Kp : Pr F) :
    iprop(records m K ∗ PreP m c b 0 ∗ accOK m c n ∗ owesX (F := F) c (O + dPre c b))
      ⊢ iprop(((PreP m c b 1 ∗ accOK m c n ∗ owesX (F := F) c O) -∗ WP c Kp Q) -∗ WP c (preK c b Kp) Q) := by
  unfold PreP preK
  by_cases h0 : 0 < yN c
  · simp only [if_pos h0]
    by_cases h3 : yN c < 3
    · simp only [if_pos h3]
      iintro ⟨#Hrec, ⟨Hp, Hs⟩, Hacc, HO⟩ Hk
      iapply (wp_addPre m K Q c b h0 n hb _ (hO h0) _) $$ [Hp Hacc HO]
      · isplitr; · iexact Hrec
        isplitl [Hp]; · iexact Hp
        isplitl [Hacc]; · iexact Hacc
        iexact HO
      iintro ⟨Hv, He, Hacc, HO⟩
      iapply (wp_sendPre m K Q c b h3 O Kp) $$ [Hv Hs HO]
      · isplitr; · iexact Hrec
        isplitl [Hv]; · iexact Hv
        isplitl [Hs]; · iexact Hs
        iexact HO
      iintro ⟨Hl, Hp, HO⟩
      iapply Hk
      isplitl [He Hl Hp]
      · isplitl [He]; · iexact He
        isplitl [Hl]; · iexact Hl
        iexact Hp
      isplitl [Hacc]; · iexact Hacc
      iexact HO
    · have hd : dPre c b = 0 := if_neg h3
      simp only [if_neg h3, hd, add_zero] at hO ⊢
      iintro ⟨#Hrec, ⟨Hp, Hs⟩, Hacc, HO⟩ Hk
      iapply (wp_addPre m K Q c b h0 n hb _ (hO h0) _) $$ [Hp Hacc HO]
      · isplitr; · iexact Hrec
        isplitl [Hp]; · iexact Hp
        isplitl [Hacc]; · iexact Hacc
        iexact HO
      iintro ⟨Hv, He, Hacc, HO⟩
      iapply Hk
      isplitl [He Hv Hs]
      · isplitl [He]; · iexact He
        isplitl [Hv]; · iexact Hv
        iexact Hs
      isplitl [Hacc]; · iexact Hacc
      iexact HO
  · have h3 : yN c < 3 := by omega
    simp only [if_neg h0, if_pos h3]
    unfold startPre
    iintro ⟨#Hrec, ⟨⟨Hp, He⟩, Hs⟩, Hacc, HO⟩ Hk
    iapply (wp_loadAcc m Q c n b hb _) $$ Hacc
    iintro Hacc
    iapply (wp_storeK Q c preM b _ _) $$ Hp
    iintro Hv
    iapply (wp_sendPre m K Q c b h3 O Kp) $$ [Hv Hs HO]
    · isplitr; · iexact Hrec
      isplitl [Hv]; · rw [preV_zero m (show yN c = 0 by omega)]; iexact Hv
      isplitl [Hs]; · iexact Hs
      iexact HO
    iintro ⟨Hl, Hp, HO⟩
    iapply Hk
    isplitl [He Hl Hp]
    · isplitl [He]; · iexact He
      isplitl [Hl]; · iexact Hl
      iexact Hp
    isplitl [Hacc]; · iexact Hacc
    iexact HO

/-- Sending on the suffix sum. -/
theorem wp_sendSuf (c : Dev nD) (b : Fin 32) (h : 0 < yN c) (O : CellTallies nD τ sig Unit) (Kp : Pr F) :
    iprop(records m K ∗ own c (sl sfoM b) fullShare (sufV m c b) ∗ (sendSufRes (F := F) c b ∗ atPos ER (cel c (.inr (2, b))) 0 ∅ 0) ∗ owesX (F := F) c (O + dSuf c b))
      ⊢ iprop(((pend (F := F) c (.inr (2, b)) ∗ owesX (F := F) c O) -∗ WP c Kp Q)
        -∗ WP c (sendSuf (lf c) b Kp) Q) := by
  unfold sendSufRes sendSuf dSuf pend
  rw [if_pos h, sufS_eq, sufR_eq]
  iintro ⟨#Hrec, Hv, ⟨⟨Hd, Ht1, Ht2⟩, Hat⟩, HO⟩ Hk
  iapply (wp_sendOp m K Q c (lf c) (sl sfoM b) (sl sufM b) (.inr (2, b)) (.inr (3, b)) (duties2 h) (duties3 ((yN_lf_lt c).mpr h)) rfl rfl rfl
    fullShare (sufV m c b) BIBase.Entails.rfl (by show _ ⊢ own (lf c) (sl sufM b) fullShare (sufV m (rt (lf c)) b); rw [rt_lf]) O Kp) $$ [Hv Hd HO Ht1 Ht2]
  · isplitr; · iexact Hrec
    isplitl [Hv]; · iexact Hv
    isplitl [Hd]; · iexact Hd
    isplitl [HO]; · iexact HO
    isplitl [Ht1]; · iexact Ht1
    iexact Ht2
  iintro ⟨Hc, HO⟩
  iapply Hk
  isplitl [Hc Hat]
  · isplitl [Hc]; · iexact Hc
    iexact Hat
  · iexact HO

/-- Waiting for the suffix sum. -/
theorem wp_waitSuf (c : Dev nD) (b : Fin 32) (h : yN c < 3) (O : CellTallies nD τ sig Unit)
    (hO : (levAts L lv : sProp 𝕄) ⊢ MayWait (c : Thread nD τ) (.dma (dmaIx (.inr (3, b)))) () O) (Kp : Pr F) :
    iprop(records m K ∗ pend (F := F) c (.inr (3, b)) ∗ owesX (F := F) c O)
      ⊢ iprop(((own c (sl sufM b) fullShare (sufV m (rt c) b) ∗ posEnd m c (.inr (.inr (3, b))) ∗ owesX (F := F) c O) -∗ WP c Kp Q)
        -∗ WP c (waitSuf b Kp) Q) := by
  unfold pend waitSuf waitK
  rw [sufR_eq]
  iintro ⟨#Hrec, ⟨Hc, Hat⟩, HO⟩ Hk
  iapply (wp_waitOp m K Q c (.inr (3, b)) (duties3 h) (sl sfoM b) (sl sufM b) (View.wordExact_bits rfl) (View.wordExact_bits rfl) rfl O hO _) $$ [Hc Hat HO]
  · isplitr; · iexact Hrec
    isplitl [Hc]; · iexact Hc
    isplitl [HO]; · iexact HO
    iexact Hat
  iintro ⟨HO, Hat, Hv⟩
  ihave Hv := (show payK m c (.inr (3, b)) ⊢ own c (sl sufM b) fullShare (sufV m (rt c) b) from BIBase.Entails.rfl) $$ Hv
  iapply Hk
  isplitl [Hv]; · iexact Hv
  isplitl [Hat]; · iexact Hat
  iexact HO

theorem wp_sufK (c : Dev nD) (b : Fin 32) (n : ℕ) (hb : b.val < n) (O : CellTallies nD τ sig Unit)
    (hO : yN c < 3 → (levAts L lv : sProp 𝕄) ⊢ MayWait (c : Thread nD τ) (.dma (dmaIx (.inr (3, b)))) () (O + dSuf c b)) (Kp : Pr F) :
    iprop(records m K ∗ SufP m c b 0 ∗ accOK m c n ∗ owesX (F := F) c (O + dSuf c b))
      ⊢ iprop(((SufP m c b 1 ∗ accOK m c n ∗ owesX (F := F) c O) -∗ WP c Kp Q) -∗ WP c (sufK c b Kp) Q) := by
  unfold SufP sufK
  by_cases h3 : yN c < 3
  · simp only [if_pos h3]
    by_cases h0 : 0 < yN c
    · simp only [if_pos h0]
      unfold addSuf
      iintro ⟨#Hrec, ⟨Hp, Hf, Hs⟩, Hacc, HO⟩ Hk
      iapply (wp_waitSuf m K Q c b h3 _ (hO h3) _) $$ [Hp HO]
      · isplitr; · iexact Hrec
        isplitl [Hp]; · iexact Hp
        iexact HO
      iintro ⟨Hv, He, HO⟩
      iapply (wp_loadK Q c sufM b fullShare (sufV m (rt c) b) _) $$ Hv
      iintro Hv
      iapply (wp_loadAcc m Q c n b hb _) $$ Hacc
      iintro Hacc
      iapply (wp_storeK Q c sfoM b _ _) $$ Hf
      iintro Hf
      iapply (wp_sendSuf m K Q c b h0 O Kp) $$ [Hf Hs HO]
      · isplitr; · iexact Hrec
        isplitl [Hf]; · rw [sufV_succ m h3]; iexact Hf
        isplitl [Hs]; · iexact Hs
        iexact HO
      iintro ⟨Hp, HO⟩
      iapply Hk
      isplitl [He Hv Hp]
      · isplitl [He]; · iexact He
        isplitl [Hv]; · iexact Hv
        iexact Hp
      isplitl [Hacc]; · iexact Hacc
      iexact HO
    · have hd : dSuf c b = 0 := if_neg h0
      simp only [if_neg h0, hd, add_zero] at hO ⊢
      iintro ⟨#Hrec, ⟨Hp, Hf, Hs⟩, Hacc, HO⟩ Hk
      iapply (wp_waitSuf m K Q c b h3 _ (hO h3) _) $$ [Hp HO]
      · isplitr; · iexact Hrec
        isplitl [Hp]; · iexact Hp
        iexact HO
      iintro ⟨Hv, He, HO⟩
      iapply Hk
      isplitl [He Hv Hf Hs]
      · isplitl [He]; · iexact He
        isplitl [Hv]; · iexact Hv
        isplitl [Hf]; · iexact Hf
        iexact Hs
      isplitl [Hacc]; · iexact Hacc
      iexact HO
  · have hl := yN_lt c
    have h0 : 0 < yN c := by omega
    simp only [if_pos h0, if_neg h3]
    unfold startSuf
    iintro ⟨#Hrec, ⟨⟨Hp, He⟩, Hf, Hs⟩, Hacc, HO⟩ Hk
    iapply (wp_loadAcc m Q c n b hb _) $$ Hacc
    iintro Hacc
    iapply (wp_storeK Q c sfoM b _ _) $$ Hf
    iintro Hv
    iapply (wp_sendSuf m K Q c b h0 O Kp) $$ [Hv Hs HO]
    · isplitr; · iexact Hrec
      isplitl [Hv]; · rw [sufV_last m (show yN c = 3 by omega)]; iexact Hv
      isplitl [Hs]; · iexact Hs
      iexact HO
    iintro ⟨Hq, HO⟩
    iapply Hk
    isplitl [He Hp Hq]
    · isplitl [He]; · iexact He
      isplitl [Hp]; · iexact Hp
      iexact Hq
    isplitl [Hacc]; · iexact Hacc
    iexact HO

/-- Writing the total and sending it to the device with the other x. -/
theorem wp_sendOut (c : Dev nD) (b : Fin 32) (v : Vec F S16x1024 .f32) (hv : v = outV m c b) (O : CellTallies nD τ sig Unit) (Kp : Pr F) :
    iprop(records m K ∗ OutP m c b 0 ∗ owesX (F := F) c (O + dOut c b))
      ⊢ iprop(((OutP m c b 1 ∗ owesX (F := F) c O) -∗ WP c Kp Q) -∗ WP c (storeOut c b v <| sendOut c (xp c) b Kp) Q) := by
  subst hv
  rw [OutP_0, OutP_1]
  unfold sendOutRes dOut pend sendOut
  rw [outS_eq, outR_eq]
  iintro ⟨#Hrec, ⟨⟨Hm, Hd, Ht1, Ht2⟩, Hat, Hp⟩, HO⟩ Hk
  iapply (wp_storeOut Q c b _ _) $$ Hm
  iintro Hm
  iapply (wp_sendOp m K Q c (xp c) (slMine c b) (slMine c b) (.inr (4, b)) (.inr (5, b)) duties4 duties5 rfl rfl rfl
    fullShare (outV m c b) BIBase.Entails.rfl
    (by show _ ⊢ own (xp c) (slOther (xp c) b) fullShare (outV m (xp (xp c)) b); rw [xp_xp, slOther_xp]) O Kp) $$ [Hm Hd HO Ht1 Ht2]
  · isplitr; · iexact Hrec
    isplitl [Hm]; · iexact Hm
    isplitl [Hd]; · iexact Hd
    isplitl [HO]; · iexact HO
    isplitl [Ht1]; · iexact Ht1
    iexact Ht2
  iintro ⟨Hc, HO⟩
  iapply Hk
  isplitr [HO]
  · isplitl [Hc Hat]
    · isplitl [Hc]; · iexact Hc
      iexact Hat
    · iexact Hp
  · iexact HO

theorem wp_outK (c : Dev nD) (b : Fin 32) (O : CellTallies nD τ sig Unit) (Kp : Pr F) :
    iprop(records m K ∗ PreP m c b 1 ∗ SufP m c b 1 ∗ OutP m c b 0 ∗ owesX (F := F) c (O + dOut c b))
      ⊢ iprop(((PreP m c b 1 ∗ SufP m c b 1 ∗ OutP m c b 1 ∗ owesX (F := F) c O) -∗ WP c Kp Q) -∗ WP c (outK c b Kp) Q) := by
  unfold PreP SufP outK
  by_cases h3 : yN c < 3
  · simp only [if_pos h3]
    unfold finish
    iintro ⟨#Hrec, ⟨Hp, Hv, Hp'⟩, ⟨Hs, Hw, Hs'⟩, Hout, HO⟩ Hk
    iapply (wp_loadK Q c preM b fullShare.left (preV m c b) _) $$ Hv
    iintro Hv
    iapply (wp_loadK Q c sufM b fullShare (sufV m (rt c) b) _) $$ Hw
    iintro Hw
    iapply (wp_sendOut m K Q c b _ (by unfold outV; rw [if_pos h3]) O Kp) $$ [Hout HO]
    · isplitr; · iexact Hrec
      isplitl [Hout]; · iexact Hout
      iexact HO
    iintro ⟨Hout, HO⟩
    iapply Hk
    isplitl [Hp Hv Hp']
    · isplitl [Hp]; · iexact Hp
      isplitl [Hv]; · iexact Hv
      iexact Hp'
    isplitl [Hs Hw Hs']
    · isplitl [Hs]; · iexact Hs
      isplitl [Hw]; · iexact Hw
      iexact Hs'
    isplitl [Hout]; · iexact Hout
    iexact HO
  · simp only [if_neg h3]
    unfold finishLast
    iintro ⟨#Hrec, ⟨Hp, Hv, Hp'⟩, Hs, Hout, HO⟩ Hk
    iapply (wp_loadK Q c preM b fullShare (preV m c b) _) $$ Hv
    iintro Hv
    iapply (wp_sendOut m K Q c b _ (by unfold outV; rw [if_neg h3]) O Kp) $$ [Hout HO]
    · isplitr; · iexact Hrec
      isplitl [Hout]; · iexact Hout
      iexact HO
    iintro ⟨Hout, HO⟩
    iapply Hk
    isplitl [Hp Hv Hp']
    · isplitl [Hp]; · iexact Hp
      isplitl [Hv]; · iexact Hv
      iexact Hp'
    isplitl [Hs]; · iexact Hs
    isplitl [Hout]; · iexact Hout
    iexact HO

/-! ## The waits at the end -/

/-- Waiting for a semaphore all whose payments are made. -/
theorem wp_waitEnd (c : Dev nD) (j : Fin 6) (b : Fin 32) (hk : dutiesK c (.inr (j, b)) = {0}) (src dst : Memref sig .tc .vmem S16x1024 .f32)
    (hN : dst.view.dmaCredit = N) (Kp : Pr F) :
    iprop(records m K ∗ pend (F := F) c (.inr (j, b)) ∗ owesX (F := F) c 0)
      ⊢ iprop(((payK m c (.inr (j, b)) ∗ posEnd m c (.inr (.inr (j, b))) ∗ owesX (F := F) c 0) -∗ WP c Kp Q)
        -∗ WP c (waitK (dmaIx (.inr (j, b))) src dst Kp) Q) := by
  unfold pend waitK
  iintro ⟨#Hrec, ⟨Hc, Hat⟩, HO⟩ Hk
  iapply (wp_waitOp m K Q c (.inr (j, b)) hk src dst (View.wordExact_bits rfl) (View.wordExact_bits rfl) hN 0 (by rw [MayWait_zero]; iintro -; iempintro) _) $$ [Hc Hat HO]
  · isplitr; · iexact Hrec
    isplitl [Hc]; · iexact Hc
    isplitl [HO]; · iexact HO
    iexact Hat
  iintro ⟨HO, Hat, Hv⟩
  iapply Hk
  isplitl [Hv]; · iexact Hv
  isplitl [Hat]; · iexact Hat
  iexact HO

theorem wp_waitOut (c : Dev nD) (b : Fin 32) (Kp : Pr F) :
    iprop(records m K ∗ OutP m c b 1 ∗ owesX (F := F) c 0)
      ⊢ iprop(((OutP m c b 2 ∗ owesX (F := F) c 0) -∗ WP c Kp Q) -∗ WP c (waitOut c b Kp) Q) := by
  rw [OutP_1, OutP_2]
  unfold waitOut
  rw [outR_eq]
  iintro ⟨#Hrec, ⟨H4, H5⟩, HO⟩ Hk
  iapply (wp_waitEnd m K Q c 5 b duties5 (slOther c b) (slOther c b) rfl Kp) $$ [H5 HO]
  · isplitr; · iexact Hrec
    isplitl [H5]; · iexact H5
    iexact HO
  iintro ⟨Hv, He, HO⟩
  ihave Hv := (show payK m c (.inr (5, b)) ⊢ own c (slOther c b) fullShare (outV m (xp c) b) from BIBase.Entails.rfl) $$ Hv
  iapply Hk
  isplitr [HO]
  · isplitl [H4]; · iexact H4
    isplitl [Hv]; · iexact Hv
    iexact He
  · iexact HO

theorem wp_waitOutS (c : Dev nD) (b : Fin 32) (Kp : Pr F) :
    iprop(records m K ∗ OutP m c b 2 ∗ owesX (F := F) c 0)
      ⊢ iprop(((OutP m c b 3 ∗ owesX (F := F) c 0) -∗ WP c Kp Q) -∗ WP c (waitOutS c b Kp) Q) := by
  rw [OutP_2, OutP_3]
  unfold waitOutS
  rw [outS_eq]
  iintro ⟨#Hrec, ⟨H4, H5⟩, HO⟩ Hk
  iapply (wp_waitEnd m K Q c 4 b duties4 (slMine c b) (slMine c b) rfl Kp) $$ [H4 HO]
  · isplitr; · iexact Hrec
    isplitl [H4]; · iexact H4
    iexact HO
  iintro ⟨Hv, He, HO⟩
  ihave Hv := (show payK m c (.inr (4, b)) ⊢ own c (slMine c b) fullShare (outV m c b) from BIBase.Entails.rfl) $$ Hv
  iapply Hk
  isplitr [HO]
  · isplitl [Hv]; · iexact Hv
    isplitl [He]; · iexact He
    iexact H5
  · iexact HO

/-- Waiting until the prefix sum is sent, where it is sent. -/
def preWaitK (c : Dev nD) (b : Fin 32) (Kp : Pr F) : Pr F := if yN c < 3 then waitPreS b Kp else Kp
/-- Waiting until the suffix sum is sent, where it is sent. -/
def sufWaitK (c : Dev nD) (b : Fin 32) (Kp : Pr F) : Pr F := if 0 < yN c then waitSufS b Kp else Kp

theorem any_of_own (c : Dev nD) (M : Memref sig .tc .vmem S16x1024 .f32) (v : Vec F S16x1024 .f32) : own c M fullShare v ⊢ anyOwn (F := F) c M := by
  unfold anyOwn; iintro H; iexists v; iexact H

theorem wp_preWait (c : Dev nD) (b : Fin 32) (Kp : Pr F) :
    iprop(records m K ∗ PreP m c b 1 ∗ owesX (F := F) c 0)
      ⊢ iprop(((PreP m c b 2 ∗ owesX (F := F) c 0) -∗ WP c Kp Q) -∗ WP c (preWaitK c b Kp) Q) := by
  unfold PreP preWaitK
  by_cases h3 : yN c < 3
  · simp only [if_pos h3]
    unfold waitPreS
    rw [preS_eq]
    iintro ⟨#Hrec, ⟨He, Hl, Hp⟩, HO⟩ Hk
    iapply (wp_waitEnd m K Q c 0 b (duties0 h3) (sl preM b) (sl preM b) rfl Kp) $$ [Hp HO]
    · isplitr; · iexact Hrec
      isplitl [Hp]; · iexact Hp
      iexact HO
    iintro ⟨Hv, He', HO⟩
    ihave Hv := (show payK m c (.inr (0, b)) ⊢ own c (sl preM b) fullShare.right (preV m c b) from BIBase.Entails.rfl) $$ Hv
    iapply Hk
    isplitr [HO]
    · isplitl [He]; · iexact He
      isplitl [He']; · iexact He'
      iapply (join_halves (c := c) (M := sl preM b) (preV m c b) (preV m c b))
      isplitl [Hl]; · iexact Hl
      iexact Hv
    · iexact HO
  · simp only [if_neg h3]
    iintro ⟨#Hrec, ⟨He, Hl, He'⟩, HO⟩ Hk
    iapply Hk
    isplitr [HO]
    · isplitl [He]; · iexact He
      isplitl [He']; · iexact He'
      iapply (any_of_own c (sl preM b) (preV m c b)); iexact Hl
    · iexact HO

theorem wp_sufWait (c : Dev nD) (b : Fin 32) (Kp : Pr F) :
    iprop(records m K ∗ SufP m c b 1 ∗ owesX (F := F) c 0)
      ⊢ iprop(((SufP m c b 2 ∗ owesX (F := F) c 0) -∗ WP c Kp Q) -∗ WP c (sufWaitK c b Kp) Q) := by
  have hany : (if yN c < 3 then own c (sl sufM b) fullShare (sufV m (rt c) b) else anyOwn (F := F) c (sl sufM b)) ⊢ anyOwn (F := F) c (sl sufM b) := by
    split
    · exact any_of_own c _ _
    · exact BIBase.Entails.rfl
  unfold SufP sufWaitK
  by_cases h0 : 0 < yN c
  · simp only [if_pos h0]
    unfold waitSufS
    rw [sufS_eq]
    iintro ⟨#Hrec, ⟨He, Hl, Hp⟩, HO⟩ Hk
    iapply (wp_waitEnd m K Q c 2 b (duties2 h0) (sl sufM b) (sl sfoM b) rfl Kp) $$ [Hp HO]
    · isplitr; · iexact Hrec
      isplitl [Hp]; · iexact Hp
      iexact HO
    iintro ⟨Hv, He', HO⟩
    ihave Hv := (show payK m c (.inr (2, b)) ⊢ own c (sl sfoM b) fullShare (sufV m c b) from BIBase.Entails.rfl) $$ Hv
    iapply Hk
    isplitr [HO]
    · isplitl [He]; · iexact He
      isplitl [He']; · iexact He'
      isplitl [Hl]; · iapply hany; iexact Hl
      iapply (any_of_own c (sl sfoM b) (sufV m c b)); iexact Hv
    · iexact HO
  · simp only [if_neg h0]
    iintro ⟨#Hrec, ⟨He, Hl, Hf, He'⟩, HO⟩ Hk
    iapply Hk
    isplitr [HO]
    · isplitl [He]; · iexact He
      isplitl [He']; · iexact He'
      isplitl [Hl]; · iapply hany; iexact Hl
      iexact Hf
    · iexact HO

end Cert.Chain
-- ==== Proof.Head.lean ====
/-
The part of the body before the loops: the copies in, the handshake, and the products.
-/
module

public import proofs.«01_k».proof.Proof.Items

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## Rows of rows -/

theorem emb_emb {s : Shape} {o sz o' sz' o'' : Fin s.rank → ℕ} (i : ∀ a, o a + sz a ≤ s.size a) (i' : ∀ a, o' a + sz' a ≤ sz a)
    (i'' : ∀ a, o'' a + sz' a ≤ s.size a) (h : ∀ a, o a + o' a = o'' a) (j : (⟨s.rank, sz'⟩ : Shape).Idx) :
    (Rect.unit (s := s) o sz i).emb ((Rect.unit (s := ⟨s.rank, sz⟩) o' sz' i').emb j) = (Rect.unit (s := s) o'' sz' i'').emb j := by
  funext a
  refine Fin.ext ?_
  show o a + 1 * (o' a + 1 * (j a).val) = o'' a + 1 * (j a).val
  rw [← h a, Nat.one_mul, Nat.one_mul, Nat.add_assoc]

/-! ## A copy of this device -/

/-- A copy in that is under way. -/
def pendC (c : Dev nD) (i : Fin 4) : sProp 𝕄 := iprop(cred (tallyAt (cel c (.inl i)) () (amtK (.inl i))) ∗ atPos ER (cel c (.inl i)) 0 ∅ 0)

theorem wp_copyOp (c : Dev nD) (i : Fin 4) {s : Shape} (src : Memref sig .tc .hbm s .f32) (dst : Memref sig .tc .vmem s .f32)
    (f : Buf (Elt F) (src.view.loc (c : Thread nD τ))) (hN : dst.view.amount (.dma (dmaIx (.inl i))) = amtK (.inl i))
    (hp : iprop(owns (Ix := Unit) (Name := ℕ) (U := UU) (Lvl := ℕ) (c : Thread nD τ) dst fullShare (src.view.read (Elt F) f) ∗ (src.view.loc (c : Thread nD τ) ↦[src.view.set]{fullShare} f)) ⊢ payK m c (.inl i)) (Kp : Pr F) :
    iprop(records m K ∗ (src.view.loc (c : Thread nD τ) ↦[src.view.set]{fullShare} f)
        ∗ (∃ g, dst.view.loc (c : Thread nD τ) ↦[dst.view.set]{fullShare} g) ∗ dutyTok ER (cel c (.inl i)) 0 0 ∗ atPos ER (cel c (.inl i)) 0 ∅ 0)
      ⊢ iprop((pendC (F := F) c i -∗ WP c Kp Q) -∗ WP c (copyK src dst (dmaIx (.inl i)) Kp) Q) := by
  unfold copyK pendC
  iintro ⟨#Hrec, Hsrc, ⟨%g, Hdst⟩, Ht, Hat⟩ Hk
  ihave #HI := (inv_at m K c (.inr (.inl i))) $$ Hrec
  ihave #Hr := (reached_at m K c (.inr (.inl i))) $$ Hrec
  iapply (Rounds.wp_copy_pointsTo 𝒱₀ ER (Rd m) (c : Thread nD τ) none (κ := K (c, .inr (.inl i))) (r := 0) (d := 0) (q := fullShare) (fs := f) (fd := g)
    (by rw [duties_cel]; exact Finset.mem_singleton_self _) () (amtK (.inl i)) hN (amount_cel m c (.inl i) 0)
    (by
      rw [payload_cel]
      refine BIBase.Entails.trans ?_ hp
      iintro ⟨H1, H2⟩
      isplitl [H1]
      · unfold owns; iexists _; isplitr
        · ipureintro; exact View.read_write_univ g (src.view.read (Elt F) f)
        · iexact H1
      · iexact H2)) $$ [Hsrc Hdst Ht]
  · isplitr; · iexact HI
    isplitl [Hsrc]; · iexact Hsrc
    isplitl [Hdst]; · iexact Hdst
    isplitl [Ht]; · iexact Ht
    iexact Hr
  iintro Hc
  iapply Hk
  isplitl [Hc]; · iexact Hc
  iexact Hat

/-! ## The handshake -/

/-- What each device hands over with its three signals. -/
def hsGive (c : Dev nD) : sProp 𝕄 :=
  iprop(barPay (F := F) (rt c) 0 ∗ barPay (F := F) (lf c) 1 ∗ barPay (F := F) (xp c) 2
    ∗ dutyTok ER (bar (rt c)) 0 0 ∗ dutyTok ER (bar (lf c)) 0 1 ∗ dutyTok ER (bar (xp c)) 0 2
    ∗ cred (tallyAt (bar c) () 3) ∗ atPos ER (bar c) 0 ∅ 0)

/-- What it gets. -/
def hsGet (c : Dev nD) : sProp 𝕄 := iprop((barPay (F := F) c 0 ∗ barPay (F := F) c 1 ∗ barPay (F := F) c 2) ∗ posEnd m c (.inl ()))

theorem wp_hs (c : Dev nD) (Kp : Pr F) :
    iprop(records m K ∗ hsGive (F := F) c ∗ owesX (F := F) c (O₀ c))
      ⊢ iprop(((hsGet m c ∗ owesX (F := F) c (debt c 0 0)) -∗ WP c Kp Q)
        -∗ WP c (Prog.op (.semSignal (rt c, .tc) barS (1#32 : BitVec 32).toInt) fun _ => Prog.op (.semSignal (lf c, .tc) barS (1#32 : BitVec 32).toInt) fun _ =>
            Prog.op (.semSignal (xp c, .tc) barS (1#32 : BitVec 32).toInt) fun _ => Prog.op (.semWait barS (3#32 : BitVec 32).toInt) fun _ => Kp) Q) := by
  unfold hsGive hsGet owesX
  iintro ⟨#Hrec, ⟨P1, P2, P3, T1, T2, T3, Hc, Hat⟩, ⟨%W, HO⟩⟩ Hk
  ihave #I0 := (inv_at m K c (.inl ())) $$ Hrec
  ihave #I1 := (inv_at m K (rt c) (.inl ())) $$ Hrec
  ihave #I2 := (inv_at m K (lf c) (.inl ())) $$ Hrec
  ihave #I3 := (inv_at m K (xp c) (.inl ())) $$ Hrec
  ihave #R1 := (reached_at m K (rt c) (.inl ())) $$ Hrec
  ihave #R2 := (reached_at m K (lf c) (.inl ())) $$ Hrec
  ihave #R3 := (reached_at m K (xp c) (.inl ())) $$ Hrec
  ihave #Hlev := (lev_at m K) $$ Hrec
  iapply (Rounds.wp_signal 𝒱₀ ER (Rd m) (c : Thread nD τ) none (dst := (rt c : Thread nD τ)) (κ := K (rt c, .inl ()))
      (d := 0) (by rw [duties_bar]; exact Finset.mem_univ _) ((amount_bar m (rt c) 0).trans (by decide)) () (O₁ c) rfl) $$ [HO T1 P1]
  · isplitr; · iexact I1
    isplitl [HO]; · iexact HO
    isplitl [T1]; · iexact T1
    isplitl [P1]; · rw [payload_bar]; iexact P1
    iexact R1
  iintro HO
  iapply (Rounds.wp_signal 𝒱₀ ER (Rd m) (c : Thread nD τ) none (dst := (lf c : Thread nD τ)) (κ := K (lf c, .inl ()))
      (d := 1) (by rw [duties_bar]; exact Finset.mem_univ _) ((amount_bar m (lf c) 1).trans (by decide)) () (O₂ c) rfl) $$ [HO T2 P2]
  · isplitr; · iexact I2
    isplitl [HO]; · iexact HO
    isplitl [T2]; · iexact T2
    isplitl [P2]; · rw [payload_bar]; iexact P2
    iexact R2
  iintro HO
  iapply (Rounds.wp_signal 𝒱₀ ER (Rd m) (c : Thread nD τ) none (dst := (xp c : Thread nD τ)) (κ := K (xp c, .inl ()))
      (d := 2) (by rw [duties_bar]; exact Finset.mem_univ _) ((amount_bar m (xp c) 2).trans (by decide)) () (debt c 0 0) rfl) $$ [HO T3 P3]
  · isplitr; · iexact I3
    isplitl [HO]; · iexact HO
    isplitl [T3]; · iexact T3
    isplitl [P3]; · rw [payload_bar]; iexact P3
    iexact R3
  iintro HO
  iapply (Rounds.wp_wait_rest_token 𝒱₀ ER (Rd m) (c : Thread nD τ) none (κ := K (c, .inl ()))
      (wpE_semWait_eq 𝒱₀ (c : Thread nD τ) none Set.univ) (Set.mem_univ _) () (O := debt c 0 0) (W := W) (R := 0) (m := 0) (T := ∅)
      (by rw [expect_bar]; decide)) $$ [Hc HO Hat]
  · isplitr; · iexact I0
    isplitl [Hc]; · iexact Hc
    isplitl [HO]; · iexact HO
    isplitr; · iapply (mayWait_low c (.reg barS) 0 0 (le_refl 1)); iexact Hlev
    iexact Hat
  iintro ⟨HO, Hat, -, Hpay⟩
  ihave Hpay := (Entails.of_eq (rest_bar m c)) $$ Hpay
  iapply Hk
  isplitr [HO]
  · isplitl [Hpay]; · iexact Hpay
    unfold posEnd; iexists 1; isplitr
    · ipureintro; exact duties_later m _
    · iexact Hat
  · iexists _; iexact HO

/-! ## The whole head -/

/-- The rows copied in, before. -/
def cpGive (c : Dev nD) : Fin 4 → sProp 𝕄
  | 0 => iprop((wSrc0.view.loc (c : Thread nD τ) ↦[wSrc0.view.set]{fullShare} m ((c : Thread nD τ).loc main_arg1))
      ∗ (∃ g, wDst0.view.loc (c : Thread nD τ) ↦[wDst0.view.set]{fullShare} g) ∗ dutyTok ER (cel c (.inl 0)) 0 0 ∗ atPos ER (cel c (.inl 0)) 0 ∅ 0)
  | 1 => iprop((wSrc1.view.loc (c : Thread nD τ) ↦[wSrc1.view.set]{fullShare} m ((c : Thread nD τ).loc main_arg1))
      ∗ (∃ g, wDst1.view.loc (c : Thread nD τ) ↦[wDst1.view.set]{fullShare} g) ∗ dutyTok ER (cel c (.inl 1)) 0 0 ∗ atPos ER (cel c (.inl 1)) 0 ∅ 0)
  | 2 => iprop(((dySrc0 c).view.loc (c : Thread nD τ) ↦[(dySrc0 c).view.set]{fullShare} m ((c : Thread nD τ).loc main_arg0))
      ∗ (∃ g, dyDst0.view.loc (c : Thread nD τ) ↦[dyDst0.view.set]{fullShare} g) ∗ dutyTok ER (cel c (.inl 2)) 0 0 ∗ atPos ER (cel c (.inl 2)) 0 ∅ 0)
  | 3 => iprop(((dySrc1 c).view.loc (c : Thread nD τ) ↦[(dySrc1 c).view.set]{fullShare} m ((c : Thread nD τ).loc main_arg0))
      ∗ (∃ g, dyDst1.view.loc (c : Thread nD τ) ↦[dyDst1.view.set]{fullShare} g) ∗ dutyTok ER (cel c (.inl 3)) 0 0 ∗ atPos ER (cel c (.inl 3)) 0 ∅ 0)

theorem wp_head (c : Dev nD) (Kp : Pr F) :
    iprop(records m K ∗ (cpGive m c 0 ∗ cpGive m c 1 ∗ cpGive m c 2 ∗ cpGive m c 3) ∗ hsGive (F := F) c ∗ owesX (F := F) c (O₀ c))
      ⊢ iprop((((pendC (F := F) c 0 ∗ pendC (F := F) c 1 ∗ pendC (F := F) c 2 ∗ pendC (F := F) c 3) ∗ hsGet m c ∗ owesX (F := F) c (debt c 0 0)) -∗ WP c Kp Q)
        -∗ WP c (head c (rt c) (lf c) (xp c) Kp) Q) := by
  unfold head
  rw [cpS0_eq, cpS1_eq, cpS2_eq, cpS3_eq]
  iintro ⟨#Hrec, ⟨G0, G1, G2, G3⟩, Hhs, HO⟩ Hk
  unfold cpGive
  iapply (wp_copyOp m K Q c 0 wSrc0 wDst0 (m ((c : Thread nD τ).loc main_arg1)) rfl BIBase.Entails.rfl _) $$ [G0]
  · isplitr; · iexact Hrec
    iexact G0
  iintro G0
  iapply (wp_copyOp m K Q c 2 (dySrc0 c) dyDst0 (m ((c : Thread nD τ).loc main_arg0)) rfl BIBase.Entails.rfl _) $$ [G2]
  · isplitr; · iexact Hrec
    iexact G2
  iintro G2
  iapply (wp_copyOp m K Q c 1 wSrc1 wDst1 (m ((c : Thread nD τ).loc main_arg1)) rfl BIBase.Entails.rfl _) $$ [G1]
  · isplitr; · iexact Hrec
    iexact G1
  iintro G1
  iapply (wp_copyOp m K Q c 3 (dySrc1 c) dyDst1 (m ((c : Thread nD τ).loc main_arg0)) rfl BIBase.Entails.rfl _) $$ [G3]
  · isplitr; · iexact Hrec
    iexact G3
  iintro G3
  iapply (wp_hs m K Q c Kp) $$ [Hhs HO]
  · isplitr; · iexact Hrec
    isplitl [Hhs]; · iexact Hhs
    iexact HO
  iintro ⟨Hhs, HO⟩
  iapply Hk
  isplitl [G0 G1 G2 G3]
  · isplitl [G0]; · iexact G0
    isplitl [G1]; · iexact G1
    isplitl [G2]; · iexact G2
    iexact G3
  isplitl [Hhs]; · iexact Hhs
  iexact HO

end Cert.Chain
-- ==== Proof.Dots.lean ====
/-
The products: 256 rows at a time, the columns in two halves.
-/
module

public import proofs.«01_k».proof.Proof.Head

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## The product buffer after a store of 256 rows -/

theorem inbA (h : Fin 2) : ∀ a, (![256 * h.val, 0] : Fin 2 → Nat) a + S256x1024.size a ≤ S512x1024.size a := by revert h; decide

/-- The 256 rows `h` of the product buffer. -/
abbrev rA (h : Fin 2) : Rect S512x1024 := Rect.unit (s := S512x1024) ![256 * h.val, 0] S256x1024.size (inbA h)

/-- The half a block is in. -/
def hf (b : Fin 32) : Fin 2 := if b.val < 16 then 0 else 1

theorem hf_off (b : Fin 32) : ∀ a, (![256 * (hf b).val, 0] : Fin 2 → Nat) a + (![16 * (b.val % 16), 0] : Fin 2 → Nat) a = (![16 * b.val, 0] : Fin 2 → Nat) a := by
  revert b; decide

theorem accV_eq (c : Dev nD) (b : Fin 32) (j : S16x1024.Idx) :
    accV m c b j = accH m c (hf b) ((Rect.unit (s := S256x1024) ![16 * (b.val % 16), 0] S16x1024.size (inbH b)).emb j) := rfl

/-- A block of the half that was stored. -/
theorem read_store (c : Dev nD) (h : Fin 2) (b : Fin 32) (ho : ∀ a, (![256 * h.val, 0] : Fin 2 → Nat) a + (![16 * (b.val % 16), 0] : Fin 2 → Nat) a = (![16 * b.val, 0] : Fin 2 → Nat) a)
    (f : Buf (Elt F) (accM.view.loc (c : Thread nD τ))) (w : Vec F S256x1024 .f32) (j : S16x1024.Idx) :
    (sl accM b).view.read (Elt F) ((accM.access (rA h)).write (Elt F) f w Finset.univ) j
      = w ((Rect.unit (s := S256x1024) ![16 * (b.val % 16), 0] S16x1024.size (inbH b)).emb j) := by
  have e := emb_emb (s := S512x1024) (inbA h) (inbH b) (inbB b) ho j
  have e2 : (sl accM b).view.read (Elt F) ((accM.access (rA h)).write (Elt F) f w Finset.univ) j
      = accM.view.read (Elt F) ((accM.view.slice (rA h)).write (Elt F) f w Finset.univ) ((rB b).emb j) := rfl
  rw [e2]
  refine (congrArg _ e.symm).trans ?_
  exact View.read_slice_write_emb (v := accM.view) (rA h) f w (Finset.mem_univ _)

theorem read_stored (c : Dev nD) (b : Fin 32) (f : Buf (Elt F) (accM.view.loc (c : Thread nD τ))) :
    (sl accM b).view.read (Elt F) ((accM.access (rA (hf b))).write (Elt F) f (accH m c (hf b)) Finset.univ) = accV m c b :=
  funext fun j => (read_store c (hf b) b (hf_off b) f (accH m c (hf b)) j).trans (accV_eq m c b j).symm

/-- A block of the other half. -/
theorem read_kept (c : Dev nD) (h : Fin 2) (b : Fin 32) (hb : hf b ≠ h) (f : Buf (Elt F) (accM.view.loc (c : Thread nD τ))) (w : Vec F S256x1024 .f32) :
    (sl accM b).view.read (Elt F) ((accM.access (rA h)).write (Elt F) f w Finset.univ) = (sl accM b).view.read (Elt F) f := by
  funext j
  refine View.read_slice_write_of_not_mem (v := accM.view) (rA h) f w Finset.univ (y := (rB b).emb j) fun hm => hb ?_
  rw [Rect.map_emb_univ, Rect.mem_set_unit] at hm
  have h0 := hm (0 : Fin 2)
  have hj : (j (0 : Fin 2)).val < 16 := (j (0 : Fin 2)).isLt
  have h1 : 256 * h.val ≤ 16 * b.val + 1 * (j (0 : Fin 2)).val ∧ 16 * b.val + 1 * (j (0 : Fin 2)).val < 256 * h.val + 256 := h0
  have hh := h.isLt
  apply Fin.ext
  unfold hf
  split
  · show 0 = h.val; omega
  · show 1 = h.val; omega

/-! ## The reads -/

theorem subD (h k : Fin 2) : ∀ a, (![256 * h.val, 0] : Fin 2 → Nat) a + (![0, 2048 * k.val] : Fin 2 → Nat) a = (![256 * h.val, 2048 * k.val] : Fin 2 → Nat) a := by
  revert h k; decide
theorem inbR (h k : Fin 2) : ∀ a, (![256 * h.val, 2048 * k.val] : Fin 2 → Nat) a + S256x2048.size a ≤ S512x4096.size a := by revert h k; decide
theorem inbD (h : Fin 2) : ∀ a, (![256 * h.val, 0] : Fin 2 → Nat) a + S256x4096.size a ≤ S512x4096.size a := by revert h; decide
theorem inbW (k : Fin 2) : ∀ a, (![0, 2048 * k.val] : Fin 2 → Nat) a + S1024x2048.size a ≤ S1024x4096.size a := by revert k; decide

/-- The rows `h`, and the columns `k` of the weights, where they were copied to. -/
abbrev dyD (h : Fin 2) : Memref sig .tc .vmem S256x4096 .f32 := dyM.slice (Rect.unit (s := S512x4096) ![256 * h.val, 0] S256x4096.size (inbD h)) (fun _ => rfl)
abbrev wD (k : Fin 2) : Memref sig .tc .vmem S1024x2048 .f32 := wM.slice (Rect.unit (s := S1024x4096) ![0, 2048 * k.val] S1024x2048.size (inbW k)) (fun _ => rfl)

/-- Reading part of a buffer of which more is held. -/
theorem wp_loadPart (c : Dev nD) {s t u : Shape} (M : Memref sig .tc .vmem s .f32) (o sz : Fin s.rank → ℕ) (i : ∀ a, o a + sz a ≤ s.size a)
    (o' sz' : Fin s.rank → ℕ) (i' : ∀ a, o' a + sz' a ≤ sz a) (o'' : Fin s.rank → ℕ) (i'' : ∀ a, o'' a + sz' a ≤ s.size a) (h : ∀ a, o a + o' a = o'' a)
    (hl : M.view.LoadsAt (Rect.unit (s := s) o'' sz' i'').toLoadRect)
    (v : Vec F ⟨s.rank, sz⟩ .f32) (Kp : Vec F ⟨s.rank, sz'⟩ .f32 → Pr F) :
    owns (Ix := Unit) (Name := ℕ) (U := UU) (Lvl := ℕ) (c : Thread nD τ) (M.slice (Rect.unit (s := s) o sz i) (fun _ => rfl)) fullShare v
      ⊢ iprop((owns (Ix := Unit) (Name := ℕ) (U := UU) (Lvl := ℕ) (c : Thread nD τ) (M.slice (Rect.unit (s := s) o sz i) (fun _ => rfl)) fullShare v
          -∗ WP c (Kp fun j => v ((Rect.unit (s := ⟨s.rank, sz⟩) o' sz' i').emb j)) Q)
        -∗ WP c (Prog.op (.load M (Rect.unit (s := s) o'' sz' i'').toLoadRect hl) Kp) Q) := by
  unfold owns
  iintro ⟨%f, %hf, H⟩ Hk
  iapply (wp_load_rect 𝒱₀ (c : Thread nD τ) none Set.univ (m := M) (r := Rect.unit (s := s) o'' sz' i'')
    (S := (M.slice (Rect.unit (s := s) o sz i) (fun _ => rfl)).view.set) (by
      show (M.view.slice (Rect.unit (s := s) o'' sz' i'')).set ⊆ (M.view.slice (Rect.unit (s := s) o sz i)).set
      rw [View.set_slice, View.set_slice]
      refine Finset.map_subset_map.mpr fun x hx => ?_
      rw [Rect.mem_set_unit] at hx ⊢
      intro a
      have := hx a; have := h a; have := i' a
      omega)) $$ H
  iintro H
  rw [show (M.access (Rect.unit (s := s) o'' sz' i'')).read (Elt F) f = fun j => v ((Rect.unit (s := ⟨s.rank, sz⟩) o' sz' i').emb j) from by
    funext j
    rw [← hf]
    show M.view.read (Elt F) f ((Rect.unit (s := s) o'' sz' i'').emb j) = M.view.read (Elt F) f ((Rect.unit (s := s) o sz i).emb ((Rect.unit (s := ⟨s.rank, sz⟩) o' sz' i').emb j))
    rw [emb_emb i i' i'' h j]]
  iapply Hk
  iexists f; isplitr; · (ipureintro; exact hf)
  iexact H

/-- Reading all of what is held. -/
theorem wp_loadAll (c : Dev nD) {s : Shape} (M : Memref sig .tc .vmem s .f32) (r : Rect s) (h1 : ∀ a, r.stride a = 1)
    (hl : M.view.LoadsAt r.toLoadRect) (v : Vec F r.shape .f32) (Kp : Vec F r.shape .f32 → Pr F) :
    owns (Ix := Unit) (Name := ℕ) (U := UU) (Lvl := ℕ) (c : Thread nD τ) (M.slice r h1) fullShare v
      ⊢ iprop((owns (Ix := Unit) (Name := ℕ) (U := UU) (Lvl := ℕ) (c : Thread nD τ) (M.slice r h1) fullShare v -∗ WP c (Kp v) Q)
        -∗ WP c (Prog.op (.load M r.toLoadRect hl) Kp) Q) := by
  unfold owns
  iintro ⟨%f, %hf, H⟩ Hk
  iapply (wp_load_rect 𝒱₀ (c : Thread nD τ) none Set.univ (m := M) (r := r) (S := (M.slice r h1).view.set) (Finset.Subset.refl _)) $$ H
  iintro H
  rw [show (M.access r).read (Elt F) f = v from hf]
  iapply Hk
  iexists f; isplitr; · (ipureintro; exact hf)
  iexact H

/-! ## The products of 256 rows -/

/-- The products with the first columns. -/
def firstK (h : Fin 2) (Kp : Pr F) : Pr F :=
  Prog.op (.load dyM (Rect.unit (s := S512x4096) ![256 * h.val, 2048 * (0 : Fin 2).val] S256x2048.size (inbR h 0)).toLoadRect (View.loadsAt_vmem h_S256x2048)) fun v =>
  Prog.op (.load wM (Rect.unit (s := S1024x4096) ![0, 2048 * (0 : Fin 2).val] S1024x2048.size (inbW 0)).toLoadRect (View.loadsAt_vmem h_S1024x2048)) fun w =>
  Prog.op (.load accM (rA h).toLoadRect (View.loadsAt_vmem h_S256x1024)) fun _ =>
  Prog.op (.store accM (rA h) (k0_pay337 v w) Finset.univ (View.stores_vmem_bits_univ h_S256x1024 rfl) (.inl rfl)) fun _ => Kp

/-- The products with the other columns, added. -/
def secondK (h : Fin 2) (Kp : Pr F) : Pr F :=
  Prog.op (.load accM (rA h).toLoadRect (View.loadsAt_vmem h_S256x1024)) fun a =>
  Prog.op (.load dyM (Rect.unit (s := S512x4096) ![256 * h.val, 2048 * (1 : Fin 2).val] S256x2048.size (inbR h 1)).toLoadRect (View.loadsAt_vmem h_S256x2048)) fun v =>
  Prog.op (.load wM (Rect.unit (s := S1024x4096) ![0, 2048 * (1 : Fin 2).val] S1024x2048.size (inbW 1)).toLoadRect (View.loadsAt_vmem h_S1024x2048)) fun w =>
  Prog.op (.load accM (rA h).toLoadRect (View.loadsAt_vmem h_S256x1024)) fun _ =>
  Prog.op (.store accM (rA h) (k0_pay338 a v w) Finset.univ (View.stores_vmem_bits_univ h_S256x1024 rfl) (.inl rfl)) fun _ => Kp

theorem dotA_eq (c : Dev nD) (Kp : Pr F) : dotA c Kp = (waitCopyK wSrc0 wDst0 cpS0 <| waitCopyK (dySrc0 c) dyDst0 cpS2 <| firstK 0 <|
    waitCopyK wSrc1 wDst1 cpS1 <| secondK 0 Kp) := rfl
theorem dotB_eq (c : Dev nD) (Kp : Pr F) : dotB c Kp = (waitCopyK (dySrc1 c) dyDst1 cpS3 <| firstK 1 <| secondK 1 Kp) := rfl

/-- The rows `h`, the columns `k` of the weights, held as copied. -/
abbrev hasDy (c : Dev nD) (h : Fin 2) : sProp 𝕄 := owns (Ix := Unit) (Name := ℕ) (U := UU) (Lvl := ℕ) (c : Thread nD τ) (dyD h) fullShare (dyV m c h)
abbrev hasW (c : Dev nD) (k : Fin 2) : sProp 𝕄 := owns (Ix := Unit) (Name := ℕ) (U := UU) (Lvl := ℕ) (c : Thread nD τ) (wD k) fullShare (wV m c k)
abbrev hasAcc (c : Dev nD) (f : Buf (Elt F) (accM.view.loc (c : Thread nD τ))) : sProp 𝕄 := iprop(accM.view.loc (c : Thread nD τ) ↦{fullShare} f)

theorem wp_firstK (c : Dev nD) (h : Fin 2) (f : Buf (Elt F) (accM.view.loc (c : Thread nD τ))) (Kp : Pr F) :
    iprop(hasDy m c h ∗ hasW m c 0 ∗ hasAcc c f)
      ⊢ iprop(((hasDy m c h ∗ hasW m c 0 ∗ hasAcc c ((accM.access (rA h)).write (Elt F) f (k0_pay337 (dyQ m c h 0) (wV m c 0)) Finset.univ)) -∗ WP c Kp Q)
        -∗ WP c (firstK h Kp) Q) := by
  unfold firstK
  iintro ⟨Hd, Hw, Ha⟩ Hk
  iapply (wp_loadPart Q c (t := S256x4096) (u := S256x2048) dyM ![256 * h.val, 0] S256x4096.size (inbD h) ![0, 2048 * (0 : Fin 2).val] S256x2048.size (inbQ 0)
    ![256 * h.val, 2048 * (0 : Fin 2).val] (inbR h 0) (subD h 0) (View.loadsAt_vmem h_S256x2048) (dyV m c h) _) $$ Hd
  iintro Hd
  iapply (wp_loadAll Q c wM (Rect.unit (s := S1024x4096) ![0, 2048 * (0 : Fin 2).val] S1024x2048.size (inbW 0)) (fun _ => rfl) (View.loadsAt_vmem h_S1024x2048) (wV m c 0) _) $$ Hw
  iintro Hw
  iapply (wp_load_rect 𝒱₀ (c : Thread nD τ) none Set.univ (m := accM) (r := rA h) (S := Finset.univ) (Finset.subset_univ _)) $$ Ha
  iintro Ha
  iapply (wp_store 𝒱₀ (c : Thread nD τ) none Set.univ (m := accM) (r := rA h) (Mk := Finset.univ) (S := Finset.univ) (Finset.subset_univ _)) $$ Ha
  iintro Ha
  iapply Hk
  isplitl [Hd]; · iexact Hd
  isplitl [Hw]; · iexact Hw
  iexact Ha

theorem wp_secondK (c : Dev nD) (h : Fin 2) (f : Buf (Elt F) (accM.view.loc (c : Thread nD τ)))
    (hf : (accM.access (rA h)).read (Elt F) f = k0_pay337 (dyQ m c h 0) (wV m c 0)) (Kp : Pr F) :
    iprop(hasDy m c h ∗ hasW m c 1 ∗ hasAcc c f)
      ⊢ iprop(((hasDy m c h ∗ hasW m c 1 ∗ hasAcc c ((accM.access (rA h)).write (Elt F) f (accH m c h) Finset.univ)) -∗ WP c Kp Q)
        -∗ WP c (secondK h Kp) Q) := by
  unfold secondK
  iintro ⟨Hd, Hw, Ha⟩ Hk
  iapply (wp_load_rect 𝒱₀ (c : Thread nD τ) none Set.univ (m := accM) (r := rA h) (S := Finset.univ) (Finset.subset_univ _)) $$ Ha
  iintro Ha
  rw [hf]
  iapply (wp_loadPart Q c (t := S256x4096) (u := S256x2048) dyM ![256 * h.val, 0] S256x4096.size (inbD h) ![0, 2048 * (1 : Fin 2).val] S256x2048.size (inbQ 1)
    ![256 * h.val, 2048 * (1 : Fin 2).val] (inbR h 1) (subD h 1) (View.loadsAt_vmem h_S256x2048) (dyV m c h) _) $$ Hd
  iintro Hd
  iapply (wp_loadAll Q c wM (Rect.unit (s := S1024x4096) ![0, 2048 * (1 : Fin 2).val] S1024x2048.size (inbW 1)) (fun _ => rfl) (View.loadsAt_vmem h_S1024x2048) (wV m c 1) _) $$ Hw
  iintro Hw
  iapply (wp_load_rect 𝒱₀ (c : Thread nD τ) none Set.univ (m := accM) (r := rA h) (S := Finset.univ) (Finset.subset_univ _)) $$ Ha
  iintro Ha
  iapply (wp_store 𝒱₀ (c : Thread nD τ) none Set.univ (m := accM) (r := rA h) (Mk := Finset.univ) (S := Finset.univ) (Finset.subset_univ _)) $$ Ha
  iintro Ha
  iapply Hk
  isplitl [Hd]; · iexact Hd
  isplitl [Hw]; · iexact Hw
  iexact Ha

/-- A wait for a copy in. -/
theorem wp_waitCopy (c : Dev nD) (i : Fin 4) {s : Shape} (src : Memref sig .tc .hbm s .f32) (dst : Memref sig .tc .vmem s .f32)
    (hN : dst.view.dmaCredit = amtK (.inl i)) (p q : ℕ) (Kp : Pr F) :
    iprop(records m K ∗ pendC (F := F) c i ∗ owesX (F := F) c (debt c p q))
      ⊢ iprop(((cpPay m c i ∗ posEnd m c (.inr (.inl i)) ∗ owesX (F := F) c (debt c p q)) -∗ WP c Kp Q)
        -∗ WP c (waitCopyK src dst (dmaIx (.inl i)) Kp) Q) := by
  unfold pendC waitCopyK
  iintro ⟨#Hrec, ⟨Hc, Hat⟩, HO⟩ Hk
  iapply (wp_waitOp m K Q c (.inl i) rfl src dst (View.wordExact_bits rfl) (View.wordExact_bits rfl) hN (debt c p q)
    (mayWait_low c _ p q (by rw [lv_cel]; exact Nat.zero_le 1)) _) $$ [Hc Hat HO]
  · isplitr; · iexact Hrec
    isplitl [Hc]; · iexact Hc
    isplitl [HO]; · iexact HO
    iexact Hat
  iintro ⟨HO, Hat, Hv⟩
  ihave Hv := (show payK m c (.inl i) ⊢ cpPay m c i from BIBase.Entails.rfl) $$ Hv
  iapply Hk
  isplitl [Hv]; · iexact Hv
  isplitl [Hat]; · iexact Hat
  iexact HO

/-- What was copied in and the rows it was copied from, and that its semaphore is done with. -/
def cpGet (c : Dev nD) (i : Fin 4) : sProp 𝕄 := iprop(cpPay m c i ∗ posEnd m c (.inr (.inl i)))

theorem cpPay_0 (c : Dev nD) : cpPay m c 0 = iprop(hasW m c 0 ∗ (wSrc0.view.loc (c : Thread nD τ) ↦[wSrc0.view.set]{fullShare} m ((c : Thread nD τ).loc main_arg1))) := rfl
theorem cpPay_1 (c : Dev nD) : cpPay m c 1 = iprop(hasW m c 1 ∗ (wSrc1.view.loc (c : Thread nD τ) ↦[wSrc1.view.set]{fullShare} m ((c : Thread nD τ).loc main_arg1))) := rfl
theorem cpPay_2 (c : Dev nD) : cpPay m c 2 = iprop(hasDy m c 0 ∗ ((dySrc0 c).view.loc (c : Thread nD τ) ↦[(dySrc0 c).view.set]{fullShare} m ((c : Thread nD τ).loc main_arg0))) := rfl
theorem cpPay_3 (c : Dev nD) : cpPay m c 3 = iprop(hasDy m c 1 ∗ ((dySrc1 c).view.loc (c : Thread nD τ) ↦[(dySrc1 c).view.set]{fullShare} m ((c : Thread nD τ).loc main_arg0))) := rfl

theorem wp_dotA (c : Dev nD) (Kp : Pr F) :
    iprop(records m K ∗ (pendC (F := F) c 0 ∗ pendC (F := F) c 1 ∗ pendC (F := F) c 2) ∗ (∃ f, hasAcc c f) ∗ owesX (F := F) c (debt c 0 0))
      ⊢ iprop((((cpGet m c 0 ∗ cpGet m c 1 ∗ cpGet m c 2) ∗ accOK m c 16 ∗ owesX (F := F) c (debt c 0 0)) -∗ WP c Kp Q) -∗ WP c (dotA c Kp) Q) := by
  rw [dotA_eq, cpS0_eq, cpS1_eq, cpS2_eq]
  unfold cpGet
  rw [cpPay_0, cpPay_1, cpPay_2]
  iintro ⟨#Hrec, ⟨P0, P1, P2⟩, ⟨%f, Ha⟩, HO⟩ Hk
  iapply (wp_waitCopy m K Q c 0 wSrc0 wDst0 rfl 0 0 _) $$ [P0 HO]
  · isplitr; · iexact Hrec
    isplitl [P0]; · iexact P0
    iexact HO
  rw [cpPay_0]
  iintro ⟨⟨W0, S0⟩, E0, HO⟩
  iapply (wp_waitCopy m K Q c 2 (dySrc0 c) dyDst0 rfl 0 0 _) $$ [P2 HO]
  · isplitr; · iexact Hrec
    isplitl [P2]; · iexact P2
    iexact HO
  rw [cpPay_2]
  iintro ⟨⟨D0, S2⟩, E2, HO⟩
  iapply (wp_firstK m Q c 0 f _) $$ [D0 W0 Ha]
  · isplitl [D0]; · iexact D0
    isplitl [W0]; · iexact W0
    iexact Ha
  iintro ⟨D0, W0, Ha⟩
  iapply (wp_waitCopy m K Q c 1 wSrc1 wDst1 rfl 0 0 _) $$ [P1 HO]
  · isplitr; · iexact Hrec
    isplitl [P1]; · iexact P1
    iexact HO
  rw [cpPay_1]
  iintro ⟨⟨W1, S1⟩, E1, HO⟩
  iapply (wp_secondK m Q c 0 _ (View.read_write_univ f _) _) $$ [D0 W1 Ha]
  · isplitl [D0]; · iexact D0
    isplitl [W1]; · iexact W1
    iexact Ha
  iintro ⟨D0, W1, Ha⟩
  iapply Hk
  isplitr [Ha HO]
  · isplitl [W0 S0 E0]
    · isplitl [W0 S0]
      · isplitl [W0]; · iexact W0
        iexact S0
      iexact E0
    isplitl [W1 S1 E1]
    · isplitl [W1 S1]
      · isplitl [W1]; · iexact W1
        iexact S1
      iexact E1
    isplitl [D0 S2]
    · isplitl [D0]; · iexact D0
      iexact S2
    iexact E2
  isplitl [Ha]
  · unfold accOK
    iexists _; isplitr
    · ipureintro
      intro b hb
      have e : hf b = 0 := if_pos hb
      have := read_stored m c b ((accM.access (rA 0)).write (Elt F) f (k0_pay337 (dyQ m c 0 0) (wV m c 0)) Finset.univ)
      rw [e] at this
      exact this
    · iexact Ha
  iexact HO

theorem wp_dotB (c : Dev nD) (p q : ℕ) (Kp : Pr F) :
    iprop(records m K ∗ (cpGet m c 0 ∗ cpGet m c 1 ∗ pendC (F := F) c 3) ∗ accOK m c 16 ∗ owesX (F := F) c (debt c p q))
      ⊢ iprop((((cpGet m c 0 ∗ cpGet m c 1 ∗ cpGet m c 3) ∗ accOK m c 32 ∗ owesX (F := F) c (debt c p q)) -∗ WP c Kp Q) -∗ WP c (dotB c Kp) Q) := by
  rw [dotB_eq, cpS3_eq]
  unfold cpGet
  rw [cpPay_0, cpPay_1, cpPay_3]
  unfold accOK
  iintro ⟨#Hrec, ⟨⟨⟨W0, S0⟩, E0⟩, ⟨⟨W1, S1⟩, E1⟩, P3⟩, ⟨%f, %hf0, Ha⟩, HO⟩ Hk
  iapply (wp_waitCopy m K Q c 3 (dySrc1 c) dyDst1 rfl p q _) $$ [P3 HO]
  · isplitr; · iexact Hrec
    isplitl [P3]; · iexact P3
    iexact HO
  rw [cpPay_3]
  iintro ⟨⟨D1, S3⟩, E3, HO⟩
  iapply (wp_firstK m Q c 1 f _) $$ [D1 W0 Ha]
  · isplitl [D1]; · iexact D1
    isplitl [W0]; · iexact W0
    iexact Ha
  iintro ⟨D1, W0, Ha⟩
  iapply (wp_secondK m Q c 1 _ (View.read_write_univ f _) _) $$ [D1 W1 Ha]
  · isplitl [D1]; · iexact D1
    isplitl [W1]; · iexact W1
    iexact Ha
  iintro ⟨D1, W1, Ha⟩
  iapply Hk
  isplitr [Ha HO]
  · isplitl [W0 S0 E0]
    · isplitl [W0 S0]
      · isplitl [W0]; · iexact W0
        iexact S0
      iexact E0
    isplitl [W1 S1 E1]
    · isplitl [W1 S1]
      · isplitl [W1]; · iexact W1
        iexact S1
      iexact E1
    isplitl [D1 S3]
    · isplitl [D1]; · iexact D1
      iexact S3
    iexact E3
  isplitl [Ha]
  · iexists _; isplitr
    · ipureintro
      intro b _
      by_cases hb : b.val < 16
      · have e : hf b ≠ 1 := by unfold hf; rw [if_pos hb]; decide
        have h1 := read_kept c 1 b e f (k0_pay337 (dyQ m c 1 0) (wV m c 0))
        have h2 := read_kept c 1 b e ((accM.access (rA 1)).write (Elt F) f (k0_pay337 (dyQ m c 1 0) (wV m c 0)) Finset.univ) (accH m c 1)
        exact h2.trans (h1.trans (hf0 b hb))
      · have e : hf b = 1 := if_neg hb
        have := read_stored m c b ((accM.access (rA 1)).write (Elt F) f (k0_pay337 (dyQ m c 1 0) (wV m c 0)) Finset.univ)
        rw [e] at this
        exact this
    · iexact Ha
  iexact HO

end Cert.Chain
-- ==== Proof.Loops.lean ====
/-
The loops over the blocks.

Every block has a stage, from 0 to 4: untouched, its first half step done, its total sent, the other half's block
received, everything sent. `lanes c s` are the holdings of all blocks when block `b` is at the stage `s b`. A step of a
loop takes one block to its next stage.
-/
module

public import proofs.«01_k».proof.Proof.Items

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-- The holdings of block `b` at a stage. -/
def lane (c : Dev nD) (b : Fin 32) : ℕ → sProp 𝕄
  | 0 => iprop(PreP m c b 0 ∗ SufP m c b 0 ∗ OutP m c b 0)
  | 1 => if yN c < 2 then iprop(PreP m c b 1 ∗ SufP m c b 0 ∗ OutP m c b 0) else iprop(PreP m c b 0 ∗ SufP m c b 1 ∗ OutP m c b 0)
  | 2 => iprop(PreP m c b 1 ∗ SufP m c b 1 ∗ OutP m c b 1)
  | 3 => iprop(PreP m c b 1 ∗ SufP m c b 1 ∗ OutP m c b 2)
  | _ => iprop(PreP m c b 2 ∗ SufP m c b 2 ∗ OutP m c b 3)

/-- The holdings of all blocks. -/
def lanes (c : Dev nD) (s : Fin 32 → ℕ) : sProp 𝕄 := bigSep Finset.univ fun b => lane m c b (s b)

/-- Taking one block out, and putting it back at another stage. -/
theorem lanes_step (c : Dev nD) (s s' : Fin 32 → ℕ) (b : Fin 32) (h : ∀ b', b' ≠ b → s' b' = s b') :
    lanes m c s ⊢ iprop(lane m c b (s b) ∗ (lane m c b (s' b) -∗ lanes m c s')) := by
  have e : ∀ s : Fin 32 → ℕ, lanes m c s = iprop(lane m c b (s b) ∗ bigSep (Finset.univ.erase b) fun b => lane m c b (s b)) :=
    fun s => bigSep_univ_at _ b
  rw [e s, e s', bigSep_congr (fun b' hb' => by rw [h b' (Finset.ne_of_mem_erase hb')] :
    ∀ b' ∈ Finset.univ.erase b, lane m c b' (s' b') = lane m c b' (s b'))]
  iintro ⟨H1, H2⟩
  isplitl [H1]; · iexact H1
  iintro H1
  isplitl [H1]; · iexact H1
  iexact H2

/-- A loop keeps what each of its steps keeps. -/
theorem wp_seqK (c : Dev nD) (R : sProp 𝕄) [BI.Persistent R] (S : ℕ → sProp 𝕄) (f : ℕ → Pr F → Pr F) (n lo : ℕ)
    (h : ∀ t, lo ≤ t → t < lo + n → ∀ Kp, iprop(R ∗ S t) ⊢ iprop((S (t + 1) -∗ WP c Kp Q) -∗ WP c (f t Kp) Q)) (Kp : Pr F) :
    iprop(R ∗ S lo) ⊢ iprop((S (lo + n) -∗ WP c Kp Q) -∗ WP c (seqK f n lo Kp) Q) := by
  induction n generalizing lo with
  | zero =>
    iintro ⟨#HR, HS⟩ Hk
    iapply Hk; iexact HS
  | succ n ih =>
    show iprop(R ∗ S lo) ⊢ iprop((S (lo + (n + 1)) -∗ WP c Kp Q) -∗ WP c (f lo (seqK f n (lo + 1) Kp)) Q)
    iintro ⟨#HR, HS⟩ Hk
    iapply (h lo le_rfl (by omega) (seqK f n (lo + 1) Kp)) $$ [HS]
    · isplitr; · iexact HR
      iexact HS
    iintro HS
    iapply (ih (lo + 1) (fun t h1 h2 => h t (by omega) (by omega))) $$ [HS]
    · isplitr; · iexact HR
      iexact HS
    iintro HS
    iapply Hk
    rw [show lo + 1 + n = lo + (n + 1) by omega]; iexact HS

/-! ## The steps at any place of the axis -/

/-- The first and the second half of step `t`. -/
def stA (c : Dev nD) (t : ℕ) (Kp : Pr F) : Pr F := if yN c < 2 then preK c (blk t) Kp else sufK c (blk t) Kp
def stB (c : Dev nD) (t : ℕ) (Kp : Pr F) : Pr F := if yN c < 2 then sufK c (blk t) (outK c (blk t) Kp) else preK c (blk t) (outK c (blk t) Kp)
/-- The waits for the sends of block `t`. -/
def stW (c : Dev nD) (t : ℕ) (Kp : Pr F) : Pr F := waitOutS c (blk t) (preWaitK c (blk t) (sufWaitK c (blk t) Kp))

/-- The stages after `p` first and `q` second halves; after `q` receives; after `q` send waits. -/
def sg (p q : ℕ) (b : Fin 32) : ℕ := if b.val < q then 2 else if b.val < p then 1 else 0
def sgO (q : ℕ) (b : Fin 32) : ℕ := if b.val < q then 3 else 2
def sgW (q : ℕ) (b : Fin 32) : ℕ := if b.val < q then 4 else 3

theorem blk_val {t : ℕ} (h : t < 32) : (blk t).val = t := Nat.mod_eq_of_lt h

/-- What a device holds after `p` first and `q` second halves, the products of the blocks below `n` computed. -/
def loopS (c : Dev nD) (n p q : ℕ) : sProp 𝕄 := iprop(lanes m c (sg p q) ∗ accOK m c n ∗ owesX (F := F) c (debt c p q))

theorem lane_1a {c : Dev nD} {b : Fin 32} (h : yN c < 2) : lane m c b 1 = iprop(PreP m c b 1 ∗ SufP m c b 0 ∗ OutP m c b 0) := if_pos h
theorem lane_1b {c : Dev nD} {b : Fin 32} (h : ¬ yN c < 2) : lane m c b 1 = iprop(PreP m c b 0 ∗ SufP m c b 1 ∗ OutP m c b 0) := if_neg h

theorem lane_0 {c : Dev nD} {b : Fin 32} : lane m c b 0 = iprop(PreP m c b 0 ∗ SufP m c b 0 ∗ OutP m c b 0) := rfl
theorem lane_2 {c : Dev nD} {b : Fin 32} : lane m c b 2 = iprop(PreP m c b 1 ∗ SufP m c b 1 ∗ OutP m c b 1) := rfl
theorem lane_3 {c : Dev nD} {b : Fin 32} : lane m c b 3 = iprop(PreP m c b 1 ∗ SufP m c b 1 ∗ OutP m c b 2) := rfl
theorem lane_4 {c : Dev nD} {b : Fin 32} : lane m c b 4 = iprop(PreP m c b 2 ∗ SufP m c b 2 ∗ OutP m c b 3) := rfl

theorem wp_stA (c : Dev nD) (n p q : ℕ) (hp : p < 32) (hn : p < n) (hq : q ≤ p) (Kp : Pr F) :
    iprop(records m K ∗ loopS m c n p q) ⊢ iprop((loopS m c n (p + 1) q -∗ WP c Kp Q) -∗ WP c (stA c p Kp) Q) := by
  have hb := blk_val hp
  have hl := yN_lt c
  have hs : ∀ b', b' ≠ blk p → sg (p + 1) q b' = sg p q b' := fun b' hb' => by
    have : b'.val ≠ p := fun h => hb' (Fin.ext (h.trans hb.symm))
    unfold sg; simp only [show (b'.val < p + 1) = (b'.val < p) from propext (by omega)]
  have h0 : sg p q (blk p) = 0 := by unfold sg; rw [hb, if_neg (by omega), if_neg (by omega)]
  have h1 : sg (p + 1) q (blk p) = 1 := by unfold sg; rw [hb, if_neg (by omega), if_pos (by omega)]
  have hst := lanes_step m c (sg p q) (sg (p + 1) q) (blk p) hs
  rw [h0, h1] at hst
  unfold loopS stA
  have hd := debt_a c p q hp
  unfold dA at hd
  by_cases hy : yN c < 2
  · rw [lane_0, lane_1a m hy] at hst
    rw [if_pos hy] at hd ⊢
    iintro ⟨#Hrec, HL, Hacc, HO⟩ Hk
    ihave HL := hst $$ HL
    icases HL with ⟨⟨Hp, Hs, Ho⟩, HL⟩
    rw [hd]
    iapply (wp_preK m K Q c (blk p) n (by omega) _ (fun h => by
      rw [← hd]
      exact mayWait_debt c _ 2 p q (by rw [lv_cel]; show lvPre (yN c) _ = 2; unfold lvPre; rw [if_pos (by omega)])
        (fun _ b _ => by unfold lvPre; rw [if_neg (by omega), if_pos (by omega)]; omega)
        (fun _ b _ => by unfold lvSuf; rw [if_neg (by omega), if_neg (by omega)]; omega) (fun _ _ => by omega)) Kp) $$ [Hp Hacc HO]
    · isplitr; · iexact Hrec
      isplitl [Hp]; · iexact Hp
      isplitl [Hacc]; · iexact Hacc
      iexact HO
    iintro ⟨Hp, Hacc, HO⟩
    iapply Hk
    isplitr [Hacc HO]
    · iapply HL
      isplitl [Hp]; · iexact Hp
      isplitl [Hs]; · iexact Hs
      iexact Ho
    isplitl [Hacc]; · iexact Hacc
    iexact HO
  · rw [lane_0, lane_1b m hy] at hst
    rw [if_neg hy] at hd ⊢
    iintro ⟨#Hrec, HL, Hacc, HO⟩ Hk
    ihave HL := hst $$ HL
    icases HL with ⟨⟨Hp, Hs, Ho⟩, HL⟩
    rw [hd]
    iapply (wp_sufK m K Q c (blk p) n (by omega) _ (fun h => by
      rw [← hd]
      exact mayWait_debt c _ 2 p q (by rw [lv_cel]; show lvSuf (yN c) _ = 2; unfold lvSuf; rw [if_pos (by omega)])
        (fun _ b _ => by unfold lvPre; rw [if_neg (by omega), if_neg (by omega)]; omega)
        (fun _ b _ => by unfold lvSuf; rw [if_neg (by omega), if_pos (by omega)]; omega) (fun _ _ => by omega)) Kp) $$ [Hs Hacc HO]
    · isplitr; · iexact Hrec
      isplitl [Hs]; · iexact Hs
      isplitl [Hacc]; · iexact Hacc
      iexact HO
    iintro ⟨Hs, Hacc, HO⟩
    iapply Hk
    isplitr [Hacc HO]
    · iapply HL
      isplitl [Hp]; · iexact Hp
      isplitl [Hs]; · iexact Hs
      iexact Ho
    isplitl [Hacc]; · iexact Hacc
    iexact HO

theorem wp_stB (c : Dev nD) (n p q : ℕ) (hq : q < p) (hp : p ≤ 32) (hn : q < n) (hend : yN c = 0 ∨ yN c = 3 → p = 32) (Kp : Pr F) :
    iprop(records m K ∗ loopS m c n p q) ⊢ iprop((loopS m c n p (q + 1) -∗ WP c Kp Q) -∗ WP c (stB c q Kp) Q) := by
  have hq32 : q < 32 := by omega
  have hb := blk_val hq32
  have hl := yN_lt c
  have hs : ∀ b', b' ≠ blk q → sg p (q + 1) b' = sg p q b' := fun b' hb' => by
    have : b'.val ≠ q := fun h => hb' (Fin.ext (h.trans hb.symm))
    unfold sg; simp only [show (b'.val < q + 1) = (b'.val < q) from propext (by omega)]
  have h0 : sg p q (blk q) = 1 := by unfold sg; rw [hb, if_neg (by omega), if_pos (by omega)]
  have h1 : sg p (q + 1) (blk q) = 2 := by unfold sg; rw [hb, if_pos (by omega)]
  have hst := lanes_step m c (sg p q) (sg p (q + 1)) (blk q) hs
  rw [h0, h1] at hst
  unfold loopS stB
  have hd := debt_b c p q hq32
  unfold dB at hd
  by_cases hy : yN c < 2
  · rw [lane_2, lane_1a m hy] at hst
    rw [if_pos hy] at hd ⊢
    rw [add_comm (dSuf c (blk q)), ← add_assoc] at hd
    iintro ⟨#Hrec, HL, Hacc, HO⟩ Hk
    ihave HL := hst $$ HL
    icases HL with ⟨⟨Hp, Hs, Ho⟩, HL⟩
    rw [hd]
    iapply (wp_sufK m K Q c (blk q) n (by omega) _ (fun h => by
      rw [← hd]
      exact mayWait_debt c _ (lvSuf (yN c) (blk q)) p q (by rw [lv_cel]; rfl)
        (fun _ b hb' => by
          rw [if_pos hy] at hb'
          have := b.isLt
          unfold lvPre lvSuf
          by_cases h0 : yN c = 0
          · have := hend (.inl h0); omega
          · rw [if_neg (by omega), if_pos (by omega), if_neg (by omega), if_pos (by omega)]; omega)
        (fun _ b _ => by
          unfold lvSuf; rw [if_neg (by omega), if_pos (by omega), if_neg (by omega), if_neg (by omega)]
          have := (blk q).isLt; omega)
        (fun _ _ => by unfold lvSuf; have := (blk q).isLt; (repeat' split) <;> omega)) (outK c (blk q) Kp)) $$ [Hs Hacc HO]
    · isplitr; · iexact Hrec
      isplitl [Hs]; · iexact Hs
      isplitl [Hacc]; · iexact Hacc
      iexact HO
    iintro ⟨Hs, Hacc, HO⟩
    iapply (wp_outK m K Q c (blk q) _ Kp) $$ [Hp Hs Ho HO]
    · isplitr; · iexact Hrec
      isplitl [Hp]; · iexact Hp
      isplitl [Hs]; · iexact Hs
      isplitl [Ho]; · iexact Ho
      iexact HO
    iintro ⟨Hp, Hs, Ho, HO⟩
    iapply Hk
    isplitr [Hacc HO]
    · iapply HL
      isplitl [Hp]; · iexact Hp
      isplitl [Hs]; · iexact Hs
      iexact Ho
    isplitl [Hacc]; · iexact Hacc
    iexact HO
  · rw [lane_2, lane_1b m hy] at hst
    rw [if_neg hy] at hd ⊢
    rw [add_comm (dPre c (blk q)), ← add_assoc] at hd
    iintro ⟨#Hrec, HL, Hacc, HO⟩ Hk
    ihave HL := hst $$ HL
    icases HL with ⟨⟨Hp, Hs, Ho⟩, HL⟩
    rw [hd]
    iapply (wp_preK m K Q c (blk q) n (by omega) _ (fun h => by
      rw [← hd]
      exact mayWait_debt c _ (lvPre (yN c) (blk q)) p q (by rw [lv_cel]; rfl)
        (fun _ b _ => by
          unfold lvPre; rw [if_neg (by omega), if_pos (by omega), if_neg (by omega), if_neg (by omega)]
          have := (blk q).isLt; omega)
        (fun _ b hb' => by
          rw [if_neg hy] at hb'
          have := b.isLt
          unfold lvPre lvSuf
          by_cases h0 : yN c = 3
          · have := hend (.inr h0); omega
          · rw [if_neg (by omega), if_pos (by omega), if_neg (by omega), if_pos (by omega)]; omega)
        (fun _ _ => by unfold lvPre; have := (blk q).isLt; (repeat' split) <;> omega)) (outK c (blk q) Kp)) $$ [Hp Hacc HO]
    · isplitr; · iexact Hrec
      isplitl [Hp]; · iexact Hp
      isplitl [Hacc]; · iexact Hacc
      iexact HO
    iintro ⟨Hp, Hacc, HO⟩
    iapply (wp_outK m K Q c (blk q) _ Kp) $$ [Hp Hs Ho HO]
    · isplitr; · iexact Hrec
      isplitl [Hp]; · iexact Hp
      isplitl [Hs]; · iexact Hs
      isplitl [Ho]; · iexact Ho
      iexact HO
    iintro ⟨Hp, Hs, Ho, HO⟩
    iapply Hk
    isplitr [Hacc HO]
    · iapply HL
      isplitl [Hp]; · iexact Hp
      isplitl [Hs]; · iexact Hs
      iexact Ho
    isplitl [Hacc]; · iexact Hacc
    iexact HO

/-- Receiving block `q` of the other half. -/
theorem wp_stO (c : Dev nD) (q : ℕ) (hq : q < 32) (Kp : Pr F) :
    iprop(records m K ∗ lanes m c (sgO q) ∗ owesX (F := F) c 0)
      ⊢ iprop(((lanes m c (sgO (q + 1)) ∗ owesX (F := F) c 0) -∗ WP c Kp Q) -∗ WP c (waitOut c (blk q) Kp) Q) := by
  have hb := blk_val hq
  have hs : ∀ b', b' ≠ blk q → sgO (q + 1) b' = sgO q b' := fun b' hb' => by
    have : b'.val ≠ q := fun h => hb' (Fin.ext (h.trans hb.symm))
    unfold sgO; simp only [show (b'.val < q + 1) = (b'.val < q) from propext (by omega)]
  have h0 : sgO q (blk q) = 2 := by unfold sgO; rw [hb, if_neg (by omega)]
  have h1 : sgO (q + 1) (blk q) = 3 := by unfold sgO; rw [hb, if_pos (by omega)]
  have hst := lanes_step m c (sgO q) (sgO (q + 1)) (blk q) hs
  rw [h0, h1, lane_2, lane_3] at hst
  iintro ⟨#Hrec, HL, HO⟩ Hk
  ihave HL := hst $$ HL
  icases HL with ⟨⟨Hp, Hs, Ho⟩, HL⟩
  iapply (wp_waitOut m K Q c (blk q) Kp) $$ [Ho HO]
  · isplitr; · iexact Hrec
    isplitl [Ho]; · iexact Ho
    iexact HO
  iintro ⟨Ho, HO⟩
  iapply Hk
  isplitr [HO]
  · iapply HL
    isplitl [Hp]; · iexact Hp
    isplitl [Hs]; · iexact Hs
    iexact Ho
  iexact HO

/-- Waiting for the sends of block `q`. -/
theorem wp_stW (c : Dev nD) (q : ℕ) (hq : q < 32) (Kp : Pr F) :
    iprop(records m K ∗ lanes m c (sgW q) ∗ owesX (F := F) c 0)
      ⊢ iprop(((lanes m c (sgW (q + 1)) ∗ owesX (F := F) c 0) -∗ WP c Kp Q) -∗ WP c (stW c q Kp) Q) := by
  have hb := blk_val hq
  have hs : ∀ b', b' ≠ blk q → sgW (q + 1) b' = sgW q b' := fun b' hb' => by
    have : b'.val ≠ q := fun h => hb' (Fin.ext (h.trans hb.symm))
    unfold sgW; simp only [show (b'.val < q + 1) = (b'.val < q) from propext (by omega)]
  have h0 : sgW q (blk q) = 3 := by unfold sgW; rw [hb, if_neg (by omega)]
  have h1 : sgW (q + 1) (blk q) = 4 := by unfold sgW; rw [hb, if_pos (by omega)]
  have hst := lanes_step m c (sgW q) (sgW (q + 1)) (blk q) hs
  rw [h0, h1, lane_3, lane_4] at hst
  unfold stW
  iintro ⟨#Hrec, HL, HO⟩ Hk
  ihave HL := hst $$ HL
  icases HL with ⟨⟨Hp, Hs, Ho⟩, HL⟩
  iapply (wp_waitOutS m K Q c (blk q) _) $$ [Ho HO]
  · isplitr; · iexact Hrec
    isplitl [Ho]; · iexact Ho
    iexact HO
  iintro ⟨Ho, HO⟩
  iapply (wp_preWait m K Q c (blk q) _) $$ [Hp HO]
  · isplitr; · iexact Hrec
    isplitl [Hp]; · iexact Hp
    iexact HO
  iintro ⟨Hp, HO⟩
  iapply (wp_sufWait m K Q c (blk q) _) $$ [Hs HO]
  · isplitr; · iexact Hrec
    isplitl [Hs]; · iexact Hs
    iexact HO
  iintro ⟨Hs, HO⟩
  iapply Hk
  isplitr [HO]
  · iapply HL
    isplitl [Hp]; · iexact Hp
    isplitl [Hs]; · iexact Hs
    iexact Ho
  iexact HO

end Cert.Chain
-- ==== Proof.Runs.lean ====
/-
The runs: the loops of each place of the axis y, chained, and the printed bodies in their terms.
-/
module

public import proofs.«01_k».proof.Proof.Dots
public import proofs.«01_k».proof.Proof.Loops

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## The loops, as the places of the axis run them -/

/-- What a device holds when the handshake is done, and what it holds at its end. -/
def runIn (c : Dev nD) : sProp 𝕄 :=
  iprop((pendC (F := F) c 0 ∗ pendC (F := F) c 1 ∗ pendC (F := F) c 2 ∗ pendC (F := F) c 3) ∗ (∃ f, hasAcc c f) ∗ lanes m c (sg 0 0) ∗ owesX (F := F) c (debt c 0 0))
def runOut (c : Dev nD) : sProp 𝕄 :=
  iprop((cpGet m c 0 ∗ cpGet m c 1 ∗ cpGet m c 2 ∗ cpGet m c 3) ∗ accOK m c 32 ∗ lanes m c (sgW 32) ∗ owesX (F := F) c 0)

/-- First halves only. -/
theorem loopA (c : Dev nD) (n k lo : ℕ) (hn : lo + k ≤ n) (h32 : n ≤ 32) (Kp : Pr F) :
    iprop(records m K ∗ loopS m c n lo 0) ⊢ iprop((loopS m c n (lo + k) 0 -∗ WP c Kp Q) -∗ WP c (seqK (stA c) k lo Kp) Q) :=
  wp_seqK Q c (records m K) (fun t => loopS m c n t 0) (stA c) k lo (fun t h1 h2 Kp => wp_stA m K Q c n t 0 (by omega) (by omega) (by omega) Kp) Kp

/-- First halves, and second halves five behind. -/
theorem loopAB (c : Dev nD) (n k lo : ℕ) (h5 : 5 ≤ lo) (hn : lo + k ≤ n) (h32 : n ≤ 32) (hy : yN c = 1 ∨ yN c = 2) (Kp : Pr F) :
    iprop(records m K ∗ loopS m c n lo (lo - 5))
      ⊢ iprop((loopS m c n (lo + k) (lo + k - 5) -∗ WP c Kp Q) -∗ WP c (seqK (both (stA c) (stB c)) k lo Kp) Q) :=
  wp_seqK Q c (records m K) (fun t => loopS m c n t (t - 5)) (both (stA c) (stB c)) k lo (fun t h1 h2 Kp => by
    unfold both
    iintro ⟨#Hrec, HS⟩ Hk
    iapply (wp_stA m K Q c n t (t - 5) (by omega) (by omega) (by omega) _) $$ [HS]
    · isplitr; · iexact Hrec
      iexact HS
    iintro HS
    iapply (wp_stB m K Q c n (t + 1) (t - 5) (by omega) (by omega) (by omega) (fun h => by omega) Kp) $$ [HS]
    · isplitr; · iexact Hrec
      iexact HS
    rw [show t - 5 + 1 = t + 1 - 5 by omega]
    iexact Hk) Kp

/-- The last second halves. -/
theorem loopB (c : Dev nD) (k lo : ℕ) (hk : lo + k = 32) (Kp : Pr F) :
    iprop(records m K ∗ loopS m c 32 32 lo) ⊢ iprop((loopS m c 32 32 32 -∗ WP c Kp Q) -∗ WP c (seqK (stB c) k lo Kp) Q) := by
  rw [← hk]
  exact wp_seqK Q c (records m K) (fun t => loopS m c (lo + k) (lo + k) t) (stB c) k lo
    (fun t h1 h2 Kp => wp_stB m K Q c _ _ t (by omega) (by omega) (by omega) (fun _ => hk) Kp) Kp

theorem sg_end : sg 32 32 = sgO 0 := by
  funext b; have := b.isLt; unfold sg sgO; rw [if_pos this, if_neg (by omega)]
theorem sgO_end : sgO 32 = sgW 0 := by
  funext b; have := b.isLt; unfold sgO sgW; rw [if_pos this, if_neg (by omega)]

/-- Receiving the other half, and waiting for the sends. -/
theorem loopEnd (c : Dev nD) (Kp : Pr F) :
    iprop(records m K ∗ loopS m c 32 32 32)
      ⊢ iprop(((accOK m c 32 ∗ lanes m c (sgW 32) ∗ owesX (F := F) c 0) -∗ WP c Kp Q)
        -∗ WP c (seqK (fun t => waitOut c (blk t)) 32 0 (seqK (stW c) 32 0 Kp)) Q) := by
  unfold loopS
  rw [debt_end, sg_end]
  iintro ⟨#Hrec, HL, Hacc, HO⟩ Hk
  iapply (wp_seqK Q c (records m K) (fun t => iprop(lanes m c (sgO t) ∗ owesX (F := F) c 0)) (fun t => waitOut c (blk t)) 32 0
    (fun t h1 h2 Kp => wp_stO m K Q c t (by omega) Kp) _) $$ [HL HO]
  · isplitr; · iexact Hrec
    isplitl [HL]; · iexact HL
    iexact HO
  rw [show 0 + 32 = 32 from rfl, sgO_end]
  iintro ⟨HL, HO⟩
  iapply (wp_seqK Q c (records m K) (fun t => iprop(lanes m c (sgW t) ∗ owesX (F := F) c 0)) (stW c) 32 0
    (fun t h1 h2 Kp => wp_stW m K Q c t (by omega) Kp) _) $$ [HL HO]
  · isplitr; · iexact Hrec
    isplitl [HL]; · iexact HL
    iexact HO
  rw [show 0 + 32 = 32 from rfl]
  iintro ⟨HL, HO⟩
  iapply Hk
  isplitl [Hacc]; · iexact Hacc
  isplitl [HL]; · iexact HL
  iexact HO

/-- The receives and the waits for the sends. -/
def tailK (c : Dev nD) (Kp : Pr F) : Pr F := seqK (fun t => waitOut c (blk t)) 32 0 (seqK (stW c) 32 0 Kp)

/-- What the first and the last device of the axis run, and what the two between them run. -/
def coreE (c : Dev nD) (Kp : Pr F) : Pr F :=
  dotA c <| seqK (stA c) 16 0 <| dotB c <| seqK (stA c) 16 16 <| seqK (stB c) 32 0 <| tailK c Kp
def coreM (c : Dev nD) (Kp : Pr F) : Pr F :=
  dotA c <| seqK (stA c) 5 0 <| seqK (both (stA c) (stB c)) 11 5 <| dotB c <| seqK (both (stA c) (stB c)) 16 16 <| seqK (stB c) 5 27 <| tailK c Kp
def core (c : Dev nD) (Kp : Pr F) : Pr F := if yN c = 1 ∨ yN c = 2 then coreM c Kp else coreE c Kp

theorem wp_coreE (c : Dev nD) (Kp : Pr F) :
    iprop(records m K ∗ runIn m c) ⊢ iprop((runOut m c -∗ WP c Kp Q) -∗ WP c (coreE c Kp) Q) := by
  unfold runIn runOut coreE tailK
  iintro ⟨#Hrec, ⟨P0, P1, P2, P3⟩, Ha, HL, HO⟩ Hk
  iapply (wp_dotA m K Q c _) $$ [P0 P1 P2 Ha HO]
  · isplitr; · iexact Hrec
    isplitl [P0 P1 P2]
    · isplitl [P0]; · iexact P0
      isplitl [P1]; · iexact P1
      iexact P2
    isplitl [Ha]; · iexact Ha
    iexact HO
  iintro ⟨⟨C0, C1, C2⟩, Ha, HO⟩
  iapply (loopA m K Q c 16 16 0 le_rfl (by omega) _) $$ [HL Ha HO]
  · isplitr; · iexact Hrec
    unfold loopS
    isplitl [HL]; · iexact HL
    isplitl [Ha]; · iexact Ha
    iexact HO
  unfold loopS
  iintro ⟨HL, Ha, HO⟩
  iapply (wp_dotB m K Q c 16 0 _) $$ [C0 C1 P3 Ha HO]
  · isplitr; · iexact Hrec
    isplitl [C0 C1 P3]
    · isplitl [C0]; · iexact C0
      isplitl [C1]; · iexact C1
      iexact P3
    isplitl [Ha]; · iexact Ha
    iexact HO
  iintro ⟨⟨C0, C1, C3⟩, Ha, HO⟩
  iapply (loopA m K Q c 32 16 16 le_rfl le_rfl _) $$ [HL Ha HO]
  · isplitr; · iexact Hrec
    unfold loopS
    isplitl [HL]; · iexact HL
    isplitl [Ha]; · iexact Ha
    iexact HO
  iintro HS
  iapply (loopB m K Q c 32 0 rfl _) $$ [HS]
  · isplitr; · iexact Hrec
    iexact HS
  iintro HS
  iapply (loopEnd m K Q c Kp) $$ [HS]
  · isplitr; · iexact Hrec
    iexact HS
  iintro HE
  iapply Hk
  isplitl [C0 C1 C2 C3]
  · isplitl [C0]; · iexact C0
    isplitl [C1]; · iexact C1
    isplitl [C2]; · iexact C2
    iexact C3
  iexact HE

theorem wp_coreM (c : Dev nD) (hy : yN c = 1 ∨ yN c = 2) (Kp : Pr F) :
    iprop(records m K ∗ runIn m c) ⊢ iprop((runOut m c -∗ WP c Kp Q) -∗ WP c (coreM c Kp) Q) := by
  unfold runIn runOut coreM tailK
  iintro ⟨#Hrec, ⟨P0, P1, P2, P3⟩, Ha, HL, HO⟩ Hk
  iapply (wp_dotA m K Q c _) $$ [P0 P1 P2 Ha HO]
  · isplitr; · iexact Hrec
    isplitl [P0 P1 P2]
    · isplitl [P0]; · iexact P0
      isplitl [P1]; · iexact P1
      iexact P2
    isplitl [Ha]; · iexact Ha
    iexact HO
  iintro ⟨⟨C0, C1, C2⟩, Ha, HO⟩
  iapply (loopA m K Q c 16 5 0 (by omega) (by omega) _) $$ [HL Ha HO]
  · isplitr; · iexact Hrec
    unfold loopS
    isplitl [HL]; · iexact HL
    isplitl [Ha]; · iexact Ha
    iexact HO
  iintro HS
  iapply (loopAB m K Q c 16 11 5 le_rfl le_rfl (by omega) hy _) $$ [HS]
  · isplitr; · iexact Hrec
    iexact HS
  unfold loopS
  iintro ⟨HL, Ha, HO⟩
  iapply (wp_dotB m K Q c 16 11 _) $$ [C0 C1 P3 Ha HO]
  · isplitr; · iexact Hrec
    isplitl [C0 C1 P3]
    · isplitl [C0]; · iexact C0
      isplitl [C1]; · iexact C1
      iexact P3
    isplitl [Ha]; · iexact Ha
    iexact HO
  iintro ⟨⟨C0, C1, C3⟩, Ha, HO⟩
  iapply (loopAB m K Q c 32 16 16 (by omega) le_rfl le_rfl hy _) $$ [HL Ha HO]
  · isplitr; · iexact Hrec
    unfold loopS
    isplitl [HL]; · iexact HL
    isplitl [Ha]; · iexact Ha
    iexact HO
  iintro HS
  iapply (loopB m K Q c 5 27 rfl _) $$ [HS]
  · isplitr; · iexact Hrec
    iexact HS
  iintro HS
  iapply (loopEnd m K Q c Kp) $$ [HS]
  · isplitr; · iexact Hrec
    iexact HS
  iintro HE
  iapply Hk
  isplitl [C0 C1 C2 C3]
  · isplitl [C0]; · iexact C0
    isplitl [C1]; · iexact C1
    isplitl [C2]; · iexact C2
    iexact C3
  iexact HE

theorem wp_core (c : Dev nD) (Kp : Pr F) :
    iprop(records m K ∗ runIn m c) ⊢ iprop((runOut m c -∗ WP c Kp Q) -∗ WP c (core c Kp) Q) := by
  unfold core
  by_cases hy : yN c = 1 ∨ yN c = 2
  · rw [if_pos hy]; exact wp_coreM m K Q c hy Kp
  · rw [if_neg hy]; exact wp_coreE m K Q c Kp

/-! ## The printed bodies are these -/

theorem body0_eq (c : Dev nD) (h : yN c = 0) :
    body0 (F := F) c (rt c) (lf c) (xp c) (rt c) (lf c) (xp c) = head c (rt c) (lf c) (xp c) (core c (Prog.ret ⟨⟩)) := by
  have ea : (step0 (rt c) : ℕ → Pr F → Pr F) = stA c := by
    funext t Kp; unfold step0 stA preK; rw [if_pos (by omega), if_neg (by omega)]
  have eb : (end0 c (xp c) : ℕ → Pr F → Pr F) = stB c := by
    funext t Kp; unfold end0 stB sufK outK; rw [if_pos (by omega), if_pos (by omega), if_neg (by omega), if_pos (by omega)]
  have ew : (fun t Kp => waitOutS c (blk t) <| waitPreS (blk t) Kp : ℕ → Pr F → Pr F) = stW c := by
    funext t Kp; unfold stW preWaitK sufWaitK; rw [if_pos (by omega), if_neg (by omega)]
  unfold body0 core
  rw [if_neg (by omega), ea, eb, ew]
  rfl

theorem body1_eq (c : Dev nD) (h : yN c = 1) :
    body1 (F := F) c (rt c) (lf c) (xp c) (rt c) (lf c) (xp c) = head c (rt c) (lf c) (xp c) (core c (Prog.ret ⟨⟩)) := by
  have ea : (step1a (rt c) : ℕ → Pr F → Pr F) = stA c := by
    funext t Kp; unfold step1a stA preK; rw [if_pos (by omega), if_pos (by omega), if_pos (by omega)]
  have eb : (step1b c (lf c) (xp c) : ℕ → Pr F → Pr F) = stB c := by
    funext t Kp; unfold step1b stB sufK outK; rw [if_pos (by omega), if_pos (by omega), if_pos (by omega), if_pos (by omega)]
  have ew : (fun t Kp => waitOutS c (blk t) <| waitPreS (blk t) <| waitSufS (blk t) Kp : ℕ → Pr F → Pr F) = stW c := by
    funext t Kp; unfold stW preWaitK sufWaitK; rw [if_pos (by omega), if_pos (by omega)]
  unfold body1 core
  rw [if_pos (by omega), ea, eb, ew]
  rfl

theorem body2_eq (c : Dev nD) (h : yN c = 2) :
    body2 (F := F) c (rt c) (lf c) (xp c) (rt c) (lf c) (xp c) = head c (rt c) (lf c) (xp c) (core c (Prog.ret ⟨⟩)) := by
  have ea : (step2a (lf c) : ℕ → Pr F → Pr F) = stA c := by
    funext t Kp; unfold step2a stA sufK; rw [if_neg (by omega), if_pos (by omega), if_pos (by omega)]
  have eb : (step2b c (rt c) (xp c) : ℕ → Pr F → Pr F) = stB c := by
    funext t Kp; unfold step2b stB preK outK; rw [if_neg (by omega), if_pos (by omega), if_pos (by omega), if_pos (by omega)]
  have ew : (fun t Kp => waitOutS c (blk t) <| waitPreS (blk t) <| waitSufS (blk t) Kp : ℕ → Pr F → Pr F) = stW c := by
    funext t Kp; unfold stW preWaitK sufWaitK; rw [if_pos (by omega), if_pos (by omega)]
  unfold body2 core
  rw [if_pos (by omega), ea, eb, ew]
  rfl

theorem body3_eq (c : Dev nD) (h : yN c = 3) :
    body3 (F := F) c (rt c) (lf c) (xp c) (rt c) (lf c) (xp c) = head c (rt c) (lf c) (xp c) (core c (Prog.ret ⟨⟩)) := by
  have ea : (step3 (lf c) : ℕ → Pr F → Pr F) = stA c := by
    funext t Kp; unfold step3 stA sufK; rw [if_neg (by omega), if_neg (by omega)]
  have eb : (end3 c (xp c) : ℕ → Pr F → Pr F) = stB c := by
    funext t Kp; unfold end3 stB preK outK; rw [if_neg (by omega), if_pos (by omega), if_neg (by omega), if_neg (by omega)]
  have ew : (fun t Kp => waitOutS c (blk t) <| waitSufS (blk t) Kp : ℕ → Pr F → Pr F) = stW c := by
    funext t Kp; unfold stW preWaitK sufWaitK; rw [if_neg (by omega), if_pos (by omega)]
  unfold body3 core
  rw [if_neg (by omega), ea, eb, ew]
  rfl

end Cert.Chain
-- ==== Proof.Pieces.lean ====
/-
Buffers cut into the pieces the protocol hands around, and put together again.
-/
module

public import Idealize.ShloMosaic.Lib.Ring
public import proofs.«01_k».proof.Proof.Runs

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## Pieces of any buffer -/

section Cut
variable {sp : Space} {s t : Shape} {e : EltTy} {B : Type} [Fintype B] [DecidableEq B]

theorem cut_disjoint (v : View sig .tc sp s e) {r r' : Rect s} (h : Disjoint r.set r'.set) : Disjoint ((v.slice r).set : Finset v.ty.Idx) (v.slice r').set := by
  rw [View.set_slice, View.set_slice]; exact (Finset.disjoint_map v.emb).mpr h

theorem cut_cover (v : View sig .tc sp s e) (hv : v.set = Finset.univ) (r : B → Rect s) (hc : Finset.univ.biUnion (fun b => (r b).set) = Finset.univ) :
    Finset.biUnion (β := v.ty.Idx) Finset.univ (fun b => (v.slice (r b)).set) = Finset.univ := by
  ext i
  simp only [Finset.mem_biUnion, Finset.mem_univ, true_and, iff_true]
  have hi : i ∈ v.set := by rw [hv]; exact Finset.mem_univ i
  obtain ⟨j, -, rfl⟩ := Finset.mem_map.mp hi
  have hj : j ∈ Finset.univ.biUnion (fun b => (r b).set) := by rw [hc]; exact Finset.mem_univ j
  obtain ⟨b, -, hb⟩ := Finset.mem_biUnion.mp hj
  exact ⟨b, by rw [View.set_slice]; exact Finset.mem_map_of_mem _ hb⟩

end Cut

/-- A buffer, and its pieces, each at some contents. -/
theorem cut_any (c : Dev nD) {sp : Space} {s : Shape} {e : EltTy} {B : Type} [Fintype B] [DecidableEq B] (v : View sig .tc sp s e) (hv : v.set = Finset.univ) (r : B → Rect s)
    (hd : ∀ b b', b ≠ b' → Disjoint (r b).set (r b').set) (hc : Finset.univ.biUnion (fun b => (r b).set) = Finset.univ) :
    (iprop(∃ f, v.loc (c : Thread nD τ) ↦{fullShare} f) : sProp 𝕄)
      ⊢ bigSep Finset.univ fun b => iprop(∃ f, v.loc (c : Thread nD τ) ↦[(v.slice (r b)).set]{fullShare} f) := by
  have h : ∀ f, (v.loc (c : Thread nD τ) ↦{fullShare} f : sProp 𝕄)
      ⊢ bigSep Finset.univ fun b => iprop(∃ f, v.loc (c : Thread nD τ) ↦[(v.slice (r b)).set]{fullShare} f) := fun f =>
    (Entails.of_eq (Idealize.ShloMosaic.Ring.pointsTo_blocks (Ix := Unit) (Name := ℕ) (U := UU) (Lvl := ℕ) (ℓ := v.loc (c : Thread nD τ))
      (fun b => (v.slice (r b)).set) (fun b b' h => cut_disjoint v (hd b b' h)) (cut_cover v hv r hc) (q := fullShare) f)).trans
      (bigSep_mono fun b _ => show (v.loc (c : Thread nD τ) ↦[(v.slice (r b)).set]{fullShare} f : sProp 𝕄)
        ⊢ iprop(∃ f, v.loc (c : Thread nD τ) ↦[(v.slice (r b)).set]{fullShare} f) from by iintro H; iexists f; iexact H)
  iintro ⟨%f, H⟩
  iapply (h f); iexact H

theorem paste_any (c : Dev nD) {sp : Space} {s : Shape} {e : EltTy} {B : Type} [Fintype B] [DecidableEq B] (v : View sig .tc sp s e) (hv : v.set = Finset.univ) (r : B → Rect s)
    (hd : ∀ b b', b ≠ b' → Disjoint (r b).set (r b').set) (hc : Finset.univ.biUnion (fun b => (r b).set) = Finset.univ) (f₀ : Buf (Elt F) (v.loc (c : Thread nD τ))) :
    (bigSep Finset.univ fun b => iprop(∃ f, v.loc (c : Thread nD τ) ↦[(v.slice (r b)).set]{fullShare} f))
      ⊢ (iprop(∃ f, v.loc (c : Thread nD τ) ↦{fullShare} f) : sProp 𝕄) :=
  Idealize.ShloMosaic.Ring.pointsTo_blocks_join_exists (Ix := Unit) (Name := ℕ) (U := UU) (Lvl := ℕ) (ℓ := v.loc (c : Thread nD τ)) (fun b => ((v.slice (r b)).set : Finset v.ty.Idx))
    (fun b b' h => cut_disjoint v (hd b b' h)) (cut_cover v hv r hc) f₀

/-- Pieces at one contents, and what is left; and back. -/
theorem cut_two (c : Dev nD) {sp : Space} {s : Shape} {e : EltTy} (v : View sig .tc sp s e) (hv : v.set = Finset.univ) (r r' : Rect s) (h : Disjoint r.set r'.set)
    (f : Buf (Elt F) (v.loc (c : Thread nD τ))) :
    (v.loc (c : Thread nD τ) ↦{fullShare} f : sProp 𝕄)
      ⊣⊢ iprop((v.loc (c : Thread nD τ) ↦[(v.slice r).set]{fullShare} f) ∗ (v.loc (c : Thread nD τ) ↦[(v.slice r').set]{fullShare} f)
        ∗ (v.loc (c : Thread nD τ) ↦[(Finset.univ \ (v.slice r).set) \ (v.slice r').set]{fullShare} f)) := by
  have h0 : Disjoint ((v.slice r).set : Finset v.ty.Idx) (v.slice r').set := cut_disjoint v h
  have h1 : ((v.slice r').set : Finset v.ty.Idx) ⊆ Finset.univ \ (v.slice r).set := fun i hi =>
    Finset.mem_sdiff.mpr ⟨Finset.mem_univ i, fun hi' => Finset.disjoint_left.mp h0 hi' hi⟩
  have e1 := pointsTo_split_subset (Ix := Unit) (Name := ℕ) (U := UU) (Lvl := ℕ) (ℓ := v.loc (c : Thread nD τ)) (q := fullShare) (f := f) (Finset.subset_univ (v.slice r).set)
  have e2 := pointsTo_split_subset (Ix := Unit) (Name := ℕ) (U := UU) (Lvl := ℕ) (ℓ := v.loc (c : Thread nD τ)) (q := fullShare) (f := f) h1
  refine ⟨?_, ?_⟩
  · iintro H
    ihave H := e1.1 $$ H
    icases H with ⟨H1, H⟩
    ihave H := e2.1 $$ H
    icases H with ⟨H2, H⟩
    isplitl [H1]; · iexact H1
    isplitl [H2]; · iexact H2
    iexact H
  · iintro ⟨H1, H2, H⟩
    iapply e1.2
    isplitl [H1]; · iexact H1
    iapply e2.2
    isplitl [H2]; · iexact H2
    iexact H

theorem any_intro (c : Dev nD) (M : Memref sig .tc .vmem S16x1024 .f32) :
    (iprop(∃ f, M.view.loc (c : Thread nD τ) ↦[M.view.set]{fullShare} f) : sProp 𝕄) ⊢ anyOwn (F := F) c M := by
  unfold anyOwn
  iintro ⟨%f, H⟩
  iexists (M.view.read (Elt F) f)
  iapply (own_intro c M fullShare f _ rfl); iexact H

theorem any_elim (c : Dev nD) (M : Memref sig .tc .vmem S16x1024 .f32) :
    anyOwn (F := F) c M ⊢ (iprop(∃ f, M.view.loc (c : Thread nD τ) ↦[M.view.set]{fullShare} f) : sProp 𝕄) := by
  unfold anyOwn
  iintro ⟨%v, H⟩
  ihave H := (own_elim c M fullShare v) $$ H
  icases H with ⟨%f, %_, H⟩
  iexists f; iexact H

/-! ## The buffers of 512 rows -/

theorem rB_disjoint (b b' : Fin 32) (h : b ≠ b') : Disjoint (rB b).set (rB b').set := by
  have : b.val ≠ b'.val := fun e => h (Fin.ext e)
  exact Rect.unit_disjoint 0 (by show 16 * b.val + 16 ≤ 16 * b'.val ∨ 16 * b'.val + 16 ≤ 16 * b.val; omega)

theorem rB_cover : Finset.univ.biUnion (fun b => (rB b).set) = (Finset.univ : Finset S512x1024.Idx) := by
  ext i
  simp only [Finset.mem_biUnion, Finset.mem_univ, true_and, iff_true]
  have h0 : (i 0).val < 512 := (i 0).isLt
  have h1 : (i 1).val < 1024 := (i 1).isLt
  refine ⟨⟨(i 0).val / 16, by omega⟩, Rect.mem_set_unit.mpr fun a => ?_⟩
  fin_cases a
  · show 16 * ((i 0).val / 16) ≤ (i 0).val ∧ (i 0).val < 16 * ((i 0).val / 16) + 16; omega
  · show 0 ≤ (i 1).val ∧ (i 1).val < 0 + 1024; omega

/-- Such a buffer is held block by block. -/
theorem blocks_cut (c : Dev nD) (M : Memref sig .tc .vmem S512x1024 .f32) (hM : M.view.set = Finset.univ) :
    (iprop(∃ f, M.view.loc (c : Thread nD τ) ↦{fullShare} f) : sProp 𝕄) ⊢ bigSep Finset.univ fun b => anyOwn (F := F) c (sl M b) :=
  (cut_any c M.view hM rB rB_disjoint rB_cover).trans (bigSep_mono fun b _ => any_intro c (sl M b))

theorem blocks_paste (c : Dev nD) (M : Memref sig .tc .vmem S512x1024 .f32) (hM : M.view.set = Finset.univ) (f₀ : Buf (Elt F) (M.view.loc (c : Thread nD τ))) :
    (bigSep Finset.univ fun b => anyOwn (F := F) c (sl M b)) ⊢ (iprop(∃ f, M.view.loc (c : Thread nD τ) ↦{fullShare} f) : sProp 𝕄) :=
  (bigSep_mono fun b _ => any_elim c (sl M b)).trans (paste_any c M.view hM rB rB_disjoint rB_cover f₀)

/-! ## The result -/

theorem inbT (hb : Fin 2 × Fin 32) : ∀ a, (![512 * hb.1.val + 16 * hb.2.val, 0] : Fin 2 → Nat) a + S16x1024.size a ≤ S1024x1024.size a := by revert hb; decide

/-- Block `b` of half `h` of the result. -/
abbrev rT (hb : Fin 2 × Fin 32) : Rect S1024x1024 := Rect.unit (s := S1024x1024) ![512 * hb.1.val + 16 * hb.2.val, 0] S16x1024.size (inbT hb)
abbrev slT (hb : Fin 2 × Fin 32) : Memref sig .tc .vmem S16x1024 .f32 := outM.slice (rT hb) (fun _ => rfl)

theorem rT_disjoint (b b' : Fin 2 × Fin 32) (h : b ≠ b') : Disjoint (rT b).set (rT b').set := by
  obtain ⟨h1, b1⟩ := b; obtain ⟨h2, b2⟩ := b'
  have hb : h1.val ≠ h2.val ∨ b1.val ≠ b2.val := by
    by_contra hn
    exact h (Prod.ext (Fin.ext (by show h1.val = h2.val; omega)) (Fin.ext (by show b1.val = b2.val; omega)))
  have := h1.isLt; have := h2.isLt; have := b1.isLt; have := b2.isLt
  exact Rect.unit_disjoint 0 (by show 512 * h1.val + 16 * b1.val + 16 ≤ 512 * h2.val + 16 * b2.val ∨ 512 * h2.val + 16 * b2.val + 16 ≤ 512 * h1.val + 16 * b1.val; omega)

/-- The block a row lies in, and its place there. -/
def rowB (i : S1024x1024.Idx) : Fin 2 × Fin 32 := (⟨(i 0).val / 512, by have : (i 0).val < 1024 := (i 0).isLt; omega⟩, ⟨(i 0).val % 512 / 16, by omega⟩)
def rowJ (i : S1024x1024.Idx) : S16x1024.Idx := fun a => match a with
  | ⟨0, _⟩ => ⟨(i 0).val % 16, Nat.mod_lt _ (by decide)⟩
  | ⟨1, _⟩ => i 1

theorem row_emb (i : S1024x1024.Idx) : (rT (rowB i)).emb (rowJ i) = i := by
  have h0 : (i 0).val < 1024 := (i 0).isLt
  funext a
  refine Fin.ext ?_
  fin_cases a
  · show 512 * ((i 0).val / 512) + 16 * ((i 0).val % 512 / 16) + 1 * ((i 0).val % 16) = (i 0).val; omega
  · show 0 + 1 * (i 1).val = (i 1).val; omega

theorem rT_cover : Finset.univ.biUnion (fun b => (rT b).set) = Finset.univ := by
  ext i
  simp only [Finset.mem_biUnion, Finset.mem_univ, true_and, iff_true]
  have hi : (rT (rowB i)).emb (rowJ i) ∈ (rT (rowB i)).set := by
    rw [← Rect.map_emb_univ]; exact Finset.mem_map_of_mem _ (Finset.mem_univ _)
  rw [row_emb] at hi
  exact ⟨rowB i, hi⟩

/-- The half a device finishes. -/
def xH (c : Dev nD) : Fin 2 := ⟨xN c, xN_lt c⟩
theorem xH_xp (c : Dev nD) : (xH (xp c)).val = 1 - xN c := xN_xp c

theorem slMine_eq (c : Dev nD) (b : Fin 32) : slMine c b = slT (xH c, b) := slice_congr (off16_eq c b) _ _
theorem slOther_eq (c : Dev nD) (b : Fin 32) : slOther c b = slT (xH (xp c), b) :=
  slice_congr (by rw [off15_eq, xH_xp]) _ _

/-- The result: each half as the device of that half on this line finishes it. -/
def resF (c : Dev nD) (i : S1024x1024.Idx) : Elt F .f32 :=
  outV m (if (rowB i).1 = xH c then c else xp c) (rowB i).2 (rowJ i)

theorem sep_comm_eq (X Y : sProp 𝕄) : iprop(X ∗ Y) = iprop(Y ∗ X) :=
  equiv_iff.mp ⟨sep_comm, sep_comm⟩

theorem bigSep_halves (c : Dev nD) (Φ : Fin 2 → sProp 𝕄) : bigSep Finset.univ Φ = iprop(Φ (xH c) ∗ Φ (xH (xp c))) := by
  have hx := xN_lt c
  have h2 : bigSep Finset.univ Φ = iprop(Φ 0 ∗ Φ 1) := bigSep_univ_eq_bigSepL [0, 1] (by decide) (by decide) Φ
  by_cases h : xN c = 0
  · rw [h2, show xH c = 0 from Fin.ext h, show xH (xp c) = 1 from Fin.ext (by rw [xH_xp, h]; rfl)]
  · rw [h2, show xH c = 1 from Fin.ext (by show xN c = 1; omega), show xH (xp c) = 0 from Fin.ext (by rw [xH_xp]; show 1 - xN c = 0; omega)]
    exact sep_comm_eq _ _

/-- The result buffer is held block by block: the device's own half, and the other. -/
theorem out_cut (c : Dev nD) :
    (iprop(∃ f, outM.view.loc (c : Thread nD τ) ↦{fullShare} f) : sProp 𝕄)
      ⊢ iprop((bigSep Finset.univ fun b => anyOwn (F := F) c (slMine c b)) ∗ bigSep Finset.univ fun b => anyOwn (F := F) c (slMine (xp c) b)) := by
  have e : iprop((bigSep Finset.univ fun b => anyOwn (F := F) c (slMine c b)) ∗ bigSep Finset.univ fun b => anyOwn (F := F) c (slMine (xp c) b))
      = bigSep Finset.univ fun hb : Fin 2 × Fin 32 => anyOwn (F := F) c (slT hb) := by
    rw [bigSep_univ_prod, bigSep_halves c]
    simp only [slMine_eq]
  rw [e]
  exact (cut_any c outM.view (View.set_whole _) rT rT_disjoint rT_cover).trans (bigSep_mono fun b _ => any_intro c (slT b))

theorem out_paste (c : Dev nD) (f₀ : Buf (Elt F) (outM.view.loc (c : Thread nD τ))) :
    iprop((bigSep Finset.univ fun b => own c (slMine c b) fullShare (outV m c b)) ∗ bigSep Finset.univ fun b => own c (slOther c b) fullShare (outV m (xp c) b))
      ⊢ (outM.view.loc (c : Thread nD τ) ↦{fullShare} (resF m c : Buf (Elt F) (outM.view.loc (c : Thread nD τ))) : sProp 𝕄) := by
  have e : iprop((bigSep Finset.univ fun b => own c (slMine c b) fullShare (outV m c b)) ∗ bigSep Finset.univ fun b => own c (slOther c b) fullShare (outV m (xp c) b))
      = bigSep Finset.univ fun hb : Fin 2 × Fin 32 => own c (slT hb) fullShare (outV m (if hb.1 = xH c then c else xp c) hb.2) := by
    have hne : xH (xp c) ≠ xH c := fun h => by
      have := congrArg Fin.val h; rw [xH_xp] at this; have h2 : (xH c).val = xN c := rfl; have := xN_lt c; omega
    rw [bigSep_univ_prod, bigSep_halves c]
    simp only [slMine_eq, slOther_eq, if_true, if_neg hne]
  rw [e]
  have : Nonempty (Buf (Elt F) (outM.view.loc (c : Thread nD τ))) := ⟨f₀⟩
  refine (bigSep_mono fun b _ => own_elim c (slT b) fullShare _).trans ?_
  refine (Idealize.SL.BI.bigSep_exists_pi Finset.univ (fun (hb : Fin 2 × Fin 32) (f : Buf (Elt F) (outM.view.loc (c : Thread nD τ))) =>
    (iprop(⌜(slT hb).view.read (Elt F) f = outV m (if hb.1 = xH c then c else xp c) hb.2⌝ ∗ (outM.view.loc (c : Thread nD τ) ↦[(slT hb).view.set]{fullShare} f)) : sProp 𝕄))).trans ?_
  iintro ⟨%fs, H⟩
  ihave H := (bigSep_pure_sep Finset.univ _ _) $$ H
  icases H with ⟨%hp, H⟩
  ihave H := (pointsTo_biUnion_join Finset.univ (fun hb => (slT hb).view.set) fs f₀ (fun b _ b' _ h => cut_disjoint outM.view (rT_disjoint b b' h))) $$ H
  icases H with ⟨%g, %hg, H⟩
  have hgr : g = (resF m c : Buf (Elt F) (outM.view.loc (c : Thread nD τ))) := by
    funext i
    have hi := row_emb i
    have h1 : (slT (rowB i)).view.emb (rowJ i) = i := hi
    have h2 := hg (rowB i) (Finset.mem_univ _) ((slT (rowB i)).view.emb (rowJ i)) (View.emb_mem_set _ _)
    have h3 := congrFun (hp (rowB i) (Finset.mem_univ _)) (rowJ i)
    rw [h1] at h2
    rw [View.read_apply, h1] at h3
    rw [h2]; exact h3
  subst hgr
  have hE := congrArg (fun S : Finset (Idx (outM.view.loc (c : Thread nD τ))) => (outM.view.loc (c : Thread nD τ) ↦[S]{fullShare} (resF m c : Buf (Elt F) (outM.view.loc (c : Thread nD τ))) : sProp 𝕄))
    (cut_cover outM.view (View.set_whole _) rT rT_cover)
  ihave H := (Entails.of_eq hE) $$ H
  iexact H

/-! ## The copies in: where they go -/

theorem inbDyh (h : Fin 2) : ∀ a, (![256 * h.val, 0] : Fin 2 → Nat) a + S256x4096.size a ≤ S512x4096.size a := by revert h; decide
abbrev rDy (h : Fin 2) : Rect S512x4096 := Rect.unit (s := S512x4096) ![256 * h.val, 0] S256x4096.size (inbDyh h)
theorem inbWh (h : Fin 2) : ∀ a, (![0, 2048 * h.val] : Fin 2 → Nat) a + S1024x2048.size a ≤ S1024x4096.size a := by revert h; decide
abbrev rW (h : Fin 2) : Rect S1024x4096 := Rect.unit (s := S1024x4096) ![0, 2048 * h.val] S1024x2048.size (inbWh h)

theorem rDy_disjoint (b b' : Fin 2) (h : b ≠ b') : Disjoint (rDy b).set (rDy b').set := by
  have : b.val ≠ b'.val := fun e => h (Fin.ext e)
  exact Rect.unit_disjoint 0 (by show 256 * b.val + 256 ≤ 256 * b'.val ∨ 256 * b'.val + 256 ≤ 256 * b.val; omega)
theorem rW_disjoint (b b' : Fin 2) (h : b ≠ b') : Disjoint (rW b).set (rW b').set := by
  have : b.val ≠ b'.val := fun e => h (Fin.ext e)
  exact Rect.unit_disjoint 1 (by show 2048 * b.val + 2048 ≤ 2048 * b'.val ∨ 2048 * b'.val + 2048 ≤ 2048 * b.val; omega)

theorem rDy_cover : Finset.univ.biUnion (fun b => (rDy b).set) = (Finset.univ : Finset S512x4096.Idx) := by
  ext i
  simp only [Finset.mem_biUnion, Finset.mem_univ, true_and, iff_true]
  have h0 : (i 0).val < 512 := (i 0).isLt
  have h1 : (i 1).val < 4096 := (i 1).isLt
  refine ⟨⟨(i 0).val / 256, by omega⟩, Rect.mem_set_unit.mpr fun a => ?_⟩
  fin_cases a
  · show 256 * ((i 0).val / 256) ≤ (i 0).val ∧ (i 0).val < 256 * ((i 0).val / 256) + 256; omega
  · show 0 ≤ (i 1).val ∧ (i 1).val < 0 + 4096; omega
theorem rW_cover : Finset.univ.biUnion (fun b => (rW b).set) = (Finset.univ : Finset S1024x4096.Idx) := by
  ext i
  simp only [Finset.mem_biUnion, Finset.mem_univ, true_and, iff_true]
  have h0 : (i 0).val < 1024 := (i 0).isLt
  have h1 : (i 1).val < 4096 := (i 1).isLt
  refine ⟨⟨(i 1).val / 2048, by omega⟩, Rect.mem_set_unit.mpr fun a => ?_⟩
  fin_cases a
  · show 0 ≤ (i 0).val ∧ (i 0).val < 0 + 1024; omega
  · show 2048 * ((i 1).val / 2048) ≤ (i 1).val ∧ (i 1).val < 2048 * ((i 1).val / 2048) + 2048; omega

theorem bigSep_fin2 (Φ : Fin 2 → sProp 𝕄) : bigSep Finset.univ Φ = iprop(Φ 0 ∗ Φ 1) := bigSep_univ_eq_bigSepL [0, 1] (by decide) (by decide) Φ

/-- A buffer that copies fill, held in the pieces they fill. -/
abbrev piece (c : Dev nD) {s : Shape} (M : Memref sig .tc .vmem s .f32) : sProp 𝕄 := iprop(∃ g, M.view.loc (c : Thread nD τ) ↦[M.view.set]{fullShare} g)

theorem dy_cut (c : Dev nD) : (iprop(∃ f, dyM.view.loc (c : Thread nD τ) ↦{fullShare} f) : sProp 𝕄) ⊢ iprop(piece (F := F) c dyDst0 ∗ piece (F := F) c dyDst1) := by
  refine (cut_any c dyM.view (View.set_whole _) rDy rDy_disjoint rDy_cover).trans ?_
  rw [bigSep_fin2]; exact BIBase.Entails.rfl
theorem w_cut (c : Dev nD) : (iprop(∃ f, wM.view.loc (c : Thread nD τ) ↦{fullShare} f) : sProp 𝕄) ⊢ iprop(piece (F := F) c wDst0 ∗ piece (F := F) c wDst1) := by
  refine (cut_any c wM.view (View.set_whole _) rW rW_disjoint rW_cover).trans ?_
  rw [bigSep_fin2]; exact BIBase.Entails.rfl
theorem dy_paste (c : Dev nD) (f₀ : Buf (Elt F) (dyM.view.loc (c : Thread nD τ))) :
    iprop(piece (F := F) c dyDst0 ∗ piece (F := F) c dyDst1) ⊢ (iprop(∃ f, dyM.view.loc (c : Thread nD τ) ↦{fullShare} f) : sProp 𝕄) := by
  refine BIBase.Entails.trans ?_ (paste_any c dyM.view (View.set_whole _) rDy rDy_disjoint rDy_cover f₀)
  rw [bigSep_fin2]; exact BIBase.Entails.rfl
theorem w_paste (c : Dev nD) (f₀ : Buf (Elt F) (wM.view.loc (c : Thread nD τ))) :
    iprop(piece (F := F) c wDst0 ∗ piece (F := F) c wDst1) ⊢ (iprop(∃ f, wM.view.loc (c : Thread nD τ) ↦{fullShare} f) : sProp 𝕄) := by
  refine BIBase.Entails.trans ?_ (paste_any c wM.view (View.set_whole _) rW rW_disjoint rW_cover f₀)
  rw [bigSep_fin2]; exact BIBase.Entails.rfl

/-! ## The copies in: where they come from -/

theorem off1_eq (c : Dev nD) : k0_off1 c = ![512 * xN c, 0] := by revert c; decide
theorem off2_eq (c : Dev nD) : k0_off2 c = ![512 * xN c + 256, 0] := by revert c; decide

theorem src_disjoint (c : Dev nD) : Disjoint (Rect.unit (s := S1024x4096) (k0_off1 c) S256x4096.size (k0_off1_inb c)).set
    (Rect.unit (s := S1024x4096) (k0_off2 c) S256x4096.size (k0_off2_inb c)).set := by
  refine Rect.unit_disjoint 0 (Or.inl ?_)
  show k0_off1 c 0 + 256 ≤ k0_off2 c 0
  rw [off1_eq, off2_eq]; exact le_rfl

/-- The rows of the first argument that are not copied. -/
def dyRest (c : Dev nD) : sProp 𝕄 := iprop(dyA.view.loc (c : Thread nD τ) ↦[((Finset.univ : Finset dyA.view.ty.Idx) \ (dySrc0 c).view.set) \ (dySrc1 c).view.set]{fullShare} m ((c : Thread nD τ).loc main_arg0))
def wRest (c : Dev nD) : sProp 𝕄 := iprop(wA.view.loc (c : Thread nD τ) ↦[((Finset.univ : Finset wA.view.ty.Idx) \ wSrc0.view.set) \ wSrc1.view.set]{fullShare} m ((c : Thread nD τ).loc main_arg1))

theorem arg0_cut (c : Dev nD) : (((c : Thread nD τ).loc main_arg0) ↦{fullShare} m ((c : Thread nD τ).loc main_arg0) : sProp 𝕄)
    ⊣⊢ iprop(((dySrc0 c).view.loc (c : Thread nD τ) ↦[(dySrc0 c).view.set]{fullShare} m ((c : Thread nD τ).loc main_arg0))
      ∗ ((dySrc1 c).view.loc (c : Thread nD τ) ↦[(dySrc1 c).view.set]{fullShare} m ((c : Thread nD τ).loc main_arg0)) ∗ dyRest m c) :=
  cut_two c dyA.view (View.set_whole _) _ _ (src_disjoint c) (m ((c : Thread nD τ).loc main_arg0))

theorem arg1_cut (c : Dev nD) : (((c : Thread nD τ).loc main_arg1) ↦{fullShare} m ((c : Thread nD τ).loc main_arg1) : sProp 𝕄)
    ⊣⊢ iprop((wSrc0.view.loc (c : Thread nD τ) ↦[wSrc0.view.set]{fullShare} m ((c : Thread nD τ).loc main_arg1))
      ∗ (wSrc1.view.loc (c : Thread nD τ) ↦[wSrc1.view.set]{fullShare} m ((c : Thread nD τ).loc main_arg1)) ∗ wRest m c) :=
  cut_two c wA.view (View.set_whole _) _ _ (rW_disjoint 0 1 (by decide)) (m ((c : Thread nD τ).loc main_arg1))

end Cert.Chain
-- ==== Proof.Ends.lean ====
/-
What a device starts its loops with, and what it ends them with.
-/
module

public import proofs.«01_k».proof.Proof.Pieces

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## Families over the own semaphores -/

theorem bigSep_KX (Φ : KX → sProp 𝕄) : bigSep Finset.univ Φ
    = iprop((Φ (.inl 0) ∗ Φ (.inl 1) ∗ Φ (.inl 2) ∗ Φ (.inl 3))
      ∗ (bigSep Finset.univ fun b => Φ (.inr (0, b))) ∗ (bigSep Finset.univ fun b => Φ (.inr (1, b))) ∗ (bigSep Finset.univ fun b => Φ (.inr (2, b)))
      ∗ (bigSep Finset.univ fun b => Φ (.inr (3, b))) ∗ (bigSep Finset.univ fun b => Φ (.inr (4, b))) ∗ (bigSep Finset.univ fun b => Φ (.inr (5, b)))) := by
  rw [BI.bigSep_univ_sum, BI.bigSep_univ_prod]
  have h4 : (bigSep Finset.univ fun i : Fin 4 => Φ (.inl i)) = iprop(Φ (.inl 0) ∗ Φ (.inl 1) ∗ Φ (.inl 2) ∗ Φ (.inl 3)) :=
    bigSep_univ_eq_bigSepL [0, 1, 2, 3] (by decide) (by decide) _
  have h6 : (bigSep Finset.univ fun j : Fin 6 => bigSep Finset.univ fun b : Fin 32 => Φ (.inr (j, b)))
      = iprop((bigSep Finset.univ fun b => Φ (.inr (0, b))) ∗ (bigSep Finset.univ fun b => Φ (.inr (1, b))) ∗ (bigSep Finset.univ fun b => Φ (.inr (2, b)))
      ∗ (bigSep Finset.univ fun b => Φ (.inr (3, b))) ∗ (bigSep Finset.univ fun b => Φ (.inr (4, b))) ∗ (bigSep Finset.univ fun b => Φ (.inr (5, b)))) :=
    bigSep_univ_eq_bigSepL [0, 1, 2, 3, 4, 5] (by decide) (by decide) _
  rw [h4, h6]; rfl

/-- Two families are one. -/
theorem zip2 {B : Type} [Fintype B] [DecidableEq B] (Φ Ψ : B → sProp 𝕄) :
    iprop((bigSep Finset.univ Φ) ∗ bigSep Finset.univ Ψ) ⊢ bigSep Finset.univ fun b => iprop(Φ b ∗ Ψ b) := Entails.of_eq (BI.bigSep_sep' Finset.univ Φ Ψ).symm
theorem unzip2 {B : Type} [Fintype B] [DecidableEq B] (Φ Ψ : B → sProp 𝕄) :
    (bigSep Finset.univ fun b => iprop(Φ b ∗ Ψ b)) ⊢ iprop((bigSep Finset.univ Φ) ∗ bigSep Finset.univ Ψ) := Entails.of_eq (BI.bigSep_sep' Finset.univ Φ Ψ)

/-- A family held or not. -/
theorem if_family {B : Type} [Fintype B] [DecidableEq B] (P : Prop) [Decidable P] (Φ : B → sProp 𝕄) :
    (if P then bigSep Finset.univ Φ else iprop(emp)) = bigSep Finset.univ fun b => if P then Φ b else iprop(emp) := by
  by_cases h : P
  · simp only [if_pos h]
  · simp only [if_neg h]; exact (BI.bigSep_emp_const _).symm

/-! ## The start -/

/-- The position of a semaphore that is not used. -/
theorem posEnd_unused (c : Dev nD) (j : Fin 6) (b : Fin 32) (h : used c j = false) : atPos ER (cel c (.inr (j, b))) 0 ∅ 0 ⊢ posEnd m c (.inr (.inr (j, b))) := by
  unfold posEnd
  iintro H
  iexists 0
  isplitr
  · ipureintro
    intro r' _
    rcases Nat.eq_zero_or_pos r' with h0 | h0
    · rw [h0]
      refine (duties_cel m c (.inr (j, b))).trans ?_
      show (if used c j = true then ({0} : Finset (Fin 3)) else ∅) = ∅
      rw [h]; rfl
    · exact duties_later m _ r' h0
  · iexact H

/-- What is held of the prefix, the suffix and the total of block `b` at the start. -/
def preIn (c : Dev nD) (b : Fin 32) : sProp 𝕄 :=
  iprop((atPos ER (cel c (.inr (0, b))) 0 ∅ 0 ∗ atPos ER (cel c (.inr (1, b))) 0 ∅ 0)
    ∗ (dutyTok ER (cel c (.inr (0, b))) 0 0 ∗ dutyTok ER (cel (rt c) (.inr (1, b))) 0 0)
    ∗ cred (if 0 < yN c then tallyAt (cel c (.inr (1, b))) () N else 0)
    ∗ (if yN c < 3 then anyOwn (F := F) (rt c) (sl preM b) else iprop(emp)) ∗ (if 0 < yN c then iprop(emp) else anyOwn (F := F) c (sl preM b)))
def sufIn (c : Dev nD) (b : Fin 32) : sProp 𝕄 :=
  iprop((atPos ER (cel c (.inr (2, b))) 0 ∅ 0 ∗ atPos ER (cel c (.inr (3, b))) 0 ∅ 0)
    ∗ (dutyTok ER (cel c (.inr (2, b))) 0 0 ∗ dutyTok ER (cel (lf c) (.inr (3, b))) 0 0)
    ∗ cred (if yN c < 3 then tallyAt (cel c (.inr (3, b))) () N else 0)
    ∗ (if 0 < yN c then anyOwn (F := F) (lf c) (sl sufM b) else iprop(emp)) ∗ (if yN c < 3 then iprop(emp) else anyOwn (F := F) c (sl sufM b))
    ∗ anyOwn (F := F) c (sl sfoM b))
def outIn (c : Dev nD) (b : Fin 32) : sProp 𝕄 :=
  iprop((atPos ER (cel c (.inr (4, b))) 0 ∅ 0 ∗ atPos ER (cel c (.inr (5, b))) 0 ∅ 0)
    ∗ (dutyTok ER (cel c (.inr (4, b))) 0 0 ∗ dutyTok ER (cel (xp c) (.inr (5, b))) 0 0)
    ∗ cred (tallyAt (cel c (.inr (5, b))) () N)
    ∗ anyOwn (F := F) (xp c) (slMine c b) ∗ anyOwn (F := F) c (slMine c b))

theorem preIn_PreP (c : Dev nD) (b : Fin 32) : preIn (F := F) c b ⊢ PreP m c b 0 := by
  unfold preIn PreP pend sendPreRes
  by_cases h0 : 0 < yN c <;> by_cases h3 : yN c < 3
  · simp only [if_pos h0, if_pos h3]
    iintro ⟨⟨A0, A1⟩, ⟨T0, T1⟩, C, Bn, -⟩
    isplitl [C A1]
    · isplitl [C]; · iexact C
      iexact A1
    · isplitr [A0]
      · isplitl [Bn]; · iexact Bn
        isplitl [T0]; · iexact T0
        iexact T1
      · iexact A0
  · simp only [if_pos h0, if_neg h3]
    iintro ⟨⟨A0, A1⟩, ⟨T0, T1⟩, C, -, -⟩
    isplitl [C A1]
    · isplitl [C]; · iexact C
      iexact A1
    · iapply (posEnd_unused m c 0 b (decide_eq_false h3)); iexact A0
  · simp only [if_neg h0, if_pos h3]
    iintro ⟨⟨A0, A1⟩, ⟨T0, T1⟩, -, Bn, Bo⟩
    isplitl [Bo A1]
    · isplitl [Bo]; · iexact Bo
      iapply (posEnd_unused m c 1 b (decide_eq_false h0)); iexact A1
    · isplitr [A0]
      · isplitl [Bn]; · iexact Bn
        isplitl [T0]; · iexact T0
        iexact T1
      · iexact A0
  · exact absurd (show 0 < yN c by omega) h0

theorem sufIn_SufP (c : Dev nD) (b : Fin 32) : sufIn (F := F) c b ⊢ SufP m c b 0 := by
  unfold sufIn SufP pend sendSufRes
  by_cases h0 : 0 < yN c <;> by_cases h3 : yN c < 3
  · simp only [if_pos h0, if_pos h3]
    iintro ⟨⟨A2, A3⟩, ⟨T2, T3⟩, C, Bn, -, Bo⟩
    isplitl [C A3]
    · isplitl [C]; · iexact C
      iexact A3
    isplitl [Bo]; · iexact Bo
    isplitr [A2]
    · isplitl [Bn]; · iexact Bn
      isplitl [T2]; · iexact T2
      iexact T3
    · iexact A2
  · simp only [if_pos h0, if_neg h3]
    iintro ⟨⟨A2, A3⟩, ⟨T2, T3⟩, -, Bn, Bs, Bo⟩
    isplitl [Bs A3]
    · isplitl [Bs]; · iexact Bs
      iapply (posEnd_unused m c 3 b (decide_eq_false h3)); iexact A3
    isplitl [Bo]; · iexact Bo
    isplitr [A2]
    · isplitl [Bn]; · iexact Bn
      isplitl [T2]; · iexact T2
      iexact T3
    · iexact A2
  · simp only [if_neg h0, if_pos h3]
    iintro ⟨⟨A2, A3⟩, ⟨T2, T3⟩, C, -, -, Bo⟩
    isplitl [C A3]
    · isplitl [C]; · iexact C
      iexact A3
    isplitl [Bo]; · iexact Bo
    iapply (posEnd_unused m c 2 b (decide_eq_false h0)); iexact A2
  · exact absurd (show 0 < yN c by omega) h0

theorem outIn_OutP (c : Dev nD) (b : Fin 32) : outIn (F := F) c b ⊢ OutP m c b 0 := by
  rw [OutP_0]
  unfold outIn pend sendOutRes
  iintro ⟨⟨A4, A5⟩, ⟨T4, T5⟩, C, Bx, Bc⟩
  isplitl [Bx Bc T4 T5]
  · isplitl [Bc]; · iexact Bc
    isplitl [Bx]; · iexact Bx
    isplitl [T4]; · iexact T4
    iexact T5
  isplitl [A4]; · iexact A4
  isplitl [C]; · iexact C
  iexact A5

theorem lane_start (c : Dev nD) (b : Fin 32) : iprop(preIn (F := F) c b ∗ sufIn (F := F) c b ∗ outIn (F := F) c b)
    ⊢ iprop(PreP m c b 0 ∗ SufP m c b 0 ∗ OutP m c b 0) := by
  iintro ⟨H1, H2, H3⟩
  isplitl [H1]; · iapply (preIn_PreP m c b); iexact H1
  isplitl [H2]; · iapply (sufIn_SufP m c b); iexact H2
  iapply (outIn_OutP m c b); iexact H3

theorem lanes_start (c : Dev nD) :
    iprop((bigSep Finset.univ fun b => preIn (F := F) c b) ∗ (bigSep Finset.univ fun b => sufIn (F := F) c b) ∗ bigSep Finset.univ fun b => outIn (F := F) c b)
      ⊢ lanes m c (sg 0 0) := by
  have h : (fun b => lane m c b (sg 0 0 b)) = fun b => iprop(PreP m c b 0 ∗ SufP m c b 0 ∗ OutP m c b 0) := by
    funext b; rw [show sg 0 0 b = 0 from rfl, lane_0]
  unfold lanes
  rw [h]
  iintro ⟨H1, H2, H3⟩
  ihave H2 := (zip2 (fun b => sufIn (F := F) c b) (fun b => outIn (F := F) c b)) $$ [H2 H3]
  · isplitl [H2]; · iexact H2
    iexact H3
  ihave H := (zip2 (fun b => preIn (F := F) c b) (fun b => iprop(sufIn (F := F) c b ∗ outIn (F := F) c b))) $$ [H1 H2]
  · isplitl [H1]; · iexact H1
    iexact H2
  have hm : (bigSep Finset.univ fun b => iprop(preIn (F := F) c b ∗ sufIn (F := F) c b ∗ outIn (F := F) c b))
      ⊢ bigSep Finset.univ fun b => iprop(PreP m c b 0 ∗ SufP m c b 0 ∗ OutP m c b 0) := bigSep_mono fun b _ => lane_start m c b
  iapply hm; iexact H

/-! ## The end -/

/-- What is left when every block is done. -/
def lanesEnd (c : Dev nD) : sProp 𝕄 :=
  iprop((bigSep Finset.univ fun b => posEnd m c (.inr (.inr (0, b)))) ∗ (bigSep Finset.univ fun b => posEnd m c (.inr (.inr (1, b))))
    ∗ (bigSep Finset.univ fun b => posEnd m c (.inr (.inr (2, b)))) ∗ (bigSep Finset.univ fun b => posEnd m c (.inr (.inr (3, b))))
    ∗ (bigSep Finset.univ fun b => posEnd m c (.inr (.inr (4, b)))) ∗ (bigSep Finset.univ fun b => posEnd m c (.inr (.inr (5, b))))
    ∗ (bigSep Finset.univ fun b => anyOwn (F := F) c (sl preM b)) ∗ (bigSep Finset.univ fun b => anyOwn (F := F) c (sl sufM b))
    ∗ (bigSep Finset.univ fun b => anyOwn (F := F) c (sl sfoM b)) ∗ (bigSep Finset.univ fun b => own c (slMine c b) fullShare (outV m c b))
    ∗ (bigSep Finset.univ fun b => own c (slOther c b) fullShare (outV m (xp c) b)))

theorem PreP_2 (c : Dev nD) (b : Fin 32) : PreP m c b 2
    = iprop(posEnd m c (.inr (.inr (1, b))) ∗ posEnd m c (.inr (.inr (0, b))) ∗ anyOwn (F := F) c (sl preM b)) := rfl
theorem SufP_2 (c : Dev nD) (b : Fin 32) : SufP m c b 2
    = iprop(posEnd m c (.inr (.inr (3, b))) ∗ posEnd m c (.inr (.inr (2, b))) ∗ anyOwn (F := F) c (sl sufM b) ∗ anyOwn (F := F) c (sl sfoM b)) := rfl

theorem lane_end (c : Dev nD) (b : Fin 32) : lane m c b (sgW 32 b) ⊢ iprop(posEnd m c (.inr (.inr (0, b))) ∗ posEnd m c (.inr (.inr (1, b))) ∗ posEnd m c (.inr (.inr (2, b)))
    ∗ posEnd m c (.inr (.inr (3, b))) ∗ posEnd m c (.inr (.inr (4, b))) ∗ posEnd m c (.inr (.inr (5, b))) ∗ anyOwn (F := F) c (sl preM b)
    ∗ anyOwn (F := F) c (sl sufM b) ∗ anyOwn (F := F) c (sl sfoM b) ∗ own c (slMine c b) fullShare (outV m c b) ∗ own c (slOther c b) fullShare (outV m (xp c) b)) := by
  rw [show sgW 32 b = 4 from if_pos b.isLt, lane_4, OutP_3, PreP_2, SufP_2]
  iintro ⟨⟨E1, E0, B1⟩, ⟨E3, E2, B2, B3⟩, B4, E4, B5, E5⟩
  isplitl [E0]; · iexact E0
  isplitl [E1]; · iexact E1
  isplitl [E2]; · iexact E2
  isplitl [E3]; · iexact E3
  isplitl [E4]; · iexact E4
  isplitl [E5]; · iexact E5
  isplitl [B1]; · iexact B1
  isplitl [B2]; · iexact B2
  isplitl [B3]; · iexact B3
  isplitl [B4]; · iexact B4
  iexact B5

theorem lanes_end (c : Dev nD) : lanes m c (sgW 32) ⊢ lanesEnd m c := by
  unfold lanes
  refine (bigSep_mono fun b _ => lane_end m c b).trans ?_
  unfold lanesEnd
  simp only [BI.bigSep_sep']
  exact BI.Entails.refl _

/-- A semaphore whose last round is over stands at zero. -/
theorem close_one (c : Dev nD) (i : CI) : iprop(records m K ∗ posEnd m c i) ⊢ (iprop(|={Set.univ}=> semVal (kcell (c, i)) 0) : sProp 𝕄) := by
  unfold posEnd
  iintro ⟨#Hrec, ⟨%r, %hr, H⟩⟩
  ihave #HI := (inv_at m K c i) $$ Hrec
  iapply (Rounds.cell_close ER (Rd m) (Set.mem_univ (K (c, i))) (fun h => h) (R := r) hr)
  isplitr; · iexact HI
  iexact H

/-- What may be used again and again goes to every member of a family. -/
theorem family_with {B : Type} [Fintype B] [DecidableEq B] (R : sProp 𝕄) [BI.Persistent R] (Φ Ψ : B → sProp 𝕄) (h : ∀ b, iprop(R ∗ Φ b) ⊢ Ψ b) :
    iprop(R ∗ bigSep Finset.univ Φ) ⊢ bigSep Finset.univ Ψ := by
  refine BIBase.Entails.trans ?_ ((zip2 (fun _ : B => R) Φ).trans (bigSep_mono fun b _ => h b))
  iintro ⟨#HR, H⟩
  isplitr
  · iapply ((BI.bigSep_of_persistent (Finset.univ : Finset B) R : R ⊢ bigSep Finset.univ fun _ => R)); iexact HR
  · iexact H

/-- All of them. -/
theorem close_all (c : Dev nD) : iprop(records m K ∗ bigSep Finset.univ fun k => posEnd m c (.inr k))
    ⊢ (iprop(|={Set.univ}=> bigSep Finset.univ fun k => semVal (cel c k) 0) : sProp 𝕄) :=
  (family_with (records m K) _ _ fun k => close_one m K c (.inr k)).trans (BI.bigSep_fupd Finset.univ _)

end Cert.Chain
-- ==== Proof.Device.lean ====
/-
The whole program of one device, from what the launch deals it to what it leaves.
-/
module

public import proofs.«01_k».proof.Proof.Ends

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (Q : PUnit.{1} → sProp (MT nD τ sig Unit (Elt F) ℕ UU ℕ))

/-! ## A whole device -/

/-- The device that waits on the semaphore `k` device `c` pays. -/
def dst (c : Dev nD) : KX → Dev nD
  | .inl _ => c
  | .inr (1, _) => rt c
  | .inr (3, _) => lf c
  | .inr (5, _) => xp c
  | .inr _ => c

/-- The rights to pay. -/
def payToks (c : Dev nD) : sProp 𝕄 :=
  iprop((dutyTok ER (bar (rt c)) 0 0 ∗ dutyTok ER (bar (lf c)) 0 1 ∗ dutyTok ER (bar (xp c)) 0 2)
    ∗ bigSep Finset.univ fun k => dutyTok ER (cel (dst c k) k) 0 0)

/-- What the other devices owe the device at launch. -/
def creds (c : Dev nD) : sProp 𝕄 :=
  iprop(cred (tallyAt (bar c) () 3) ∗ (bigSep Finset.univ fun b : Fin 32 => cred (if 0 < yN c then tallyAt (cel c (.inr (1, b))) () N else 0))
    ∗ (bigSep Finset.univ fun b : Fin 32 => cred (if yN c < 3 then tallyAt (cel c (.inr (3, b))) () N else 0))
    ∗ (bigSep Finset.univ fun b : Fin 32 => cred (tallyAt (cel c (.inr (5, b))) () N)))

/-- The arguments, as they were at launch. -/
def args (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))

/-- The kernel's own buffers. -/
def scratch (c : Dev nD) : sProp 𝕄 :=
  iprop((∃ f, dyM.view.loc (c : Thread nD τ) ↦{fullShare} f) ∗ (∃ f, wM.view.loc (c : Thread nD τ) ↦{fullShare} f) ∗ (∃ f, accM.view.loc (c : Thread nD τ) ↦{fullShare} f)
    ∗ (∃ f, preM.view.loc (c : Thread nD τ) ↦{fullShare} f) ∗ (∃ f, sufM.view.loc (c : Thread nD τ) ↦{fullShare} f) ∗ (∃ f, sfoM.view.loc (c : Thread nD τ) ↦{fullShare} f))

/-- The positions in the protocol. -/
def poss (c : Dev nD) : sProp 𝕄 := iprop(atPos ER (bar c) 0 ∅ 0 ∗ bigSep Finset.univ fun k => atPos ER (cel c k) 0 ∅ 0)

def bodyIn (c : Dev nD) : sProp 𝕄 :=
  iprop(poss (F := F) c ∗ payToks (F := F) c ∗ creds (F := F) c ∗ args m c ∗ scratch (F := F) c ∗ (∃ f, outM.view.loc (c : Thread nD τ) ↦{fullShare} f) ∗ owesX (F := F) c (O₀ c))

def bodyOut (c : Dev nD) : sProp 𝕄 :=
  iprop(semVal (bar c) 0 ∗ (bigSep Finset.univ fun k => semVal (cel c k) 0) ∗ args m c ∗ scratch (F := F) c
    ∗ (outM.view.loc (c : Thread nD τ) ↦{fullShare} (resF m c : Buf (Elt F) (outM.view.loc (c : Thread nD τ)))) ∗ owesX (F := F) c 0)

/-! ## Handing over -/

theorem give0 (c : Dev nD) : (iprop(∃ f, sufM.view.loc (c : Thread nD τ) ↦{fullShare} f) : sProp 𝕄)
    ⊢ iprop(barPay (F := F) (rt c) 0 ∗ bigSep Finset.univ fun b => if yN c < 3 then iprop(emp) else anyOwn (F := F) c (sl sufM b)) := by
  refine (blocks_cut c sufM (View.set_whole _)).trans ?_
  unfold barPay
  dsimp only
  rw [lf_rt]
  by_cases h3 : yN c < 3
  · rw [if_pos ((yN_rt_pos c).mpr h3)]
    simp only [if_pos h3]
    rw [show (bigSep Finset.univ fun _ : Fin 32 => (iprop(emp) : sProp 𝕄)) = iprop(emp) from BI.bigSep_emp_const _]
    iintro H; isplitl [H]; · iexact H
    iempintro
  · rw [if_neg (fun h => h3 ((yN_rt_pos c).mp h))]
    simp only [if_neg h3]
    iintro H; isplitr; · iempintro
    iexact H

theorem give1 (c : Dev nD) : (iprop(∃ f, preM.view.loc (c : Thread nD τ) ↦{fullShare} f) : sProp 𝕄)
    ⊢ iprop(barPay (F := F) (lf c) 1 ∗ bigSep Finset.univ fun b => if 0 < yN c then iprop(emp) else anyOwn (F := F) c (sl preM b)) := by
  refine (blocks_cut c preM (View.set_whole _)).trans ?_
  unfold barPay
  dsimp only
  rw [rt_lf]
  by_cases h0 : 0 < yN c
  · rw [if_pos ((yN_lf_lt c).mpr h0)]
    simp only [if_pos h0]
    rw [show (bigSep Finset.univ fun _ : Fin 32 => (iprop(emp) : sProp 𝕄)) = iprop(emp) from BI.bigSep_emp_const _]
    iintro H; isplitl [H]; · iexact H
    iempintro
  · rw [if_neg (fun h => h0 ((yN_lf_lt c).mp h))]
    simp only [if_neg h0]
    iintro H; isplitr; · iempintro
    iexact H

theorem give2 (c : Dev nD) : (iprop(∃ f, outM.view.loc (c : Thread nD τ) ↦{fullShare} f) : sProp 𝕄)
    ⊢ iprop(barPay (F := F) (xp c) 2 ∗ bigSep Finset.univ fun b => anyOwn (F := F) c (slMine c b)) := by
  refine (out_cut c).trans ?_
  unfold barPay
  dsimp only
  rw [xp_xp]
  iintro ⟨H1, H2⟩
  isplitl [H2]; · iexact H2
  iexact H1

/-! ## The loops' blocks, gathered -/

/-- What the loops are made of: positions, rights to pay, credit, the blocks got and the blocks kept. -/
def parts (c : Dev nD) : sProp 𝕄 :=
  iprop(((bigSep Finset.univ fun b : Fin 32 => atPos ER (cel c (.inr (0, b))) 0 ∅ 0) ∗ (bigSep Finset.univ fun b : Fin 32 => atPos ER (cel c (.inr (1, b))) 0 ∅ 0)
      ∗ (bigSep Finset.univ fun b : Fin 32 => atPos ER (cel c (.inr (2, b))) 0 ∅ 0) ∗ (bigSep Finset.univ fun b : Fin 32 => atPos ER (cel c (.inr (3, b))) 0 ∅ 0)
      ∗ (bigSep Finset.univ fun b : Fin 32 => atPos ER (cel c (.inr (4, b))) 0 ∅ 0) ∗ (bigSep Finset.univ fun b : Fin 32 => atPos ER (cel c (.inr (5, b))) 0 ∅ 0))
    ∗ ((bigSep Finset.univ fun b : Fin 32 => dutyTok ER (cel c (.inr (0, b))) 0 0) ∗ (bigSep Finset.univ fun b : Fin 32 => dutyTok ER (cel (rt c) (.inr (1, b))) 0 0)
      ∗ (bigSep Finset.univ fun b : Fin 32 => dutyTok ER (cel c (.inr (2, b))) 0 0) ∗ (bigSep Finset.univ fun b : Fin 32 => dutyTok ER (cel (lf c) (.inr (3, b))) 0 0)
      ∗ (bigSep Finset.univ fun b : Fin 32 => dutyTok ER (cel c (.inr (4, b))) 0 0) ∗ (bigSep Finset.univ fun b : Fin 32 => dutyTok ER (cel (xp c) (.inr (5, b))) 0 0))
    ∗ ((bigSep Finset.univ fun b : Fin 32 => cred (if 0 < yN c then tallyAt (cel c (.inr (1, b))) () N else 0))
      ∗ (bigSep Finset.univ fun b : Fin 32 => cred (if yN c < 3 then tallyAt (cel c (.inr (3, b))) () N else 0))
      ∗ (bigSep Finset.univ fun b : Fin 32 => cred (tallyAt (cel c (.inr (5, b))) () N)))
    ∗ (barPay (F := F) c 0 ∗ barPay (F := F) c 1 ∗ barPay (F := F) c 2)
    ∗ ((bigSep Finset.univ fun b => if 0 < yN c then iprop(emp) else anyOwn (F := F) c (sl preM b))
      ∗ (bigSep Finset.univ fun b => if yN c < 3 then iprop(emp) else anyOwn (F := F) c (sl sufM b))
      ∗ (bigSep Finset.univ fun b => anyOwn (F := F) c (sl sfoM b)) ∗ (bigSep Finset.univ fun b => anyOwn (F := F) c (slMine c b))))

theorem parts_lanes (c : Dev nD) : parts (F := F) c ⊢ lanes m c (sg 0 0) := by
  refine BIBase.Entails.trans ?_ (lanes_start m c)
  unfold parts preIn sufIn outIn barPay
  dsimp only
  rw [if_family, if_family]
  simp only [BI.bigSep_sep']
  iintro ⟨⟨A0, A1, A2, A3, A4, A5⟩, ⟨T0, T1, T2, T3, T4, T5⟩, ⟨C1, C3, C5⟩, ⟨P0, P1, P2⟩, ⟨B0, B1, B2, B3⟩⟩
  isplitl [A0 A1 T0 T1 C1 P1 B0]
  · isplitl [A0 A1]
    · isplitl [A0]; · iexact A0
      iexact A1
    isplitl [T0 T1]
    · isplitl [T0]; · iexact T0
      iexact T1
    isplitl [C1]; · iexact C1
    isplitl [P1]; · iexact P1
    iexact B0
  isplitl [A2 A3 T2 T3 C3 P0 B1 B2]
  · isplitl [A2 A3]
    · isplitl [A2]; · iexact A2
      iexact A3
    isplitl [T2 T3]
    · isplitl [T2]; · iexact T2
      iexact T3
    isplitl [C3]; · iexact C3
    isplitl [P0]; · iexact P0
    isplitl [B1]; · iexact B1
    iexact B2
  · isplitl [A4 A5]
    · isplitl [A4]; · iexact A4
      iexact A5
    isplitl [T4 T5]
    · isplitl [T4]; · iexact T4
      iexact T5
    isplitl [C5]; · iexact C5
    isplitl [P2]; · iexact P2
    iexact B3

/-! ## The copies in, done -/

theorem got0 (c : Dev nD) : cpGet m c 0 ⊢ iprop(piece (F := F) c wDst0 ∗ (wSrc0.view.loc (c : Thread nD τ) ↦[wSrc0.view.set]{fullShare} m ((c : Thread nD τ).loc main_arg1)) ∗ posEnd m c (.inr (.inl 0))) := by
  unfold cpGet; rw [cpPay_0]; unfold hasW owns
  iintro ⟨⟨⟨%f, -, H⟩, Hs⟩, Hp⟩
  isplitl [H]; · iexists f; iexact H
  isplitl [Hs]; · iexact Hs
  iexact Hp
theorem got1 (c : Dev nD) : cpGet m c 1 ⊢ iprop(piece (F := F) c wDst1 ∗ (wSrc1.view.loc (c : Thread nD τ) ↦[wSrc1.view.set]{fullShare} m ((c : Thread nD τ).loc main_arg1)) ∗ posEnd m c (.inr (.inl 1))) := by
  unfold cpGet; rw [cpPay_1]; unfold hasW owns
  iintro ⟨⟨⟨%f, -, H⟩, Hs⟩, Hp⟩
  isplitl [H]; · iexists f; iexact H
  isplitl [Hs]; · iexact Hs
  iexact Hp
theorem got2 (c : Dev nD) : cpGet m c 2 ⊢ iprop(piece (F := F) c dyDst0 ∗ ((dySrc0 c).view.loc (c : Thread nD τ) ↦[(dySrc0 c).view.set]{fullShare} m ((c : Thread nD τ).loc main_arg0)) ∗ posEnd m c (.inr (.inl 2))) := by
  unfold cpGet; rw [cpPay_2]; unfold hasDy owns
  iintro ⟨⟨⟨%f, -, H⟩, Hs⟩, Hp⟩
  isplitl [H]; · iexists f; iexact H
  isplitl [Hs]; · iexact Hs
  iexact Hp
theorem got3 (c : Dev nD) : cpGet m c 3 ⊢ iprop(piece (F := F) c dyDst1 ∗ ((dySrc1 c).view.loc (c : Thread nD τ) ↦[(dySrc1 c).view.set]{fullShare} m ((c : Thread nD τ).loc main_arg0)) ∗ posEnd m c (.inr (.inl 3))) := by
  unfold cpGet; rw [cpPay_3]; unfold hasDy owns
  iintro ⟨⟨⟨%f, -, H⟩, Hs⟩, Hp⟩
  isplitl [H]; · iexists f; iexact H
  isplitl [Hs]; · iexact Hs
  iexact Hp

/-! ## The device's program -/

theorem wp_device (c : Dev nD) :
    iprop(records m K ∗ bodyIn m c) ⊢ iprop((bodyOut m c -∗ Q ⟨⟩) -∗ WP c (head c (rt c) (lf c) (xp c) (core c (Prog.ret ⟨⟩))) Q) := by
  unfold bodyIn poss payToks creds args scratch
  rw [bigSep_KX (fun k => atPos ER (cel c k) 0 ∅ 0), bigSep_KX (fun k => dutyTok ER (cel (dst c k) k) 0 0)]
  iintro ⟨#Hrec, ⟨Ab, ⟨Ac0, Ac1, Ac2, Ac3⟩, HA⟩, ⟨⟨Tb0, Tb1, Tb2⟩, ⟨Tc0, Tc1, Tc2, Tc3⟩, HT⟩, ⟨Cb, HC⟩, ⟨G0, G1⟩, ⟨Sdy, Sw, Sacc, Spre, Ssuf, Ssfo⟩, Sout, HO⟩ Hk
  ihave G0 := (arg0_cut m c).1 $$ G0
  icases G0 with ⟨Dy0, Dy1, DyR⟩
  ihave G1 := (arg1_cut m c).1 $$ G1
  icases G1 with ⟨W0, W1, WR⟩
  ihave Sdy := (dy_cut c) $$ Sdy
  icases Sdy with ⟨Sdy0, Sdy1⟩
  ihave Sw := (w_cut c) $$ Sw
  icases Sw with ⟨Sw0, Sw1⟩
  ihave Ssuf := (give0 c) $$ Ssuf
  icases Ssuf with ⟨Pay0, Ksuf⟩
  ihave Spre := (give1 c) $$ Spre
  icases Spre with ⟨Pay1, Kpre⟩
  ihave Sout := (give2 c) $$ Sout
  icases Sout with ⟨Pay2, Kout⟩
  ihave Ksfo := (blocks_cut c sfoM (View.set_whole _)) $$ Ssfo
  iapply (wp_head m K Q c _) $$ [W0 W1 Dy0 Dy1 Sw0 Sw1 Sdy0 Sdy1 Tc0 Tc1 Tc2 Tc3 Ac0 Ac1 Ac2 Ac3 Pay0 Pay1 Pay2 Tb0 Tb1 Tb2 Cb Ab HO]
  · isplitr; · iexact Hrec
    isplitr [Pay0 Pay1 Pay2 Tb0 Tb1 Tb2 Cb Ab HO]
    · unfold cpGive
      isplitl [W0 Sw0 Tc0 Ac0]
      · isplitl [W0]; · iexact W0
        isplitl [Sw0]; · iexact Sw0
        isplitl [Tc0]; · iexact Tc0
        iexact Ac0
      isplitl [W1 Sw1 Tc1 Ac1]
      · isplitl [W1]; · iexact W1
        isplitl [Sw1]; · iexact Sw1
        isplitl [Tc1]; · iexact Tc1
        iexact Ac1
      isplitl [Dy0 Sdy0 Tc2 Ac2]
      · isplitl [Dy0]; · iexact Dy0
        isplitl [Sdy0]; · iexact Sdy0
        isplitl [Tc2]; · iexact Tc2
        iexact Ac2
      isplitl [Dy1]; · iexact Dy1
      isplitl [Sdy1]; · iexact Sdy1
      isplitl [Tc3]; · iexact Tc3
      iexact Ac3
    isplitr [HO]
    · unfold hsGive
      isplitl [Pay0]; · iexact Pay0
      isplitl [Pay1]; · iexact Pay1
      isplitl [Pay2]; · iexact Pay2
      isplitl [Tb0]; · iexact Tb0
      isplitl [Tb1]; · iexact Tb1
      isplitl [Tb2]; · iexact Tb2
      isplitl [Cb]; · iexact Cb
      iexact Ab
    · iexact HO
  unfold hsGet
  iintro ⟨HP, ⟨Hbar, Eb⟩, HO⟩
  ihave HL := (parts_lanes m c) $$ [HA HT HC Hbar Kpre Ksuf Ksfo Kout]
  · unfold parts
    isplitl [HA]; · iexact HA
    isplitl [HT]; · iexact HT
    isplitl [HC]; · iexact HC
    isplitl [Hbar]; · iexact Hbar
    isplitl [Kpre]; · iexact Kpre
    isplitl [Ksuf]; · iexact Ksuf
    isplitl [Ksfo]; · iexact Ksfo
    iexact Kout
  iapply (wp_core m K Q c _) $$ [HP Sacc HL HO]
  · isplitr; · iexact Hrec
    unfold runIn
    isplitl [HP]; · iexact HP
    isplitl [Sacc]; · iexact Sacc
    isplitl [HL]; · iexact HL
    iexact HO
  unfold runOut accOK
  iintro ⟨⟨R0, R1, R2, R3⟩, ⟨%fa, -, Sacc⟩, HL, HO⟩
  ihave R0 := (got0 m c) $$ R0
  icases R0 with ⟨Sw0, W0, E0⟩
  ihave R1 := (got1 m c) $$ R1
  icases R1 with ⟨Sw1, W1, E1⟩
  ihave R2 := (got2 m c) $$ R2
  icases R2 with ⟨Sdy0, Dy0, E2⟩
  ihave R3 := (got3 m c) $$ R3
  icases R3 with ⟨Sdy1, Dy1, E3⟩
  ihave HL := (lanes_end m c) $$ HL
  unfold lanesEnd
  icases HL with ⟨F0, F1, F2, F3, F4, F5, Spre, Ssuf, Ssfo, Om, Oo⟩
  imod (close_one m K c (.inl ())) $$ [Eb] with Zb
  · isplitr; · iexact Hrec
    iexact Eb
  imod (close_all m K c) $$ [E0 E1 E2 E3 F0 F1 F2 F3 F4 F5] with Zk
  · isplitr; · iexact Hrec
    rw [bigSep_KX (fun k => posEnd m c (.inr k))]
    isplitl [E0 E1 E2 E3]
    · isplitl [E0]; · iexact E0
      isplitl [E1]; · iexact E1
      isplitl [E2]; · iexact E2
      iexact E3
    isplitl [F0]; · iexact F0
    isplitl [F1]; · iexact F1
    isplitl [F2]; · iexact F2
    isplitl [F3]; · iexact F3
    isplitl [F4]; · iexact F4
    iexact F5
  rw [wp_ret]; imodintro
  iapply Hk
  unfold bodyOut args scratch
  isplitl [Zb]; · iexact Zb
  isplitl [Zk]; · iexact Zk
  isplitl [W0 W1 WR Dy0 Dy1 DyR]
  · isplitl [Dy0 Dy1 DyR]
    · iapply (arg0_cut m c).2
      isplitl [Dy0]; · iexact Dy0
      isplitl [Dy1]; · iexact Dy1
      iexact DyR
    · iapply (arg1_cut m c).2
      isplitl [W0]; · iexact W0
      isplitl [W1]; · iexact W1
      iexact WR
  isplitr [Om Oo HO]
  · isplitl [Sdy0 Sdy1]
    · iapply (dy_paste c (m (dyM.view.loc (c : Thread nD τ))))
      isplitl [Sdy0]; · iexact Sdy0
      iexact Sdy1
    isplitl [Sw0 Sw1]
    · iapply (w_paste c (m (wM.view.loc (c : Thread nD τ))))
      isplitl [Sw0]; · iexact Sw0
      iexact Sw1
    isplitl [Sacc]; · iexists fa; iexact Sacc
    isplitl [Spre]; · iapply (blocks_paste c preM (View.set_whole _) (m (preM.view.loc (c : Thread nD τ)))); iexact Spre
    isplitl [Ssuf]; · iapply (blocks_paste c sufM (View.set_whole _) (m (sufM.view.loc (c : Thread nD τ)))); iexact Ssuf
    iapply (blocks_paste c sfoM (View.set_whole _) (m (sfoM.view.loc (c : Thread nD τ)))); iexact Ssfo
  isplitl [Om Oo]
  · iapply (out_paste m c (m (outM.view.loc (c : Thread nD τ))))
    isplitl [Om]; · iexact Om
    iexact Oo
  iexact HO

end Cert.Chain
-- ==== Proof.Match.lean ====
/-
The printed body is the sequence of small steps of `Steps`, one sequence for each place of the axis y.

Each of the four equations holds by unfolding once the branches the device takes are known.
-/
module

public import proofs.«01_k».proof.Proof.Steps
public import Idealize.ShloMosaic.Lib.Pipeline.Regions

@[expose] public section

set_option maxRecDepth 65536

noncomputable section

namespace Cert.Chain

open Cert.KernelIdeal Cert.KernelIdeal.Gen
open Idealize.ShloMosaic
open Idealize.ShloMosaic.TcCoe
open Idealize.SL.Sem

variable {F : FTy → Type} [FloatOps F]

/-- The program after it has read which device it runs on. -/
def afterDev (c : Dev nD) (p : Pr F) : Pr F :=
  match p with
  | .op .deviceId k => k c
  | p => p

theorem cond_1 (c : Dev nD) : k0_cond1 c = 1#1 ↔ yN c = 0 := by revert c; decide
theorem cond_2 (c : Dev nD) : k0_cond2 c = 1#1 ↔ yN c = 1 := by revert c; decide
theorem cond_3 (c : Dev nD) : k0_cond3 c = 1#1 ↔ yN c = 2 := by revert c; decide
theorem cond_4 (c : Dev nD) : k0_cond4 c = 1#1 ↔ yN c = 3 := by revert c; decide
theorem cond_5 (c : Dev nD) : k0_cond5 c = 1#1 ↔ yN c = 0 := by revert c; decide
theorem cond_6 (c : Dev nD) : k0_cond6 c = 1#1 ↔ yN c = 1 := by revert c; decide
theorem cond_7 (c : Dev nD) : k0_cond7 c = 1#1 ↔ yN c = 2 := by revert c; decide
theorem cond_8 (c : Dev nD) : k0_cond8 c = 1#1 ↔ yN c = 3 := by revert c; decide
theorem cond_9 (c : Dev nD) : k0_cond9 c = 1#1 ↔ yN c = 0 := by revert c; decide
theorem cond_10 (c : Dev nD) : k0_cond10 c = 1#1 ↔ yN c = 3 := by revert c; decide

/-- The word the body computes for the place on the axis y. -/
theorem yWord (c : Dev nD) : Scalar.remsi (Scalar.divsi (Dev.word c) 4#32) 4#32 = BitVec.ofNat 32 (yN c) := by
  revert c; decide

/-! Which device each computed number is. -/

theorem dev1_eq (c : Dev nD) : (⟨k0_dev1 c, k0_dev1_lt c⟩ : Dev nD) = rt c := Fin.ext (by revert c; decide)
theorem dev2_eq (c : Dev nD) : (⟨k0_dev2 c, k0_dev2_lt c⟩ : Dev nD) = lf c := Fin.ext (by revert c; decide)
theorem dev3_eq (c : Dev nD) : (⟨k0_dev3 c, k0_dev3_lt c⟩ : Dev nD) = xp c := Fin.ext (by revert c; decide)
theorem dev4_eq (c : Dev nD) (h : k0_cond1 c = 1#1) : (⟨k0_dev4 c, k0_dev4_lt c h⟩ : Dev nD) = rt c :=
  Fin.ext (by revert c; decide)
theorem dev20_eq (c : Dev nD) (h : k0_cond2 c = 1#1) : (⟨k0_dev20 c, k0_dev20_lt c h⟩ : Dev nD) = rt c :=
  Fin.ext (by revert c; decide)
theorem dev26_eq (c : Dev nD) (h : k0_cond2 c = 1#1) : (⟨k0_dev26 c, k0_dev26_lt c h⟩ : Dev nD) = lf c :=
  Fin.ext (by revert c; decide)
theorem dev27_eq (c : Dev nD) (h : k0_cond2 c = 1#1) : (⟨k0_dev27 c, k0_dev27_lt c h⟩ : Dev nD) = xp c :=
  Fin.ext (by revert c; decide)
theorem dev58_eq (c : Dev nD) (h : k0_cond3 c = 1#1) : (⟨k0_dev58 c, k0_dev58_lt c h⟩ : Dev nD) = lf c :=
  Fin.ext (by revert c; decide)
theorem dev64_eq (c : Dev nD) (h : k0_cond3 c = 1#1) : (⟨k0_dev64 c, k0_dev64_lt c h⟩ : Dev nD) = rt c :=
  Fin.ext (by revert c; decide)
theorem dev65_eq (c : Dev nD) (h : k0_cond3 c = 1#1) : (⟨k0_dev65 c, k0_dev65_lt c h⟩ : Dev nD) = xp c :=
  Fin.ext (by revert c; decide)
theorem dev96_eq (c : Dev nD) (h : k0_cond4 c = 1#1) : (⟨k0_dev96 c, k0_dev96_lt c h⟩ : Dev nD) = lf c :=
  Fin.ext (by revert c; decide)
theorem dev260_eq (c : Dev nD) (h : k0_cond9 c = 1#1) : (⟨k0_dev260 c, k0_dev260_lt c h⟩ : Dev nD) = xp c :=
  Fin.ext (by revert c; decide)
theorem dev292_eq (c : Dev nD) (h : k0_cond10 c = 1#1) : (⟨k0_dev292 c, k0_dev292_lt c h⟩ : Dev nD) = xp c :=
  Fin.ext (by revert c; decide)

/-- The whole body at the call's own buffers. -/
abbrev bodyP : Pr F :=
  cc0_body dyA (Memref.isWhole_whole _) wA (Memref.isWhole_whole _) outM (Memref.isWhole_whole _)
    dyM (Memref.isWhole_whole _) wM (Memref.isWhole_whole _) accM (Memref.isWhole_whole _) preM (Memref.isWhole_whole _)
    sufM (Memref.isWhole_whole _) sfoM (Memref.isWhole_whole _)
    cc0_scratch6 cc0_scratch7 cc0_scratch8 cc0_scratch9 cc0_scratch10 cc0_scratch11 cc0_scratch12

/-- On the first device of the axis the body is `body0`. -/
theorem match0 (c : Dev nD) (h : yN c = 0) :
    afterDev c (bodyP (F := F)) = body0 c (rt c) (lf c) (xp c) (rt c) (lf c) (xp c) := by
  have n2 : ¬ k0_cond2 c = 1#1 := fun e => by have := (cond_2 c).1 e; omega
  have n3 : ¬ k0_cond3 c = 1#1 := fun e => by have := (cond_3 c).1 e; omega
  have n4 : ¬ k0_cond4 c = 1#1 := fun e => by have := (cond_4 c).1 e; omega
  have n6 : ¬ k0_cond6 c = 1#1 := fun e => by have := (cond_6 c).1 e; omega
  have n7 : ¬ k0_cond7 c = 1#1 := fun e => by have := (cond_7 c).1 e; omega
  have n8 : ¬ k0_cond8 c = 1#1 := fun e => by have := (cond_8 c).1 e; omega
  have n10 : ¬ k0_cond10 c = 1#1 := fun e => by have := (cond_10 c).1 e; omega
  have e : afterDev c (bodyP (F := F)) = body0 c ⟨k0_dev1 c, k0_dev1_lt c⟩ ⟨k0_dev2 c, k0_dev2_lt c⟩ ⟨k0_dev3 c, k0_dev3_lt c⟩
      ⟨k0_dev4 c, k0_dev4_lt c ((cond_1 c).2 h)⟩ (lf c)
      ⟨k0_dev260 c, k0_dev260_lt c ((cond_9 c).2 h)⟩ := by
    unfold bodyP
    rw [cc0_body_eq_skeleton]
    unfold cc0_body_skel
    rw [k0_part254_eq_skeleton, k0_part257_eq_skeleton, k0_part258_eq_skeleton, k0_part259_eq_skeleton]
    unfold k0_part254_skel k0_part257_skel k0_part258_skel k0_part259_skel
    simp only [Prog.lift, Prog.bind_op, Prog.bind_ret, Prog.pure_eq_ret, afterDev, yWord, h, (cond_1 c).2 h, (cond_5 c).2 h, (cond_9 c).2 h,
      n2, n3, n4, n6, n7, n8, n10, ↓reduceDIte]
    show _ = _
    chain_rfl
  rw [e, dev1_eq, dev2_eq, dev3_eq, dev4_eq c ((cond_1 c).2 h), dev260_eq c ((cond_9 c).2 h)]

/-- On the second device of the axis the body is `body1`. -/
theorem match1 (c : Dev nD) (h : yN c = 1) :
    afterDev c (bodyP (F := F)) = body1 c (rt c) (lf c) (xp c) (rt c) (lf c) (xp c) := by
  have n1 : ¬ k0_cond1 c = 1#1 := fun e => by have := (cond_1 c).1 e; omega
  have n3 : ¬ k0_cond3 c = 1#1 := fun e => by have := (cond_3 c).1 e; omega
  have n4 : ¬ k0_cond4 c = 1#1 := fun e => by have := (cond_4 c).1 e; omega
  have n5 : ¬ k0_cond5 c = 1#1 := fun e => by have := (cond_5 c).1 e; omega
  have n7 : ¬ k0_cond7 c = 1#1 := fun e => by have := (cond_7 c).1 e; omega
  have n8 : ¬ k0_cond8 c = 1#1 := fun e => by have := (cond_8 c).1 e; omega
  have n9 : ¬ k0_cond9 c = 1#1 := fun e => by have := (cond_9 c).1 e; omega
  have n10 : ¬ k0_cond10 c = 1#1 := fun e => by have := (cond_10 c).1 e; omega
  have e : afterDev c (bodyP (F := F)) = body1 c ⟨k0_dev1 c, k0_dev1_lt c⟩ ⟨k0_dev2 c, k0_dev2_lt c⟩ ⟨k0_dev3 c, k0_dev3_lt c⟩
      ⟨k0_dev20 c, k0_dev20_lt c ((cond_2 c).2 h)⟩ ⟨k0_dev26 c, k0_dev26_lt c ((cond_2 c).2 h)⟩
      ⟨k0_dev27 c, k0_dev27_lt c ((cond_2 c).2 h)⟩ := by
    unfold bodyP
    rw [cc0_body_eq_skeleton]
    unfold cc0_body_skel
    rw [k0_part254_eq_skeleton, k0_part257_eq_skeleton, k0_part258_eq_skeleton, k0_part259_eq_skeleton]
    unfold k0_part254_skel k0_part257_skel k0_part258_skel k0_part259_skel
    simp only [Prog.lift, Prog.bind_op, Prog.bind_ret, Prog.pure_eq_ret, afterDev, yWord, h, (cond_2 c).2 h, (cond_6 c).2 h,
      n1, n3, n4, n5, n7, n8, n9, n10, ↓reduceDIte]
    show _ = _
    chain_rfl
  rw [e, dev1_eq, dev2_eq, dev3_eq, dev20_eq c ((cond_2 c).2 h), dev26_eq c ((cond_2 c).2 h), dev27_eq c ((cond_2 c).2 h)]

/-- On the third device of the axis the body is `body2`. -/
theorem match2 (c : Dev nD) (h : yN c = 2) :
    afterDev c (bodyP (F := F)) = body2 c (rt c) (lf c) (xp c) (rt c) (lf c) (xp c) := by
  have n1 : ¬ k0_cond1 c = 1#1 := fun e => by have := (cond_1 c).1 e; omega
  have n2 : ¬ k0_cond2 c = 1#1 := fun e => by have := (cond_2 c).1 e; omega
  have n4 : ¬ k0_cond4 c = 1#1 := fun e => by have := (cond_4 c).1 e; omega
  have n5 : ¬ k0_cond5 c = 1#1 := fun e => by have := (cond_5 c).1 e; omega
  have n6 : ¬ k0_cond6 c = 1#1 := fun e => by have := (cond_6 c).1 e; omega
  have n8 : ¬ k0_cond8 c = 1#1 := fun e => by have := (cond_8 c).1 e; omega
  have n9 : ¬ k0_cond9 c = 1#1 := fun e => by have := (cond_9 c).1 e; omega
  have n10 : ¬ k0_cond10 c = 1#1 := fun e => by have := (cond_10 c).1 e; omega
  have e : afterDev c (bodyP (F := F)) = body2 c ⟨k0_dev1 c, k0_dev1_lt c⟩ ⟨k0_dev2 c, k0_dev2_lt c⟩ ⟨k0_dev3 c, k0_dev3_lt c⟩
      ⟨k0_dev64 c, k0_dev64_lt c ((cond_3 c).2 h)⟩ ⟨k0_dev58 c, k0_dev58_lt c ((cond_3 c).2 h)⟩
      ⟨k0_dev65 c, k0_dev65_lt c ((cond_3 c).2 h)⟩ := by
    unfold bodyP
    rw [cc0_body_eq_skeleton]
    unfold cc0_body_skel
    rw [k0_part254_eq_skeleton, k0_part257_eq_skeleton, k0_part258_eq_skeleton, k0_part259_eq_skeleton]
    unfold k0_part254_skel k0_part257_skel k0_part258_skel k0_part259_skel
    simp only [Prog.lift, Prog.bind_op, Prog.bind_ret, Prog.pure_eq_ret, afterDev, yWord, h, (cond_3 c).2 h, (cond_7 c).2 h,
      n1, n2, n4, n5, n6, n8, n9, n10, ↓reduceDIte]
    show _ = _
    chain_rfl
  rw [e, dev1_eq, dev2_eq, dev3_eq, dev58_eq c ((cond_3 c).2 h), dev64_eq c ((cond_3 c).2 h), dev65_eq c ((cond_3 c).2 h)]

/-- On the last device of the axis the body is `body3`. -/
theorem match3 (c : Dev nD) (h : yN c = 3) :
    afterDev c (bodyP (F := F)) = body3 c (rt c) (lf c) (xp c) (rt c) (lf c) (xp c) := by
  have n1 : ¬ k0_cond1 c = 1#1 := fun e => by have := (cond_1 c).1 e; omega
  have n2 : ¬ k0_cond2 c = 1#1 := fun e => by have := (cond_2 c).1 e; omega
  have n3 : ¬ k0_cond3 c = 1#1 := fun e => by have := (cond_3 c).1 e; omega
  have n5 : ¬ k0_cond5 c = 1#1 := fun e => by have := (cond_5 c).1 e; omega
  have n6 : ¬ k0_cond6 c = 1#1 := fun e => by have := (cond_6 c).1 e; omega
  have n7 : ¬ k0_cond7 c = 1#1 := fun e => by have := (cond_7 c).1 e; omega
  have n9 : ¬ k0_cond9 c = 1#1 := fun e => by have := (cond_9 c).1 e; omega
  have e : afterDev c (bodyP (F := F)) = body3 c ⟨k0_dev1 c, k0_dev1_lt c⟩ ⟨k0_dev2 c, k0_dev2_lt c⟩ ⟨k0_dev3 c, k0_dev3_lt c⟩
      (rt c) ⟨k0_dev96 c, k0_dev96_lt c ((cond_4 c).2 h)⟩
      ⟨k0_dev292 c, k0_dev292_lt c ((cond_10 c).2 h)⟩ := by
    unfold bodyP
    rw [cc0_body_eq_skeleton]
    unfold cc0_body_skel
    rw [k0_part254_eq_skeleton, k0_part257_eq_skeleton, k0_part258_eq_skeleton, k0_part259_eq_skeleton]
    unfold k0_part254_skel k0_part257_skel k0_part258_skel k0_part259_skel
    simp only [Prog.lift, Prog.bind_op, Prog.bind_ret, Prog.pure_eq_ret, afterDev, yWord, h, (cond_4 c).2 h, (cond_8 c).2 h, (cond_10 c).2 h,
      n1, n2, n3, n5, n6, n7, n9, ↓reduceDIte]
    show _ = _
    chain_rfl
  rw [e, dev1_eq, dev2_eq, dev3_eq, dev96_eq c ((cond_4 c).2 h), dev292_eq c ((cond_10 c).2 h)]

end Cert.Chain
-- ==== Proof.Region.lean ====
/-
The body of the call, as the call runs it on one device.

What a device holds when the body starts and when it has ended, and the proof that the body leads from one to the other,
split on the device's place of the axis y.
-/
module

public import proofs.«01_k».proof.Proof.Device
public import proofs.«01_k».proof.Proof.Match
public import proofs.«01_k».proof.Proof.Gen.KernelIdeal.Points

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

variable (Q : PUnit.{1} → sProp (MT nD τ sig Unit (Elt F) ℕ UU ℕ))

/-! ## Reading the device -/

/-- A program that first reads which device it runs on runs as the rest of it does. -/
theorem wp_afterDev (c : Dev nD) (p : Pr F) : WP c (afterDev c p) Q = WP c p Q := by
  cases p with
  | ret a => rfl
  | op e k => cases e <;> first | rfl | exact (wp_deviceId 𝒱₀ (c : Thread nD τ) none Set.univ).symm

/-! ## The call's own data -/

theorem cfg0_N : cfg0.N = 1 := N_0
def t₀ : Fin cfg0.N := t0_0
theorem fin_N (t : Fin cfg0.N) : t = t₀ := fin_N0 t

/-- What a device starts from, its own buffers left out. -/
def start (c : Dev nD) : sProp 𝕄 :=
  iprop((∃ K, records m K) ∗ poss (F := F) c ∗ payToks (F := F) c ∗ creds (F := F) c ∗ args m c)

def Φ₀ (c : Dev nD) : sProp 𝕄 := iprop(start m c ∗ scratch (F := F) c)

def Φ₁ (c : Dev nD) : sProp 𝕄 :=
  iprop(semVal (bar c) 0 ∗ (bigSep Finset.univ fun k => semVal (cel c k) 0) ∗ args m c ∗ scratch (F := F) c)

/-- The result as it is staged. -/
def outAt (c : Dev nD) : (cc0_stg0_0 : Ref sig .tc).ty.Contents (Elt F) := resF m c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer held at the contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body -/

/-- The body, on any device. -/
theorem wp_body (c : Dev nD) :
    iprop(records m K ∗ bodyIn m c) ⊢ iprop((bodyOut m c -∗ Q ⟨⟩) -∗ WP c (bodyP (F := F)) Q) := by
  have h : WP c (bodyP (F := F)) Q = WP c (head c (rt c) (lf c) (xp c) (core c (Prog.ret ⟨⟩))) Q := by
    rw [← wp_afterDev]
    have hy := yN_lt c
    obtain h | h | h | h : yN c = 0 ∨ yN c = 1 ∨ yN c = 2 ∨ yN c = 3 := by omega
    · rw [match0 c h, body0_eq c h]
    · rw [match1 c h, body1_eq c h]
    · rw [match2 c h, body2_eq c h]
    · rw [match3 c h, body3_eq c h]
  rw [h]
  exact wp_device m K Q c

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outAt m c))

theorem owes_open (c : Dev nD) : (dats m ρ 0 c).owesAt () t₀.castSucc ⊢ owesX (F := F) c (O₀ c) := by
  unfold Dat.owesAt Pipeline.owesWithin owesX
  rw [show (dats m ρ 0 c).owed t₀.castSucc = O₀ c from rfl]
  iintro ⟨%W, %hW, HO⟩
  iexists W; iexact HO

theorem owes_shut (c : Dev nD) : owesX (F := F) c 0 ⊢ (dats m ρ 0 c).owesAt () t₀.succ := by
  unfold Dat.owesAt Pipeline.owesWithin owesX
  rw [show (dats m ρ 0 c).owed t₀.succ = 0 from rfl]
  iintro ⟨%W, HO⟩
  iexists W
  isplitr; · ipureintro; exact fun _ _ => Or.inl trivial
  iexact HO

theorem body_whole (c : Dev nD) : bodyPre m ρ c ⊢ WP c (bodyP (F := F)) (fun _ => bodyPost m ρ c) := by
  unfold bodyPre Φ₀ start
  iintro ⟨⟨⟨⟨%K, Hrec⟩, Hp, Ht, Hc, Ha⟩, Hs⟩, Ho, ⟨%d, Hout⟩⟩
  ihave Ho := (owes_open m ρ c) $$ Ho
  unfold stg
  icases Hout with ⟨%f, -, Hout⟩
  iapply (wp_body m K (fun _ => bodyPost m ρ c) c) $$ [Hrec Hp Ht Hc Ha Hs Ho Hout]
  · isplitl [Hrec]; · iexact Hrec
    unfold bodyIn
    isplitl [Hp]; · iexact Hp
    isplitl [Ht]; · iexact Ht
    isplitl [Hc]; · iexact Hc
    isplitl [Ha]; · iexact Ha
    isplitl [Hs]; · iexact Hs
    isplitl [Hout]; · iexists f; iexact Hout
    iexact Ho
  unfold bodyOut bodyPost Φ₁ stg
  iintro ⟨Hb, Hk, Ha, Hs, Hr, Ho⟩
  isplitl [Hb Hk Ha Hs]
  · isplitl [Hb]; · iexact Hb
    isplitl [Hk]; · iexact Hk
    isplitl [Ha]; · iexact Ha
    iexact Hs
  isplitl [Ho]; · iapply (owes_shut m ρ c); iexact Ho
  iexists (resF m c)
  isplitr; · ipureintro; rfl
  iexact Hr

/-- The body does what the call asks of it. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_whole m ρ c

end Cert.Chain
-- ==== Proof.Deal.lean ====
/-
What the launch makes and deals: the protocol's cells, the rights to pay, and the credit of what the devices owe.
-/
module

public import proofs.«01_k».proof.Proof.Region

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The neighbours, as permutations of the devices -/

def rtE : Dev nD ≃ Dev nD := ⟨rt, lf, lf_rt, rt_lf⟩
def lfE : Dev nD ≃ Dev nD := ⟨lf, rt, rt_lf, lf_rt⟩
def xpE : Dev nD ≃ Dev nD := ⟨xp, xp, xp_xp, xp_xp⟩

/-- The device that waits on the semaphore `k`, of the device that pays it. -/
def dstE : KX → (Dev nD ≃ Dev nD)
  | .inl _ => Equiv.refl _
  | .inr (1, _) => rtE
  | .inr (3, _) => lfE
  | .inr (5, _) => xpE
  | .inr _ => Equiv.refl _

theorem dstE_eq (k : KX) (c : Dev nD) : dstE k c = dst c k := by
  rcases k with i | ⟨j, b⟩
  · rfl
  · fin_cases j <;> rfl

/-! ## The cells and the rights to pay -/

theorem dmaIx_injective : Function.Injective dmaIx := fun k k' h => by rw [← dec_dmaIx k, ← dec_dmaIx k', h]

theorem csem_injective : Function.Injective csem := by
  rintro (u | k) (u' | k') h
  · rfl
  · exact absurd h (by simp [csem])
  · exact absurd h (by simp [csem])
  · exact congrArg Sum.inr (dmaIx_injective (SemLoc.dma.inj h))

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

def ownCells : Finset (GSem nD τ sig) := Finset.univ.map ⟨kcell, kcell_injective⟩

/-- A device's own cells' duties: three of the barrier's, one of every own semaphore's. -/
abbrev tokOf (cj : Dev nD × (Fin 3 ⊕ KX)) : GSem nD τ sig × ℕ × Fin 3 := match cj.2 with
  | .inl d => (bar cj.1, 0, d)
  | .inr k => (cel cj.1 k, 0, 0)

theorem tokOf_injective : Function.Injective tokOf := by
  rintro ⟨c, j⟩ ⟨c', j'⟩ h
  have h1 : c = c' := by
    have := congrArg (fun x : GSem nD τ sig × ℕ × Fin 3 => x.1.1.1) h
    rcases j with d | k <;> rcases j' with d' | k' <;> exact this
  subst h1
  have h2 := congrArg (fun x : GSem nD τ sig × ℕ × Fin 3 => x.1.2) h
  have h3 := congrArg (fun x : GSem nD τ sig × ℕ × Fin 3 => x.2.2) h
  rcases j with d | k <;> rcases j' with d' | k'
  · have h3 : d = d' := h3
    rw [h3]
  · exact absurd h2 (fun h' => by cases h')
  · exact absurd h2 (fun h' => by cases h')
  · have h2 : k = k' := dmaIx_injective (SemLoc.dma.inj h2)
    rw [h2]

def ownToks : Finset (GSem nD τ sig × ℕ × Fin 3) := Finset.univ.map ⟨tokOf, tokOf_injective⟩

def u₀ : UU :=
  (initOf (Pipeline.cells cfgs cellOf_inj) (Pipeline.launchToks cfgs cellOf_inj), initOf ownCells ownToks)

/-- The rights to pay device `c`'s own cells. -/
def toks (c : Dev nD) : sProp 𝕄 :=
  iprop((dutyTok ER (bar c) 0 0 ∗ dutyTok ER (bar c) 0 1 ∗ dutyTok ER (bar c) 0 2) ∗ bigSep Finset.univ fun k => dutyTok ER (cel c k) 0 0)

/-- What device `c` is dealt of the protocol. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks (F := F) c)

/-- All the cells, under names. -/
def invsAll (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance invsAll_persistent (K : Dev nD × CI → ℕ) : BI.Persistent (invsAll m K) := by unfold invsAll; infer_instance

/-- What device `c` has of the protocol when every cell is up. -/
def G' (c : Dev nD) : sProp 𝕄 := iprop((∃ K, invsAll m K) ∗ poss (F := F) c ∗ payToks (F := F) c)

theorem bigSep_CI (Φ : CI → sProp 𝕄) : bigSep Finset.univ Φ = iprop(Φ (.inl ()) ∗ bigSep Finset.univ fun k : KX => Φ (.inr k)) := by
  rw [BI.bigSep_univ_sum]
  have h : (bigSep Finset.univ fun u : Unit => Φ (.inl u)) = Φ (.inl ()) := by
    rw [show (Finset.univ : Finset Unit) = {()} from rfl, BI.bigSep_singleton]
  rw [h]; rfl

theorem toks_eq (c : Dev nD) :
    (bigSep Finset.univ fun j : Fin 3 ⊕ KX => (dutyTok ER (tokOf (c, j)).1 (tokOf (c, j)).2.1 (tokOf (c, j)).2.2 : sProp 𝕄)) = toks (F := F) c := by
  rw [BI.bigSep_univ_sum]
  unfold toks
  have h : (bigSep Finset.univ fun d : Fin 3 => (dutyTok ER (bar c) 0 d : sProp 𝕄))
      = iprop(dutyTok ER (bar c) 0 0 ∗ dutyTok ER (bar c) 0 1 ∗ dutyTok ER (bar c) 0 2) :=
    bigSep_univ_eq_bigSepL [0, 1, 2] (by decide) (by decide) _
  rw [← h]; rfl

theorem fund_own : BI.own (ER (initOf ownCells ownToks)) ⊢ (|==> bigSep Finset.univ (G m) : sProp 𝕄) := by
  have hX (Φ : GSem nD τ sig → sProp 𝕄) : bigSep ownCells Φ = bigSep Finset.univ fun c : Dev nD => bigSep Finset.univ fun k : CI => Φ (kcell (c, k)) := by
    unfold ownCells; rw [BI.bigSep_map, BI.bigSep_univ_prod]; rfl
  have hT : bigSep ownToks (fun x => (dutyTok ER x.1 x.2.1 x.2.2 : sProp 𝕄)) = bigSep Finset.univ fun c : Dev nD => toks (F := F) c := by
    unfold ownToks; rw [BI.bigSep_map, BI.bigSep_univ_prod]
    exact BI.bigSep_congr fun c _ => toks_eq c
  iintro HX
  imod (Rounds.fund ER (Rd m) ownCells ownToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [BI.bigSep_sep']
  isplitl [Hst']; · iexact Hst'
  isplitl [Hat' Hr']
  · isplitl [Hat'] <;> iassumption
  iexact Htok'

/-! ## The cells come up -/

theorem unscopedSems0_eq (c : Dev nD) : (unscopedSems0 c : sProp 𝕄) = semVal (bar c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun k => semVal (cel c k) 0 := rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  rw [unscopedSems0_eq, ownSems0_eq]
  unfold G
  iintro ⟨Hos, Hus, Hst, Hat, Htok⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← BI.bigSep_sep']
        exact (BI.bigSep_mono fun k _ => (Rounds.body_intro ER (Rd m) (kcell (c, k))).trans inv_alloc).trans (bigSep_fupd _ _)) $$ [Hos Hus Hst] with Hinv
  · isplitl [Hos Hus]
    · rw [bigSep_CI]
      isplitl [Hus]; · iexact Hus
      iexact Hos
    · iexact Hst
  imodintro
  isplitl [Hinv]; · iexact Hinv
  isplitl [Hat]; · iexact Hat
  iexact Htok

/-- A family of single rights, each handed to the device that pays it. -/
theorem deal (e : Dev nD ≃ Dev nD) (Φ : Dev nD → sProp 𝕄) : bigSep Finset.univ Φ ⊢ bigSep Finset.univ fun c => Φ (e c) :=
  Entails.of_eq (BI.bigSep_univ_equiv e Φ)

theorem deal_own : (bigSep Finset.univ fun c : Dev nD => bigSep Finset.univ fun k : KX => (dutyTok ER (cel c k) 0 0 : sProp 𝕄))
    ⊢ bigSep Finset.univ fun c : Dev nD => bigSep Finset.univ fun k : KX => dutyTok ER (cel (dst c k) k) 0 0 := by
  rw [BI.bigSep_univ_comm, BI.bigSep_univ_comm (fun (c : Dev nD) (k : KX) => (dutyTok ER (cel (dst c k) k) 0 0 : sProp 𝕄))]
  refine BI.bigSep_mono fun k _ => ?_
  have h := deal (F := F) (dstE k) (fun c => dutyTok ER (cel c k) 0 0)
  simp only [dstE_eq] at h
  exact h

/-- The rights to pay, handed to the devices that pay. -/
theorem toks_around : (bigSep Finset.univ fun c : Dev nD => (toks (F := F) c : sProp 𝕄)) ⊢ bigSep Finset.univ fun c : Dev nD => payToks (F := F) c := by
  unfold toks payToks
  rw [BI.bigSep_sep', BI.bigSep_sep', BI.bigSep_sep', BI.bigSep_sep', BI.bigSep_sep', BI.bigSep_sep']
  iintro ⟨⟨H0, H1, H2⟩, Hk⟩
  isplitl [H0 H1 H2]
  · isplitl [H0]; · iapply (deal (F := F) rtE (fun c => dutyTok ER (bar c) 0 0)); iexact H0
    isplitl [H1]; · iapply (deal (F := F) lfE (fun c => dutyTok ER (bar c) 0 1)); iexact H1
    iapply (deal (F := F) xpE (fun c => dutyTok ER (bar c) 0 2)); iexact H2
  iapply (deal_own (F := F)); iexact Hk

theorem poss_all : (bigSep Finset.univ fun c : Dev nD => bigSep Finset.univ fun k : CI => (atPos ER (kcell (c, k)) 0 ∅ 0 : sProp 𝕄))
    = bigSep Finset.univ fun c : Dev nD => poss (F := F) c :=
  BI.bigSep_congr fun c _ => by rw [bigSep_CI]; rfl

theorem share_out (K : Dev nD × CI → ℕ) (c : Dev nD) : iprop(invsAll m K ∗ (poss (F := F) c ∗ payToks (F := F) c)) ⊢ G' m c := by
  unfold G'
  iintro ⟨H, Hp, Ht⟩
  isplitl [H]; · iexists K; iexact H
  isplitl [Hp]; · iexact Hp
  iexact Ht

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [BI.bigSep_sep', BI.bigSep_sep', ← BI.bigSep_univ_prod (fun ck : Dev nD × CI => iprop(∃ κ : ℕ, cellInv ER (Rd m) κ (kcell ck))),
    BI.bigSep_congr (s := Finset.univ) (fun (c : Dev nD) _ => BI.bigSep_sep' Finset.univ (fun k : CI => (atPos ER (kcell (c, k)) 0 ∅ 0 : sProp 𝕄)) (fun k => reached ER (kcell (c, k)) 0)),
    BI.bigSep_sep', ← BI.bigSep_univ_prod (fun ck : Dev nD × CI => (reached ER (kcell ck) 0 : sProp 𝕄)), poss_all]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (family_with (R := invsAll m K) (fun c => iprop(poss (F := F) c ∗ payToks (F := F) c)) (G' m) (fun c => share_out m K c))
  isplitr
  · unfold invsAll; isplitl; · iexact HI
    iexact HR
  · rw [BI.bigSep_sep']
    isplitl [Hat]; · iexact Hat
    iexact Htk

/-- The cells of all devices come up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## The credit -/

theorem dA_dB (d : Dev nD) (b : Fin 32) : dA d b + dB d b = (dPre d b + dSuf d b) + dOut d b := by
  unfold dA dB
  by_cases h : yN d < 2
  · rw [if_pos h, if_pos h, add_assoc]
  · rw [if_neg h, if_neg h, ← add_assoc, add_comm (dSuf d b)]

theorem rem_zero (f : Fin 32 → CellTallies nD τ sig Unit) : rem f 0 = ∑ b, f b := by
  unfold rem; rw [Finset.filter_true_of_mem fun b _ => Nat.zero_le _]

theorem debt_zero (d : Dev nD) : debt d 0 0 = ((∑ b, dPre d b) + ∑ b, dSuf d b) + ∑ b, dOut d b := by
  unfold debt
  rw [rem_zero, rem_zero, ← Finset.sum_add_distrib, ← Finset.sum_add_distrib, ← Finset.sum_add_distrib]
  exact Finset.sum_congr rfl fun b _ => dA_dB d b

/-- What the devices owe a cell, each its own neighbour's, is the waiting device's credit. -/
theorem cred_around (e : Dev nD ≃ Dev nD) (D T : Dev nD → CellTallies nD τ sig Unit) (hD : ∀ d, D d = T (e d))
    (hT : ∀ d g, T d g ≠ 0 → g.1 = (d.tc : Thread nD τ)) (c : Dev nD) :
    (Pipeline.launchCred D c : sProp 𝕄) = cred (T c) :=
  Pipeline.launchCred_of_sum D T (by rw [← Equiv.sum_comp e T]; exact Finset.sum_congr rfl fun d _ => hD d) hT c

theorem tally_on (d : Dev nD) (sm : SemLoc sig) (n : ℕ) (g : GSem nD τ sig) (h : (tallyAt ((d : Thread nD τ), sm) () n : CellTallies nD τ sig Unit) g ≠ 0) :
    g.1 = (d.tc : Thread nD τ) := by
  by_contra hne
  exact h (tallyAt_ne_cell (fun h' => hne (congrArg Prod.fst h')) () n)

theorem cred_pre (b : Fin 32) (c : Dev nD) : (Pipeline.launchCred (fun d => dPre d b) c : sProp 𝕄)
    = cred (if 0 < yN c then tallyAt (cel c (.inr (1, b))) () N else 0) :=
  cred_around rtE _ (fun c => if 0 < yN c then tallyAt (cel c (.inr (1, b))) () N else 0)
    (fun d => by
      show dPre d b = if 0 < yN (rt d) then tallyAt (cel (rt d) (.inr (1, b))) () N else 0
      unfold dPre
      by_cases h : yN d < 3
      · rw [if_pos h, if_pos ((yN_rt_pos d).mpr h)]
      · rw [if_neg h, if_neg fun h' => h ((yN_rt_pos d).mp h')])
    (fun d g h => by
      by_cases h0 : 0 < yN d
      · simp only [if_pos h0] at h; exact tally_on _ _ _ _ h
      · simp only [if_neg h0] at h; exact absurd rfl h) c

theorem cred_suf (b : Fin 32) (c : Dev nD) : (Pipeline.launchCred (fun d => dSuf d b) c : sProp 𝕄)
    = cred (if yN c < 3 then tallyAt (cel c (.inr (3, b))) () N else 0) :=
  cred_around lfE _ (fun c => if yN c < 3 then tallyAt (cel c (.inr (3, b))) () N else 0)
    (fun d => by
      show dSuf d b = if yN (lf d) < 3 then tallyAt (cel (lf d) (.inr (3, b))) () N else 0
      unfold dSuf
      by_cases h : 0 < yN d
      · rw [if_pos h, if_pos ((yN_lf_lt d).mpr h)]
      · rw [if_neg h, if_neg fun h' => h ((yN_lf_lt d).mp h')])
    (fun d g h => by
      by_cases h0 : yN d < 3
      · simp only [if_pos h0] at h; exact tally_on _ _ _ _ h
      · simp only [if_neg h0] at h; exact absurd rfl h) c

theorem cred_out (b : Fin 32) (c : Dev nD) : (Pipeline.launchCred (fun d => dOut d b) c : sProp 𝕄)
    = cred (tallyAt (cel c (.inr (5, b))) () N) :=
  cred_around xpE _ (fun c => tallyAt (cel c (.inr (5, b))) () N) (fun d => rfl) (fun d g h => tally_on _ _ _ _ h) c

theorem cred_bar (e : Dev nD ≃ Dev nD) (c : Dev nD) : (Pipeline.launchCred (fun d => tallyAt (bar (e d)) () 1) c : sProp 𝕄)
    = cred (tallyAt (bar c) () 1) :=
  cred_around e _ (fun c => tallyAt (bar c) () 1) (fun d => rfl) (fun d g h => tally_on _ _ _ _ h) c

theorem cred_debt (c : Dev nD) : (Pipeline.launchCred (fun d => debt d 0 0) c : sProp 𝕄)
    ⊢ iprop((bigSep Finset.univ fun b : Fin 32 => cred (if 0 < yN c then tallyAt (cel c (.inr (1, b))) () N else 0))
      ∗ (bigSep Finset.univ fun b : Fin 32 => cred (if yN c < 3 then tallyAt (cel c (.inr (3, b))) () N else 0))
      ∗ (bigSep Finset.univ fun b : Fin 32 => cred (tallyAt (cel c (.inr (5, b))) () N))) := by
  rw [show (fun d : Dev nD => debt d 0 0) = fun d => ((∑ b, dPre d b) + ∑ b, dSuf d b) + ∑ b, dOut d b from funext debt_zero]
  rw [Pipeline.launchCred_add (fun d => (∑ b, dPre d b) + ∑ b, dSuf d b) (fun d => ∑ b, dOut d b) c,
    Pipeline.launchCred_add (fun d => ∑ b, dPre d b) (fun d => ∑ b, dSuf d b) c,
    Pipeline.launchCred_sum Finset.univ (fun b d => dPre d b) c, Pipeline.launchCred_sum Finset.univ (fun b d => dSuf d b) c,
    Pipeline.launchCred_sum Finset.univ (fun b d => dOut d b) c]
  simp only [cred_pre, cred_suf, cred_out]
  iintro ⟨⟨H1, H2⟩, H3⟩
  isplitl [H1]; · iexact H1
  isplitl [H2]; · iexact H2
  iexact H3

theorem three_units (c : Dev nD) : iprop(cred (tallyAt (bar c) () 1) ∗ cred (tallyAt (bar c) () 1) ∗ cred (tallyAt (bar c) () 1))
    ⊢ (cred (tallyAt (bar c) () 3) : sProp 𝕄) := by
  rw [show (tallyAt (bar c) () 3 : CellTallies nD τ sig Unit) = tallyAt (bar c) () 1 + (tallyAt (bar c) () 1 + tallyAt (bar c) () 1) from by
    rw [tallyAt_add, tallyAt_add]]
  exact (sep_mono_right (cred_add _ _).2).trans (cred_add _ _).2

/-- The credit the launch deals. -/
theorem creds_intro (c : Dev nD) : (Pipeline.launchCred O₀ c : sProp 𝕄) ⊢ creds (F := F) c := by
  unfold creds
  rw [show (O₀ : Dev nD → CellTallies nD τ sig Unit) = fun d => O₁ d + tallyAt (bar (rtE d)) () 1 from rfl,
    Pipeline.launchCred_add O₁ (fun d => tallyAt (bar (rtE d)) () 1) c,
    show (O₁ : Dev nD → CellTallies nD τ sig Unit) = fun d => O₂ d + tallyAt (bar (lfE d)) () 1 from rfl,
    Pipeline.launchCred_add O₂ (fun d => tallyAt (bar (lfE d)) () 1) c,
    show (O₂ : Dev nD → CellTallies nD τ sig Unit) = fun d => debt d 0 0 + tallyAt (bar (xpE d)) () 1 from rfl,
    Pipeline.launchCred_add (fun d => debt d 0 0) (fun d => tallyAt (bar (xpE d)) () 1) c, cred_bar, cred_bar, cred_bar]
  iintro ⟨⟨⟨Hd, H1⟩, H2⟩, H3⟩
  isplitl [H1 H2 H3]
  · iapply (three_units (F := F) c)
    isplitl [H1]; · iexact H1
    isplitl [H2] <;> iassumption
  iapply (cred_debt (F := F) c); iexact Hd

end Cert.Chain
-- ==== Proof.Run.lean ====
/-
The run: every execution ends with the result of `resF` on every device, the arguments as they were and every
semaphore at zero, over any floats.
-/
module

public import proofs.«01_k».proof.Proof.Deal
public import Idealize.ShloMosaic.Lib.Pipeline.ValueKit
public import Idealize.ShloMosaic.Lib.Pipeline.CollectiveSegs

@[expose] public section

set_option maxRecDepth 16384

noncomputable section

namespace Cert.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start args records invsAll
  iintro ⟨Ha, Hlev, Hcr, -, ⟨%K, HI, HR⟩, Hp, Ht⟩
  ihave Hc := (creds_intro (F := F) c) $$ Hcr
  imodintro
  isplitl
  · isplitl [HI HR Hlev]
    · iexists K
      isplitl [HI]; · iexact HI
      isplitl [HR] <;> iassumption
    isplitl [Hp]; · iexact Hp
    isplitl [Ht]; · iexact Ht
    isplitl [Hc]; · iexact Hc
    iexact Ha
  · iempintro

theorem scratch_eq (c : Dev nD) : (Pipeline.scopedRest (Ix := Unit) (Name := ℕ) (U := UU) (Lvl := ℕ) (Val := Elt F) cfg0.spec c : sProp 𝕄) = scratch (F := F) c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scratch_eq, ownSems0_eq, unscopedSems0_eq]
  unfold Φ₁
  iintro ⟨Hb, Hk, Ha, Hs⟩
  isplitl [Hb Ha]
  · isplitl [Hb] <;> iassumption
  isplitl [Hk] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; rfl) _ (by
      rcases t with ⟨_ | _, ht⟩
      · exact Or.inl rfl
      · exact Or.inr rfl)

/-! ## Reading the end -/

/-- A device's barrier semaphore is at zero and its arguments are what they were. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem read_end (c : Dev nD) (s' : Phys nD τ sig (Elt F)) :
    iprop((unscopedSems0 c ∗ args m c) ∗ emp ∗ SI s') ⊢ (|={Set.univ}=> iprop(⌜QY m c s'.mem⌝ ∗ SI s') : sProp 𝕄) := by
  unfold args
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ h0, Buf.eq_of_forall_mem_univ h1⟩
  iexact HSI

/-- The result array after the run is what was staged. -/
theorem result_eq (c : Dev nD) :
    (dats m ρ 0 c).arrAt (0 : Fin 1) cfg0.N = (resF m c : Buf (Elt F) ((c : Thread nD τ).loc main_v1)) :=
  (dats m ρ 0 c).arrAt_eq_of_after_last (0 : Fin 1) t₀ (by decide +kernel) _ fun j => rfl

/-- What the run ends in. -/
def Post (r : PUnit × MemSt nD τ sig (Elt F)) : Prop :=
  (∀ c : Dev nD, r.2.mem ((c : Thread nD τ).loc main_v1) = resF m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
/-- Every weakly fair execution from zero semaphores ends, with each device's result at `resF`, its arguments unchanged
    and every semaphore at zero. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m) (hY := read_end m)
    (hQ := fun _ h hs => ⟨fun c => ⟨((h c).1 (0 : Fin 1)).trans (result_eq m ρ c), (h c).2.2.2⟩, sem_eq_zero hs fun c => (h c).2.2.1⟩)

end Cert.Chain
-- ==== Proof.Values.lean ====
/-
The values of one device, over the extended reals.

An array is read at natural-number coordinates (`at2`, zero outside the array). Read so, a device's
product for a block of 16 rows is the sum, over the device's own 4096 columns, of the entries of `dy`
times the entries of `W`: the kernel takes the columns in two halves of 2048, and the two sums are
joined here.
-/
module

public import proofs.«01_k».proof.Proof.Pieces
public import Idealize.ShloMosaic.Lib.MatmulPlain
public import Idealize.ShloMosaic.Lib.Pipeline.Value

@[expose] public section

set_option maxRecDepth 16384

noncomputable section

namespace Cert.Chain

open Cert.KernelIdeal Cert.KernelIdeal.Gen
open Idealize.ShloMosaic
open Idealize.ShloMosaic.TcCoe
open Idealize.ShloMosaic.ValueIdx
open scoped BigOperators

/-! ## Reading an array at natural-number coordinates -/

/-- The entry of row `r` and column `k`; zero outside the array. -/
def at2 {a b : ℕ} (v : (⟨2, ![a, b]⟩ : Shape).Idx → EReal) (r k : ℕ) : EReal :=
  if h : r < a ∧ k < b then v (ix2 ⟨r, h.1⟩ ⟨k, h.2⟩) else 0

theorem at2_lt {a b : ℕ} (v : (⟨2, ![a, b]⟩ : Shape).Idx → EReal) {r k : ℕ} (hr : r < a) (hk : k < b) :
    at2 v r k = v (ix2 ⟨r, hr⟩ ⟨k, hk⟩) := dif_pos ⟨hr, hk⟩

/-- An entry is the reading at its coordinates. -/
theorem at2_of {a b : ℕ} (v : (⟨2, ![a, b]⟩ : Shape).Idx → EReal) (i : (⟨2, ![a, b]⟩ : Shape).Idx) {r k : ℕ}
    (hr : (i 0).val = r) (hk : (i 1).val = k) : v i = at2 v r k := by
  subst hr hk
  rw [at2_lt v (idx2_lt0 i) (idx2_lt1 i)]
  exact congrArg v (eq_ix2 i)

/-! ## The sum of two halves -/

/-- A sum over 2048 and a sum over the next 2048 are one sum over 4096. -/
theorem sum_join (f : ℕ → EReal) (n p : ℕ) :
    (∑ k : Fin n, f k.val) + (∑ k : Fin p, f (n + k.val)) = ∑ k ∈ Finset.range (n + p), f k := by
  rw [Finset.sum_range_add, Finset.sum_range, Finset.sum_range]

variable (m : (ℓ : Loc nD τ sig) → Buf (Elt Ideal) ℓ)

/-- The device's part of `dy`, and its part of `W`. -/
def dyArr (c : Dev nD) : S1024x4096.Idx → EReal := m ((c : Thread nD τ).loc main_arg0)
def wArr (c : Dev nD) : S1024x4096.Idx → EReal := m ((c : Thread nD τ).loc main_arg1)

/-- The rows `h` of this device's half of `dy`. -/
theorem dyV_at (c : Dev nD) (h : Fin 2) (i : S256x4096.Idx) :
    dyV (F := Ideal) m c h i = at2 (dyArr m c) (512 * xN c + 256 * h.val + (i 0).val) (i 1).val := by
  fin_cases h
  · have e : dyV (F := Ideal) m c 0 i = dyArr m c ((Rect.unit (s := S1024x4096) (k0_off1 c) S256x4096.size (k0_off1_inb c)).emb i) := rfl
    refine e.trans (at2_of _ _ ?_ ?_)
    · show k0_off1 c 0 + 1 * (i 0).val = 512 * xN c + 256 * 0 + (i 0).val
      rw [off1_eq]; show 512 * xN c + 1 * (i 0).val = _; omega
    · show k0_off1 c 1 + 1 * (i 1).val = (i 1).val
      rw [off1_eq]; show 0 + 1 * (i 1).val = _; omega
  · have e : dyV (F := Ideal) m c 1 i = dyArr m c ((Rect.unit (s := S1024x4096) (k0_off2 c) S256x4096.size (k0_off2_inb c)).emb i) := rfl
    refine e.trans (at2_of _ _ ?_ ?_)
    · show k0_off2 c 0 + 1 * (i 0).val = 512 * xN c + 256 * 1 + (i 0).val
      rw [off2_eq]; show 512 * xN c + 256 + 1 * (i 0).val = _; omega
    · show k0_off2 c 1 + 1 * (i 1).val = (i 1).val
      rw [off2_eq]; show 0 + 1 * (i 1).val = _; omega

/-- The columns `k` of those rows. -/
theorem dyQ_at (c : Dev nD) (h k : Fin 2) (i : S256x2048.Idx) :
    dyQ (F := Ideal) m c h k i = at2 (dyArr m c) (512 * xN c + 256 * h.val + (i 0).val) (2048 * k.val + (i 1).val) := by
  unfold dyQ
  rw [dyV_at]
  have e0 : (((Rect.unit (s := S256x4096) ![0, 2048 * k.val] S256x2048.size (inbQ k)).emb i) 0).val = (i 0).val := by
    show 0 + 1 * (i 0).val = _; omega
  have e1 : (((Rect.unit (s := S256x4096) ![0, 2048 * k.val] S256x2048.size (inbQ k)).emb i) 1).val = 2048 * k.val + (i 1).val := by
    show 2048 * k.val + 1 * (i 1).val = _; omega
  rw [e0, e1]

/-- The columns `k` of the weights. -/
theorem wV_at (c : Dev nD) (k : Fin 2) (i : S1024x2048.Idx) :
    wV (F := Ideal) m c k i = at2 (wArr m c) (i 0).val (2048 * k.val + (i 1).val) := by
  fin_cases k
  · have e : wV (F := Ideal) m c 0 i = wArr m c ((Rect.unit (s := S1024x4096) ![0, 0] S1024x2048.size inb_S1024x4096_S1024x2048_0_0).emb i) := rfl
    refine e.trans (at2_of _ _ ?_ ?_)
    · show 0 + 1 * (i 0).val = _; omega
    · show 0 + 1 * (i 1).val = 2048 * 0 + (i 1).val; omega
  · have e : wV (F := Ideal) m c 1 i = wArr m c ((Rect.unit (s := S1024x4096) ![0, 2048] S1024x2048.size inb_S1024x4096_S1024x2048_0_2048).emb i) := rfl
    refine e.trans (at2_of _ _ ?_ ?_)
    · show 0 + 1 * (i 0).val = _; omega
    · show 2048 + 1 * (i 1).val = 2048 * 1 + (i 1).val; omega

/-! ## The two payloads of the product -/

/-- The product of 256 rows by half of the weights, read at an index. -/
theorem dot_at (v : FVec Ideal S256x2048 .f32) (w : FVec Ideal S1024x2048 .f32) (r : Fin 256) (n : Fin 1024) :
    matmul dot_S256x2048_S1024x2048_S256x1024_1_1_0_0_n_n none v w (constant S256x1024 .f32 0x00000000#32) (ix2 r n)
      = ∑ k : Fin 2048, v (ix2 r k) * w (ix2 n k) := by
  have e := Ideal.matmul_transposedRhs_apply (M := 256) (K := 2048) (N := 1024) none v w (constant S256x1024 .f32 0x00000000#32) r n
  refine Eq.trans ?_ (e.trans ?_)
  · rfl
  · show Ideal.ofBits .f32 0x00000000#32 + _ = _
    rw [Ideal.ofBits_zero_f32, zero_add]

theorem pay337_at (v : FVec Ideal S256x2048 .f32) (w : FVec Ideal S1024x2048 .f32) (r : Fin 256) (n : Fin 1024) :
    k0_pay337 v w (ix2 r n) = ∑ k : Fin 2048, v (ix2 r k) * w (ix2 n k) := by
  unfold k0_pay337
  exact (congrFun (shapeCast_self _ _) _).trans (dot_at v w r n)

theorem pay338_at (a : FVec Ideal S256x1024 .f32) (v : FVec Ideal S256x2048 .f32) (w : FVec Ideal S1024x2048 .f32) (r : Fin 256) (n : Fin 1024) :
    k0_pay338 a v w (ix2 r n) = a (ix2 r n) + ∑ k : Fin 2048, v (ix2 r k) * w (ix2 n k) := by
  unfold k0_pay338
  refine (congrFun (shapeCast_self _ _) _).trans ?_
  exact congrArg (a (ix2 r n) + ·) (dot_at v w r n)

/-! ## A device's product -/

/-- The product for 256 rows, read at an index: the sum over the device's 4096 columns. -/
theorem accH_at (c : Dev nD) (h : Fin 2) (i : S256x1024.Idx) :
    accH (F := Ideal) m c h i
      = ∑ k ∈ Finset.range 4096, at2 (dyArr m c) (512 * xN c + 256 * h.val + (i 0).val) k * at2 (wArr m c) (i 1).val k := by
  obtain ⟨r, n, rfl⟩ : ∃ (r : Fin 256) (n : Fin 1024), i = ix2 r n := ⟨i 0, i 1, eq_ix2 i⟩
  unfold accH
  rw [pay338_at, pay337_at]
  have e0 : ∀ k : Fin 2048, dyQ (F := Ideal) m c h 0 (ix2 r k) * wV (F := Ideal) m c 0 (ix2 n k)
      = at2 (dyArr m c) (512 * xN c + 256 * h.val + r.val) k.val * at2 (wArr m c) n.val k.val := fun k => by
    rw [dyQ_at, wV_at]
    show at2 _ _ (2048 * 0 + k.val) * at2 _ _ (2048 * 0 + k.val) = _
    rw [show 2048 * 0 + k.val = k.val by omega]
  have e1 : ∀ k : Fin 2048, dyQ (F := Ideal) m c h 1 (ix2 r k) * wV (F := Ideal) m c 1 (ix2 n k)
      = at2 (dyArr m c) (512 * xN c + 256 * h.val + r.val) (2048 + k.val) * at2 (wArr m c) n.val (2048 + k.val) := fun k => by
    rw [dyQ_at, wV_at]
    rfl
  rw [Finset.sum_congr rfl fun k _ => e0 k, Finset.sum_congr rfl fun k _ => e1 k]
  exact sum_join (fun k => at2 (dyArr m c) (512 * xN c + 256 * h.val + r.val) k * at2 (wArr m c) n.val k) 2048 2048

/-- The product for block `b`, read at an index. -/
theorem accV_at (c : Dev nD) (b : Fin 32) (j : S16x1024.Idx) :
    accV (F := Ideal) m c b j
      = ∑ k ∈ Finset.range 4096, at2 (dyArr m c) (512 * xN c + 16 * b.val + (j 0).val) k * at2 (wArr m c) (j 1).val k := by
  unfold accV
  rw [accH_at]
  have e0 : (((Rect.unit (s := S256x1024) ![16 * (b.val % 16), 0] S16x1024.size (inbH b)).emb j) 0).val = 16 * (b.val % 16) + (j 0).val := by
    show 16 * (b.val % 16) + 1 * (j 0).val = _; omega
  have e1 : (((Rect.unit (s := S256x1024) ![16 * (b.val % 16), 0] S16x1024.size (inbH b)).emb j) 1).val = (j 1).val := by
    show 0 + 1 * (j 1).val = _; omega
  rw [e0, e1]
  have hb := b.isLt
  have er : 512 * xN c + 256 * (if b.val < 16 then (0 : Fin 2) else 1).val + (16 * (b.val % 16) + (j 0).val)
      = 512 * xN c + 16 * b.val + (j 0).val := by
    by_cases h : b.val < 16
    · rw [if_pos h]; show 512 * xN c + 256 * 0 + _ = _; omega
    · rw [if_neg h]; show 512 * xN c + 256 * 1 + _ = _; omega
  rw [er]

end Cert.Chain
-- ==== Proof.Sums.lean ====
/-
The result, over the extended reals.

When every device holds its part of the whole `dy` and `W`, a device's product for a block is the part
of the whole product over its own 4096 columns, which its place on the line `y` names. A prefix sum is
the sum of the parts up to the device's place, a suffix sum the sum of the parts from its place on, so
every device of the line finishes the sum of all four parts: one sum over the 16384 columns. The two
halves of the rows come from the two devices of the axis `x`.
-/
module

public import proofs.«01_k».proof.Proof.Values
public import Idealize.ShloMosaic.Lib.Layout

@[expose] public section

set_option maxRecDepth 16384

noncomputable section

namespace Cert.Chain

open Cert.KernelIdeal Cert.KernelIdeal.Gen
open Idealize.ShloMosaic
open Idealize.ShloMosaic.TcCoe
open Idealize.ShloMosaic.ValueIdx
open scoped BigOperators

/-! ## The devices of a line hold the same rows -/

theorem xN_lf (c : Dev nD) : xN (lf c) = xN c := by revert c; decide
theorem xN_rt (c : Dev nD) : xN (rt c) = xN c := by revert c; decide

/-! ## Parts of the whole product -/

variable (D W : (⟨2, ![1024, 16384]⟩ : Shape).Idx → EReal)

/-- The term of column `k` in the entry of row `r` and column `n` of the product. -/
def term (r n k : ℕ) : EReal := at2 D r k * at2 W n k

/-- The part of that entry over the 4096 columns of place `y`. -/
def part (r n y : ℕ) : EReal := ∑ k ∈ Finset.range 4096, term D W r n (4096 * y + k)

/-- The parts of the first `q` places add up to the sum over their columns. -/
theorem sum_part (r n q : ℕ) : ∑ y ∈ Finset.range q, part D W r n y = ∑ k ∈ Finset.range (4096 * q), term D W r n k := by
  induction q with
  | zero => rfl
  | succ q ih => rw [Finset.sum_range_succ, ih, Nat.mul_succ, Finset.sum_range_add]; rfl

/-- The entry itself is the sum of the four parts. -/
theorem sum_four (r n : Fin 1024) :
    ∑ y ∈ Finset.range 4, part D W r.val n.val y = ∑ k : Fin 16384, D (ix2 r k) * W (ix2 n k) := by
  rw [sum_part, show 4096 * 4 = 16384 by omega, Finset.sum_range]
  refine Finset.sum_congr rfl fun k _ => ?_
  unfold term
  rw [at2_lt D r.isLt k.isLt, at2_lt W n.isLt k.isLt]

variable (m : (ℓ : Loc nD τ sig) → Buf (Elt Ideal) ℓ)

/-- Every device holds its part of the whole `dy` and `W`. -/
def Holds : Prop := ∀ c : Dev nD,
  dyArr m c = Layout.blockN ⟨2, ![1024, 4096]⟩ ⟨2, ![1024, 16384]⟩ (Layout.meshBlock [2, 4, 4] ![[], [1]] c) D
  ∧ wArr m c = Layout.blockN ⟨2, ![1024, 4096]⟩ ⟨2, ![1024, 16384]⟩ (Layout.meshBlock [2, 4, 4] ![[], [1]] c) W

/-- The device's place on the line `y` is the number of its block. -/
theorem block_place (c : Dev nD) : Layout.meshLin [2, 4, 4] c.val [1] = yN c := by revert c; decide

/-- The entry of a block at a column is the whole array's entry at the block's column. -/
theorem block_at (c : Dev nD) (V : (⟨2, ![1024, 16384]⟩ : Shape).Idx → EReal) (r k : ℕ) (hk : k < 4096) :
    at2 (Layout.blockN ⟨2, ![1024, 4096]⟩ ⟨2, ![1024, 16384]⟩ (Layout.meshBlock [2, 4, 4] ![[], [1]] c) V) r k
      = at2 V r (4096 * yN c + k) := by
  have hy := yN_lt c
  by_cases hr : r < 1024
  · rw [at2_lt _ hr hk, Layout.blockN_apply]
    refine at2_of V _ ?_ ?_
    · show 0 * 1024 + r = r
      omega
    · have e := block_place c
      show Layout.meshLin [2, 4, 4] c.val [1] * 4096 + k = _
      rw [e]; omega
  · unfold at2
    rw [dif_neg fun h => hr h.1, dif_neg fun h => hr h.1]

variable {D W} {m} (H : Holds D W m)
include H

/-- A device's product for a block is its part of the whole product. -/
theorem accV_part (c : Dev nD) (b : Fin 32) (j : S16x1024.Idx) :
    accV (F := Ideal) m c b j = part D W (512 * xN c + 16 * b.val + (j 0).val) (j 1).val (yN c) := by
  rw [accV_at]
  refine Finset.sum_congr rfl fun k hk => ?_
  have hk' := Finset.mem_range.mp hk
  unfold term
  rw [(H c).1, (H c).2, block_at c D _ _ hk', block_at c W _ _ hk']

omit H in
/-- A stored block is the block. -/
theorem cpB_eq (v : FVec Ideal S16x1024 .f32) : cpB (F := Ideal) v = v := shapeCast_self _ _

omit H in
/-- The stored sum of two blocks, read at an index. -/
theorem addB_at (v w : FVec Ideal S16x1024 .f32) (j : S16x1024.Idx) : addB (F := Ideal) v w j = (v j + w j : EReal) := by
  unfold addB
  exact congrFun (shapeCast_self (addf v w) _) j

/-- A prefix sum is the sum of the parts up to the device's place. -/
theorem preV_part (n : ℕ) : ∀ (c : Dev nD) (b : Fin 32) (j : S16x1024.Idx), yN c = n →
    preV (F := Ideal) m c b j = ∑ y ∈ Finset.range (n + 1), part D W (512 * xN c + 16 * b.val + (j 0).val) (j 1).val y := by
  induction n with
  | zero =>
    intro c b j h
    rw [preV_zero m h, cpB_eq, accV_part H, h, Finset.sum_range_one]
  | succ n ih =>
    intro c b j h
    rw [preV_succ m (by omega : 0 < yN c), addB_at, ih (lf c) b j (by rw [yN_lf c (by omega)]; omega), accV_part H, h,
      Finset.sum_range_succ _ (n + 1), xN_lf]

/-- A suffix sum is the sum of the parts from the device's place on. -/
theorem sufV_part (n : ℕ) : ∀ (c : Dev nD) (b : Fin 32) (j : S16x1024.Idx), yN c + n = 3 →
    sufV (F := Ideal) m c b j = ∑ y ∈ Finset.Ico (yN c) 4, part D W (512 * xN c + 16 * b.val + (j 0).val) (j 1).val y := by
  induction n with
  | zero =>
    intro c b j h
    have h3 : yN c = 3 := by omega
    rw [sufV_last m h3, cpB_eq, accV_part H, h3]
    exact (Finset.sum_singleton _ _).symm
  | succ n ih =>
    intro c b j h
    have hlt : yN c < 3 := by omega
    rw [sufV_succ m hlt, addB_at, ih (rt c) b j (by rw [yN_rt c hlt]; omega), accV_part H, xN_rt, yN_rt c hlt,
      Finset.sum_eq_sum_Ico_succ_bot (show yN c < 4 by omega), add_comm]

/-- Every device of the line finishes the sum of all four parts. -/
theorem outV_part (c : Dev nD) (b : Fin 32) (j : S16x1024.Idx) :
    outV (F := Ideal) m c b j = ∑ y ∈ Finset.range 4, part D W (512 * xN c + 16 * b.val + (j 0).val) (j 1).val y := by
  have hy := yN_lt c
  unfold outV
  by_cases h : yN c < 3
  · rw [if_pos h]
    show (preV (F := Ideal) m c b j + sufV (F := Ideal) m (rt c) b j : EReal) = _
    rw [preV_part H (yN c) c b j rfl, sufV_part H (2 - yN c) (rt c) b j (by rw [yN_rt c h]; omega), xN_rt, yN_rt c h]
    exact Finset.sum_range_add_sum_Ico _ (by omega)
  · rw [if_neg h, preV_part H 3 c b j (by omega)]

/-- The result every device ends with, read at an index: the entry of the whole product. -/
theorem resF_at (c : Dev nD) (r n : Fin 1024) :
    (resF (F := Ideal) m c (ix2 r n) : EReal) = ∑ k : Fin 16384, D (ix2 r k) * W (ix2 n k) := by
  have hx := xN_lt c
  have hr := r.isLt
  have hd : xN (if (rowB (ix2 r n)).1 = xH c then c else xp c) = r.val / 512 := by
    by_cases h : (rowB (ix2 r n)).1 = xH c
    · rw [if_pos h]; exact (congrArg Fin.val h).symm
    · rw [if_neg h, xN_xp]
      have h' : r.val / 512 ≠ xN c := fun e => h (Fin.ext e)
      omega
  unfold resF
  rw [outV_part H, hd]
  have er : 512 * (r.val / 512) + 16 * (rowB (ix2 r n)).2.val + (rowJ (ix2 r n) 0).val = r.val := by
    show 512 * (r.val / 512) + 16 * (r.val % 512 / 16) + r.val % 16 = r.val
    omega
  rw [er]
  exact sum_four D W r n

end Cert.Chain
-- ==== Proof.Whole.lean ====
/-
The reference's result, and the value claim.

The reference transposes `W` and takes one product of the whole arrays. Read at an index it is the same
sum over the 16384 columns that every device of the kernel ends with, so the two runs end with the same
array.
-/
module

public import proofs.«01_k».proof.Defs
public import proofs.«01_k».proof.Proof.Run
public import proofs.«01_k».proof.Proof.Sums
public import proofs.«01_k».proof.Proof.Gen.ReferenceIdeal.Run
public import Idealize.ShloMosaic.Lib.StackMember

@[expose] public section

set_option maxRecDepth 16384

noncomputable section

namespace Cert.Whole

open Idealize.ShloMosaic Idealize.SL.Sem
open Idealize.ShloMosaic.ValueIdx
open Cert.ReferenceIdeal Cert.ReferenceIdeal.Gen
open scoped BigOperators

attribute [local instance] Cert.KernelIdeal.Gen.facts Cert.ReferenceIdeal.Gen.facts

/-- The reference's product. -/
def prod (D W : FVec Ideal S1024x16384 .f32) : FVec Ideal S1024x1024 .f32 :=
  Host.dotGeneral (F := Ideal) dot_S1024x16384_S16384x1024_S1024x1024_1_0_0_1_n_n none D
    (transpose S16384x1024 [1, 0] W transposes_S1024x16384_S16384x1024_1_0)

/-- The reference's product, read at an index. -/
theorem prod_at (D W : FVec Ideal S1024x16384 .f32) (r n : Fin 1024) :
    prod D W (ValueIdx.ix2 r n) = ∑ k : Fin 16384, (D (ValueIdx.ix2 r k) * W (ValueIdx.ix2 n k) : EReal) := by
  have e := StackMember.dotGeneral_plain_apply (m := 1024) (n := 1024) (k := 16384) none D
    (transpose S16384x1024 [1, 0] W transposes_S1024x16384_S16384x1024_1_0) r n
  refine Eq.trans ?_ (e.trans (Finset.sum_congr rfl fun k _ => ?_))
  · rfl
  · refine congrArg (D (ValueIdx.ix2 r k) * ·) ?_
    exact transpose_apply _ _ _ _ (ValueIdx.ix2 n k) fun b => by fin_cases b <;> rfl

/-- Every device of the kernel ends with the reference's product. -/
theorem resF_eq (m : (ℓ : Loc Cert.KernelIdeal.nD Cert.KernelIdeal.τ Cert.KernelIdeal.sig) → Buf (Elt Ideal) ℓ)
    (D W : FVec Ideal S1024x16384 .f32) (H : Cert.Chain.Holds D W m) (c : Dev Cert.KernelIdeal.nD) :
    Cert.Chain.resF (F := Ideal) m c = prod D W := by
  funext i
  obtain ⟨r, n, rfl⟩ : ∃ (r : Fin 1024) (n : Fin 1024), i = ValueIdx.ix2 r n := ⟨i 0, i 1, ValueIdx.eq_ix2 i⟩
  exact Eq.trans (Cert.Chain.resF_at H c r n) (prod_at D W r n).symm

/-- The kernel on the parts and the reference on the whole arrays end with the same result. -/
theorem algebraic : Cert.algebraic_KernelIdeal_ReferenceIdeal := by
  intro m g m' g' _ hagree
  refine ⟨prod (m' (((0 : Dev nD).tc : Thread nD τ).loc main_arg0)) (m' (((0 : Dev nD).tc : Thread nD τ).loc main_arg1)), ?_, ?_⟩
  · refine (θ_run Cert.KernelIdeal.defs _ _).mono (fun r h c => ?_) (Cert.Chain.run_main (F := Ideal) m g)
    exact ⟨(h.1 c).1.trans (resF_eq m _ _ hagree c), (h.1 c).2⟩
  · exact (θ_run defs _ _).mono (fun r h => h 0) (Cert.ReferenceIdeal.Value.run (F := Ideal) m' g')

/-- The reference ends with its arguments unchanged; it has no semaphores. -/
theorem frame_reference : Cert.quiescent_ReferenceIdeal := by
  intro m g _
  exact (θ_run defs _ _).mono (fun r h => ⟨fun c => (h c).2, sem_eq_zero_of_no_sems (by decide) r.2⟩)
    (Cert.ReferenceIdeal.Value.run (F := Ideal) m g)

/-- The kernel over the extended reals ends with its arguments unchanged and every semaphore at zero. -/
theorem frame_ideal : Cert.quiescent_KernelIdeal := fun m g _ =>
  (θ_run Cert.KernelIdeal.defs _ _).mono (fun _ h => ⟨fun c => (h.1 c).2, h.2⟩) (Cert.Chain.run_main (F := Ideal) m g)

end Cert.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Whole

@[expose] public section

set_option maxRecDepth 16384

noncomputable section

namespace Cert.Proof

open Idealize.ShloMosaic Idealize.SL.Sem

attribute [local instance] Cert.Kernel.Gen.facts Cert.KernelIdeal.Gen.facts

/-- The two body tables are the same: each has the one body. -/
theorem defs₀_eq : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  obtain rfl : l = 0 := by change l < 1 at hl; omega
  obtain ⟨t, s⟩ := a
  rfl

theorem defs_eq : Cert.Kernel.defs (F := Bits) = Cert.KernelIdeal.defs (F := Bits) :=
  congrArg (Pipeline.defs Cert.KernelIdeal.pcfgs) defs₀_eq

/-- The kernel at the bits ends with its arguments unchanged and every semaphore at zero. -/
theorem frame_kernel : Cert.quiescent_Kernel := by
  intro m g _
  have h : ∀ d, d = Cert.KernelIdeal.defs (F := Bits) →
      θ_run d (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
    rintro d rfl
    exact (θ_run Cert.KernelIdeal.defs _ _).mono (fun _ h => ⟨fun c => (h.1 c).2, h.2⟩) (Cert.Chain.run_main (F := Bits) m g)
  exact h _ defs_eq

theorem claim : Cert.Claim :=
  ⟨Cert.Kernel.Gen.facts, Cert.KernelIdeal.Gen.facts, Cert.ReferenceIdeal.Gen.facts,
    frame_kernel, Cert.Whole.frame_ideal, Cert.Whole.frame_reference, trivial, Cert.Whole.algebraic⟩

end Cert.Proof

end
